-- ==== Defs.lean ====
def Pre_Experts [hPre_experts_in_range : Cert.Pre_experts_in_range.Facts] (m : (ℓ : Loc Cert.Experts.nD Cert.Experts.τ Cert.Experts.sig) → Buf (Elt Bits) ℓ) : Prop :=
  ∀ c : Dev Cert.Experts.nD,
    (Cert.Pre_experts_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_experts_in_range : Cert.Pre_experts_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_experts_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsRefIdeal [hPre_experts_in_range : Cert.Pre_experts_in_range.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_experts_in_range.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineRefIdeal (m : (ℓ : Loc Cert.CombineRefIdeal.nD Cert.CombineRefIdeal.τ Cert.CombineRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_MemAtt (m : (ℓ : Loc Cert.MemAtt.nD Cert.MemAtt.τ Cert.MemAtt.sig) → Buf (Elt Bits) ℓ) : Prop :=
  True

def Pre_MemAttIdeal (m : (ℓ : Loc Cert.MemAttIdeal.nD Cert.MemAttIdeal.τ Cert.MemAttIdeal.sig) → Buf (Elt Ideal) ℓ) : Prop :=
  True

def Pre_MemAttIdeal_mem_finite [hPre_mem_finite : Cert.Pre_mem_finite.Facts] (m : (ℓ : Loc Cert.MemAttIdeal.nD Cert.MemAttIdeal.τ Cert.MemAttIdeal.sig) → Buf (Elt Ideal) ℓ) : Prop :=
  ∀ c : Dev Cert.MemAttIdeal.nD,
    (Cert.Pre_mem_finite.fn (F := Ideal) (m ((c.tc : Thread Cert.MemAttIdeal.nD Cert.MemAttIdeal.τ).loc Cert.MemAttIdeal.main_arg0)) (m ((c.tc : Thread Cert.MemAttIdeal.nD Cert.MemAttIdeal.τ).loc Cert.MemAttIdeal.main_arg1)) (m ((c.tc : Thread Cert.MemAttIdeal.nD Cert.MemAttIdeal.τ).loc Cert.MemAttIdeal.main_arg2))) = (fun _ => 1#1)

def Pre_MemAttRefIdeal (m : (ℓ : Loc Cert.MemAttRefIdeal.nD Cert.MemAttRefIdeal.τ Cert.MemAttRefIdeal.sig) → Buf (Elt Ideal) ℓ) : Prop :=
  True

def Pre_MemAttRefIdeal_mem_finite [hPre_mem_finite : Cert.Pre_mem_finite.Facts] (m : (ℓ : Loc Cert.MemAttRefIdeal.nD Cert.MemAttRefIdeal.τ Cert.MemAttRefIdeal.sig) → Buf (Elt Ideal) ℓ) : Prop :=
  ∀ c : Dev Cert.MemAttRefIdeal.nD,
    (Cert.Pre_mem_finite.fn (F := Ideal) (m ((c.tc : Thread Cert.MemAttRefIdeal.nD Cert.MemAttRefIdeal.τ).loc Cert.MemAttRefIdeal.main_arg0)) (m ((c.tc : Thread Cert.MemAttRefIdeal.nD Cert.MemAttRefIdeal.τ).loc Cert.MemAttRefIdeal.main_arg1)) (m ((c.tc : Thread Cert.MemAttRefIdeal.nD Cert.MemAttRefIdeal.τ).loc Cert.MemAttRefIdeal.main_arg2))) = (fun _ => 1#1)

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterIdeal_router_in_range [hPre_router_in_range : Cert.Pre_router_in_range.Facts] (m : (ℓ : Loc Cert.RouterIdeal.nD Cert.RouterIdeal.τ Cert.RouterIdeal.sig) → Buf (Elt Ideal) ℓ) : Prop :=
  ∀ c : Dev Cert.RouterIdeal.nD,
    (Cert.Pre_router_in_range.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg3)) (m ((c.tc : Thread Cert.RouterIdeal.nD Cert.RouterIdeal.τ).loc Cert.RouterIdeal.main_arg4)) (m ((c.tc : Thread Cert.RouterIdeal.nD Cert.RouterIdeal.τ).loc Cert.RouterIdeal.main_arg5)) (m ((c.tc : Thread Cert.RouterIdeal.nD Cert.RouterIdeal.τ).loc Cert.RouterIdeal.main_arg6)) (m ((c.tc : Thread Cert.RouterIdeal.nD Cert.RouterIdeal.τ).loc Cert.RouterIdeal.main_arg7)) (m ((c.tc : Thread Cert.RouterIdeal.nD Cert.RouterIdeal.τ).loc Cert.RouterIdeal.main_arg8)) (m ((c.tc : Thread Cert.RouterIdeal.nD Cert.RouterIdeal.τ).loc Cert.RouterIdeal.main_arg9)) (m ((c.tc : Thread Cert.RouterIdeal.nD Cert.RouterIdeal.τ).loc Cert.RouterIdeal.main_arg10))) = (fun _ => 1#1)

def Pre_RouterRefIdeal (m : (ℓ : Loc Cert.RouterRefIdeal.nD Cert.RouterRefIdeal.τ Cert.RouterRefIdeal.sig) → Buf (Elt Ideal) ℓ) : Prop :=
  True

def Pre_RouterRefIdeal_router_in_range [hPre_router_in_range : Cert.Pre_router_in_range.Facts] (m : (ℓ : Loc Cert.RouterRefIdeal.nD Cert.RouterRefIdeal.τ Cert.RouterRefIdeal.sig) → Buf (Elt Ideal) ℓ) : Prop :=
  ∀ c : Dev Cert.RouterRefIdeal.nD,
    (Cert.Pre_router_in_range.fn (F := Ideal) (m ((c.tc : Thread Cert.RouterRefIdeal.nD Cert.RouterRefIdeal.τ).loc Cert.RouterRefIdeal.main_arg0)) (m ((c.tc : Thread Cert.RouterRefIdeal.nD Cert.RouterRefIdeal.τ).loc Cert.RouterRefIdeal.main_arg1)) (m ((c.tc : Thread Cert.RouterRefIdeal.nD Cert.RouterRefIdeal.τ).loc Cert.RouterRefIdeal.main_arg2)) (m ((c.tc : Thread Cert.RouterRefIdeal.nD Cert.RouterRefIdeal.τ).loc Cert.RouterRefIdeal.main_arg3)) (m ((c.tc : Thread Cert.RouterRefIdeal.nD Cert.RouterRefIdeal.τ).loc Cert.RouterRefIdeal.main_arg4)) (m ((c.tc : Thread Cert.RouterRefIdeal.nD Cert.RouterRefIdeal.τ).loc Cert.RouterRefIdeal.main_arg5)) (m ((c.tc : Thread Cert.RouterRefIdeal.nD Cert.RouterRefIdeal.τ).loc Cert.RouterRefIdeal.main_arg6)) (m ((c.tc : Thread Cert.RouterRefIdeal.nD Cert.RouterRefIdeal.τ).loc Cert.RouterRefIdeal.main_arg7)) (m ((c.tc : Thread Cert.RouterRefIdeal.nD Cert.RouterRefIdeal.τ).loc Cert.RouterRefIdeal.main_arg8)) (m ((c.tc : Thread Cert.RouterRefIdeal.nD Cert.RouterRefIdeal.τ).loc Cert.RouterRefIdeal.main_arg9)) (m ((c.tc : Thread Cert.RouterRefIdeal.nD Cert.RouterRefIdeal.τ).loc Cert.RouterRefIdeal.main_arg10))) = (fun _ => 1#1)

def quiescent_Experts [hExperts : Cert.Experts.Facts] [hPre_experts_in_range : Cert.Pre_experts_in_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_experts_in_range : Cert.Pre_experts_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsRefIdeal [hExpertsRefIdeal : Cert.ExpertsRefIdeal.Facts] [hPre_experts_in_range : Cert.Pre_experts_in_range.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4))
      ∧ r.2.sem = fun _ => 0)

def quiescent_CombineRefIdeal [hCombineRefIdeal : Cert.CombineRefIdeal.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3)
      ∧ r.2.mem ((c.tc : Thread Cert.CombineRefIdeal.nD Cert.CombineRefIdeal.τ).loc Cert.CombineRefIdeal.main_arg4) = m ((c.tc : Thread Cert.CombineRefIdeal.nD Cert.CombineRefIdeal.τ).loc Cert.CombineRefIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7)
      ∧ r.2.mem ((c.tc : Thread Cert.OutProj.nD Cert.OutProj.τ).loc Cert.OutProj.main_arg8) = m ((c.tc : Thread Cert.OutProj.nD Cert.OutProj.τ).loc Cert.OutProj.main_arg8)
      ∧ r.2.mem ((c.tc : Thread Cert.OutProj.nD Cert.OutProj.τ).loc Cert.OutProj.main_arg9) = m ((c.tc : Thread Cert.OutProj.nD Cert.OutProj.τ).loc Cert.OutProj.main_arg9)
      ∧ r.2.mem ((c.tc : Thread Cert.OutProj.nD Cert.OutProj.τ).loc Cert.OutProj.main_arg10) = m ((c.tc : Thread Cert.OutProj.nD Cert.OutProj.τ).loc Cert.OutProj.main_arg10))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
      ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8)
      ∧ r.2.mem ((c.tc : Thread Cert.OutProjIdeal.nD Cert.OutProjIdeal.τ).loc Cert.OutProjIdeal.main_arg9) = m ((c.tc : Thread Cert.OutProjIdeal.nD Cert.OutProjIdeal.τ).loc Cert.OutProjIdeal.main_arg9)
      ∧ r.2.mem ((c.tc : Thread Cert.OutProjIdeal.nD Cert.OutProjIdeal.τ).loc Cert.OutProjIdeal.main_arg10) = m ((c.tc : Thread Cert.OutProjIdeal.nD Cert.OutProjIdeal.τ).loc Cert.OutProjIdeal.main_arg10))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6)
      ∧ r.2.mem ((c.tc : Thread Cert.OutProjRefIdeal.nD Cert.OutProjRefIdeal.τ).loc Cert.OutProjRefIdeal.main_arg7) = m ((c.tc : Thread Cert.OutProjRefIdeal.nD Cert.OutProjRefIdeal.τ).loc Cert.OutProjRefIdeal.main_arg7)
      ∧ r.2.mem ((c.tc : Thread Cert.OutProjRefIdeal.nD Cert.OutProjRefIdeal.τ).loc Cert.OutProjRefIdeal.main_arg8) = m ((c.tc : Thread Cert.OutProjRefIdeal.nD Cert.OutProjRefIdeal.τ).loc Cert.OutProjRefIdeal.main_arg8)
      ∧ r.2.mem ((c.tc : Thread Cert.OutProjRefIdeal.nD Cert.OutProjRefIdeal.τ).loc Cert.OutProjRefIdeal.main_arg9) = m ((c.tc : Thread Cert.OutProjRefIdeal.nD Cert.OutProjRefIdeal.τ).loc Cert.OutProjRefIdeal.main_arg9)
      ∧ r.2.mem ((c.tc : Thread Cert.OutProjRefIdeal.nD Cert.OutProjRefIdeal.τ).loc Cert.OutProjRefIdeal.main_arg10) = m ((c.tc : Thread Cert.OutProjRefIdeal.nD Cert.OutProjRefIdeal.τ).loc Cert.OutProjRefIdeal.main_arg10))
      ∧ r.2.sem = fun _ => 0)

def quiescent_MemAtt [hMemAtt : Cert.MemAtt.Facts] : Prop :=
  ∀ (m : (ℓ : Loc Cert.MemAtt.nD Cert.MemAtt.τ Cert.MemAtt.sig) → Buf (Elt Bits) ℓ) (g : Dev Cert.MemAtt.nD → PrngReg), Pre_MemAtt m →
    θ_run (Cert.MemAtt.defs (F := Bits)) (onTc (τ := Cert.MemAtt.τ) (Cert.MemAtt.main (F := Bits))) ⟨m, fun _ => 0, g⟩ (fun r => (∀ c : Dev Cert.MemAtt.nD,
      r.2.mem ((c.tc : Thread Cert.MemAtt.nD Cert.MemAtt.τ).loc Cert.MemAtt.main_arg0) = m ((c.tc : Thread Cert.MemAtt.nD Cert.MemAtt.τ).loc Cert.MemAtt.main_arg0)
      ∧ r.2.mem ((c.tc : Thread Cert.MemAtt.nD Cert.MemAtt.τ).loc Cert.MemAtt.main_arg1) = m ((c.tc : Thread Cert.MemAtt.nD Cert.MemAtt.τ).loc Cert.MemAtt.main_arg1)
      ∧ r.2.mem ((c.tc : Thread Cert.MemAtt.nD Cert.MemAtt.τ).loc Cert.MemAtt.main_arg2) = m ((c.tc : Thread Cert.MemAtt.nD Cert.MemAtt.τ).loc Cert.MemAtt.main_arg2))
      ∧ r.2.sem = fun _ => 0)

def quiescent_MemAttIdeal [hMemAttIdeal : Cert.MemAttIdeal.Facts] : Prop :=
  ∀ (m : (ℓ : Loc Cert.MemAttIdeal.nD Cert.MemAttIdeal.τ Cert.MemAttIdeal.sig) → Buf (Elt Ideal) ℓ) (g : Dev Cert.MemAttIdeal.nD → PrngReg), Pre_MemAttIdeal m →
    θ_run (Cert.MemAttIdeal.defs (F := Ideal)) (onTc (τ := Cert.MemAttIdeal.τ) (Cert.MemAttIdeal.main (F := Ideal))) ⟨m, fun _ => 0, g⟩ (fun r => (∀ c : Dev Cert.MemAttIdeal.nD,
      r.2.mem ((c.tc : Thread Cert.MemAttIdeal.nD Cert.MemAttIdeal.τ).loc Cert.MemAttIdeal.main_arg0) = m ((c.tc : Thread Cert.MemAttIdeal.nD Cert.MemAttIdeal.τ).loc Cert.MemAttIdeal.main_arg0)
      ∧ r.2.mem ((c.tc : Thread Cert.MemAttIdeal.nD Cert.MemAttIdeal.τ).loc Cert.MemAttIdeal.main_arg1) = m ((c.tc : Thread Cert.MemAttIdeal.nD Cert.MemAttIdeal.τ).loc Cert.MemAttIdeal.main_arg1)
      ∧ r.2.mem ((c.tc : Thread Cert.MemAttIdeal.nD Cert.MemAttIdeal.τ).loc Cert.MemAttIdeal.main_arg2) = m ((c.tc : Thread Cert.MemAttIdeal.nD Cert.MemAttIdeal.τ).loc Cert.MemAttIdeal.main_arg2))
      ∧ r.2.sem = fun _ => 0)

def quiescent_MemAttIdeal_pre_mem_finite [hMemAttIdeal : Cert.MemAttIdeal.Facts] [hPre_mem_finite : Cert.Pre_mem_finite.Facts] : Prop :=
  ∀ (m : (ℓ : Loc Cert.MemAttIdeal.nD Cert.MemAttIdeal.τ Cert.MemAttIdeal.sig) → Buf (Elt Ideal) ℓ) (g : Dev Cert.MemAttIdeal.nD → PrngReg), Pre_MemAttIdeal_mem_finite m →
    θ_run (Cert.MemAttIdeal.defs (F := Ideal)) (onTc (τ := Cert.MemAttIdeal.τ) (Cert.MemAttIdeal.main (F := Ideal))) ⟨m, fun _ => 0, g⟩ (fun r => (∀ c : Dev Cert.MemAttIdeal.nD,
      r.2.mem ((c.tc : Thread Cert.MemAttIdeal.nD Cert.MemAttIdeal.τ).loc Cert.MemAttIdeal.main_arg0) = m ((c.tc : Thread Cert.MemAttIdeal.nD Cert.MemAttIdeal.τ).loc Cert.MemAttIdeal.main_arg0)
      ∧ r.2.mem ((c.tc : Thread Cert.MemAttIdeal.nD Cert.MemAttIdeal.τ).loc Cert.MemAttIdeal.main_arg1) = m ((c.tc : Thread Cert.MemAttIdeal.nD Cert.MemAttIdeal.τ).loc Cert.MemAttIdeal.main_arg1)
      ∧ r.2.mem ((c.tc : Thread Cert.MemAttIdeal.nD Cert.MemAttIdeal.τ).loc Cert.MemAttIdeal.main_arg2) = m ((c.tc : Thread Cert.MemAttIdeal.nD Cert.MemAttIdeal.τ).loc Cert.MemAttIdeal.main_arg2))
      ∧ r.2.sem = fun _ => 0)

def quiescent_MemAttRefIdeal [hMemAttRefIdeal : Cert.MemAttRefIdeal.Facts] : Prop :=
  ∀ (m : (ℓ : Loc Cert.MemAttRefIdeal.nD Cert.MemAttRefIdeal.τ Cert.MemAttRefIdeal.sig) → Buf (Elt Ideal) ℓ) (g : Dev Cert.MemAttRefIdeal.nD → PrngReg), Pre_MemAttRefIdeal m →
    θ_run (Cert.MemAttRefIdeal.defs (F := Ideal)) (onTc (τ := Cert.MemAttRefIdeal.τ) (Cert.MemAttRefIdeal.main (F := Ideal))) ⟨m, fun _ => 0, g⟩ (fun r => (∀ c : Dev Cert.MemAttRefIdeal.nD,
      r.2.mem ((c.tc : Thread Cert.MemAttRefIdeal.nD Cert.MemAttRefIdeal.τ).loc Cert.MemAttRefIdeal.main_arg0) = m ((c.tc : Thread Cert.MemAttRefIdeal.nD Cert.MemAttRefIdeal.τ).loc Cert.MemAttRefIdeal.main_arg0)
      ∧ r.2.mem ((c.tc : Thread Cert.MemAttRefIdeal.nD Cert.MemAttRefIdeal.τ).loc Cert.MemAttRefIdeal.main_arg1) = m ((c.tc : Thread Cert.MemAttRefIdeal.nD Cert.MemAttRefIdeal.τ).loc Cert.MemAttRefIdeal.main_arg1)
      ∧ r.2.mem ((c.tc : Thread Cert.MemAttRefIdeal.nD Cert.MemAttRefIdeal.τ).loc Cert.MemAttRefIdeal.main_arg2) = m ((c.tc : Thread Cert.MemAttRefIdeal.nD Cert.MemAttRefIdeal.τ).loc Cert.MemAttRefIdeal.main_arg2))
      ∧ r.2.sem = fun _ => 0)

def quiescent_MemAttRefIdeal_pre_mem_finite [hMemAttRefIdeal : Cert.MemAttRefIdeal.Facts] [hPre_mem_finite : Cert.Pre_mem_finite.Facts] : Prop :=
  ∀ (m : (ℓ : Loc Cert.MemAttRefIdeal.nD Cert.MemAttRefIdeal.τ Cert.MemAttRefIdeal.sig) → Buf (Elt Ideal) ℓ) (g : Dev Cert.MemAttRefIdeal.nD → PrngReg), Pre_MemAttRefIdeal_mem_finite m →
    θ_run (Cert.MemAttRefIdeal.defs (F := Ideal)) (onTc (τ := Cert.MemAttRefIdeal.τ) (Cert.MemAttRefIdeal.main (F := Ideal))) ⟨m, fun _ => 0, g⟩ (fun r => (∀ c : Dev Cert.MemAttRefIdeal.nD,
      r.2.mem ((c.tc : Thread Cert.MemAttRefIdeal.nD Cert.MemAttRefIdeal.τ).loc Cert.MemAttRefIdeal.main_arg0) = m ((c.tc : Thread Cert.MemAttRefIdeal.nD Cert.MemAttRefIdeal.τ).loc Cert.MemAttRefIdeal.main_arg0)
      ∧ r.2.mem ((c.tc : Thread Cert.MemAttRefIdeal.nD Cert.MemAttRefIdeal.τ).loc Cert.MemAttRefIdeal.main_arg1) = m ((c.tc : Thread Cert.MemAttRefIdeal.nD Cert.MemAttRefIdeal.τ).loc Cert.MemAttRefIdeal.main_arg1)
      ∧ r.2.mem ((c.tc : Thread Cert.MemAttRefIdeal.nD Cert.MemAttRefIdeal.τ).loc Cert.MemAttRefIdeal.main_arg2) = m ((c.tc : Thread Cert.MemAttRefIdeal.nD Cert.MemAttRefIdeal.τ).loc Cert.MemAttRefIdeal.main_arg2))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2)
      ∧ r.2.mem ((c.tc : Thread Cert.Router.nD Cert.Router.τ).loc Cert.Router.main_arg3) = m ((c.tc : Thread Cert.Router.nD Cert.Router.τ).loc Cert.Router.main_arg3)
      ∧ r.2.mem ((c.tc : Thread Cert.Router.nD Cert.Router.τ).loc Cert.Router.main_arg4) = m ((c.tc : Thread Cert.Router.nD Cert.Router.τ).loc Cert.Router.main_arg4)
      ∧ r.2.mem ((c.tc : Thread Cert.Router.nD Cert.Router.τ).loc Cert.Router.main_arg5) = m ((c.tc : Thread Cert.Router.nD Cert.Router.τ).loc Cert.Router.main_arg5)
      ∧ r.2.mem ((c.tc : Thread Cert.Router.nD Cert.Router.τ).loc Cert.Router.main_arg6) = m ((c.tc : Thread Cert.Router.nD Cert.Router.τ).loc Cert.Router.main_arg6)
      ∧ r.2.mem ((c.tc : Thread Cert.Router.nD Cert.Router.τ).loc Cert.Router.main_arg7) = m ((c.tc : Thread Cert.Router.nD Cert.Router.τ).loc Cert.Router.main_arg7)
      ∧ r.2.mem ((c.tc : Thread Cert.Router.nD Cert.Router.τ).loc Cert.Router.main_arg8) = m ((c.tc : Thread Cert.Router.nD Cert.Router.τ).loc Cert.Router.main_arg8)
      ∧ r.2.mem ((c.tc : Thread Cert.Router.nD Cert.Router.τ).loc Cert.Router.main_arg9) = m ((c.tc : Thread Cert.Router.nD Cert.Router.τ).loc Cert.Router.main_arg9)
      ∧ r.2.mem ((c.tc : Thread Cert.Router.nD Cert.Router.τ).loc Cert.Router.main_arg10) = m ((c.tc : Thread Cert.Router.nD Cert.Router.τ).loc Cert.Router.main_arg10))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
      ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
      ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5)
      ∧ r.2.mem ((c.tc : Thread Cert.RouterIdeal.nD Cert.RouterIdeal.τ).loc Cert.RouterIdeal.main_arg6) = m ((c.tc : Thread Cert.RouterIdeal.nD Cert.RouterIdeal.τ).loc Cert.RouterIdeal.main_arg6)
      ∧ r.2.mem ((c.tc : Thread Cert.RouterIdeal.nD Cert.RouterIdeal.τ).loc Cert.RouterIdeal.main_arg7) = m ((c.tc : Thread Cert.RouterIdeal.nD Cert.RouterIdeal.τ).loc Cert.RouterIdeal.main_arg7)
      ∧ r.2.mem ((c.tc : Thread Cert.RouterIdeal.nD Cert.RouterIdeal.τ).loc Cert.RouterIdeal.main_arg8) = m ((c.tc : Thread Cert.RouterIdeal.nD Cert.RouterIdeal.τ).loc Cert.RouterIdeal.main_arg8)
      ∧ r.2.mem ((c.tc : Thread Cert.RouterIdeal.nD Cert.RouterIdeal.τ).loc Cert.RouterIdeal.main_arg9) = m ((c.tc : Thread Cert.RouterIdeal.nD Cert.RouterIdeal.τ).loc Cert.RouterIdeal.main_arg9)
      ∧ r.2.mem ((c.tc : Thread Cert.RouterIdeal.nD Cert.RouterIdeal.τ).loc Cert.RouterIdeal.main_arg10) = m ((c.tc : Thread Cert.RouterIdeal.nD Cert.RouterIdeal.τ).loc Cert.RouterIdeal.main_arg10))
      ∧ r.2.sem = fun _ => 0)

def quiescent_RouterIdeal_pre_router_in_range [hRouterIdeal : Cert.RouterIdeal.Facts] [hPre_router_in_range : Cert.Pre_router_in_range.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal_router_in_range m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
      ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
      ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5)
      ∧ r.2.mem ((c.tc : Thread Cert.RouterIdeal.nD Cert.RouterIdeal.τ).loc Cert.RouterIdeal.main_arg6) = m ((c.tc : Thread Cert.RouterIdeal.nD Cert.RouterIdeal.τ).loc Cert.RouterIdeal.main_arg6)
      ∧ r.2.mem ((c.tc : Thread Cert.RouterIdeal.nD Cert.RouterIdeal.τ).loc Cert.RouterIdeal.main_arg7) = m ((c.tc : Thread Cert.RouterIdeal.nD Cert.RouterIdeal.τ).loc Cert.RouterIdeal.main_arg7)
      ∧ r.2.mem ((c.tc : Thread Cert.RouterIdeal.nD Cert.RouterIdeal.τ).loc Cert.RouterIdeal.main_arg8) = m ((c.tc : Thread Cert.RouterIdeal.nD Cert.RouterIdeal.τ).loc Cert.RouterIdeal.main_arg8)
      ∧ r.2.mem ((c.tc : Thread Cert.RouterIdeal.nD Cert.RouterIdeal.τ).loc Cert.RouterIdeal.main_arg9) = m ((c.tc : Thread Cert.RouterIdeal.nD Cert.RouterIdeal.τ).loc Cert.RouterIdeal.main_arg9)
      ∧ r.2.mem ((c.tc : Thread Cert.RouterIdeal.nD Cert.RouterIdeal.τ).loc Cert.RouterIdeal.main_arg10) = m ((c.tc : Thread Cert.RouterIdeal.nD Cert.RouterIdeal.τ).loc Cert.RouterIdeal.main_arg10))
      ∧ r.2.sem = fun _ => 0)

def quiescent_RouterRefIdeal [hRouterRefIdeal : Cert.RouterRefIdeal.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1)
      ∧ r.2.mem ((c.tc : Thread Cert.RouterRefIdeal.nD Cert.RouterRefIdeal.τ).loc Cert.RouterRefIdeal.main_arg2) = m ((c.tc : Thread Cert.RouterRefIdeal.nD Cert.RouterRefIdeal.τ).loc Cert.RouterRefIdeal.main_arg2)
      ∧ r.2.mem ((c.tc : Thread Cert.RouterRefIdeal.nD Cert.RouterRefIdeal.τ).loc Cert.RouterRefIdeal.main_arg3) = m ((c.tc : Thread Cert.RouterRefIdeal.nD Cert.RouterRefIdeal.τ).loc Cert.RouterRefIdeal.main_arg3)
      ∧ r.2.mem ((c.tc : Thread Cert.RouterRefIdeal.nD Cert.RouterRefIdeal.τ).loc Cert.RouterRefIdeal.main_arg4) = m ((c.tc : Thread Cert.RouterRefIdeal.nD Cert.RouterRefIdeal.τ).loc Cert.RouterRefIdeal.main_arg4)
      ∧ r.2.mem ((c.tc : Thread Cert.RouterRefIdeal.nD Cert.RouterRefIdeal.τ).loc Cert.RouterRefIdeal.main_arg5) = m ((c.tc : Thread Cert.RouterRefIdeal.nD Cert.RouterRefIdeal.τ).loc Cert.RouterRefIdeal.main_arg5)
      ∧ r.2.mem ((c.tc : Thread Cert.RouterRefIdeal.nD Cert.RouterRefIdeal.τ).loc Cert.RouterRefIdeal.main_arg6) = m ((c.tc : Thread Cert.RouterRefIdeal.nD Cert.RouterRefIdeal.τ).loc Cert.RouterRefIdeal.main_arg6)
      ∧ r.2.mem ((c.tc : Thread Cert.RouterRefIdeal.nD Cert.RouterRefIdeal.τ).loc Cert.RouterRefIdeal.main_arg7) = m ((c.tc : Thread Cert.RouterRefIdeal.nD Cert.RouterRefIdeal.τ).loc Cert.RouterRefIdeal.main_arg7)
      ∧ r.2.mem ((c.tc : Thread Cert.RouterRefIdeal.nD Cert.RouterRefIdeal.τ).loc Cert.RouterRefIdeal.main_arg8) = m ((c.tc : Thread Cert.RouterRefIdeal.nD Cert.RouterRefIdeal.τ).loc Cert.RouterRefIdeal.main_arg8)
      ∧ r.2.mem ((c.tc : Thread Cert.RouterRefIdeal.nD Cert.RouterRefIdeal.τ).loc Cert.RouterRefIdeal.main_arg9) = m ((c.tc : Thread Cert.RouterRefIdeal.nD Cert.RouterRefIdeal.τ).loc Cert.RouterRefIdeal.main_arg9)
      ∧ r.2.mem ((c.tc : Thread Cert.RouterRefIdeal.nD Cert.RouterRefIdeal.τ).loc Cert.RouterRefIdeal.main_arg10) = m ((c.tc : Thread Cert.RouterRefIdeal.nD Cert.RouterRefIdeal.τ).loc Cert.RouterRefIdeal.main_arg10))
      ∧ r.2.sem = fun _ => 0)

def quiescent_RouterRefIdeal_pre_router_in_range [hRouterRefIdeal : Cert.RouterRefIdeal.Facts] [hPre_router_in_range : Cert.Pre_router_in_range.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal_router_in_range m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1)
      ∧ r.2.mem ((c.tc : Thread Cert.RouterRefIdeal.nD Cert.RouterRefIdeal.τ).loc Cert.RouterRefIdeal.main_arg2) = m ((c.tc : Thread Cert.RouterRefIdeal.nD Cert.RouterRefIdeal.τ).loc Cert.RouterRefIdeal.main_arg2)
      ∧ r.2.mem ((c.tc : Thread Cert.RouterRefIdeal.nD Cert.RouterRefIdeal.τ).loc Cert.RouterRefIdeal.main_arg3) = m ((c.tc : Thread Cert.RouterRefIdeal.nD Cert.RouterRefIdeal.τ).loc Cert.RouterRefIdeal.main_arg3)
      ∧ r.2.mem ((c.tc : Thread Cert.RouterRefIdeal.nD Cert.RouterRefIdeal.τ).loc Cert.RouterRefIdeal.main_arg4) = m ((c.tc : Thread Cert.RouterRefIdeal.nD Cert.RouterRefIdeal.τ).loc Cert.RouterRefIdeal.main_arg4)
      ∧ r.2.mem ((c.tc : Thread Cert.RouterRefIdeal.nD Cert.RouterRefIdeal.τ).loc Cert.RouterRefIdeal.main_arg5) = m ((c.tc : Thread Cert.RouterRefIdeal.nD Cert.RouterRefIdeal.τ).loc Cert.RouterRefIdeal.main_arg5)
      ∧ r.2.mem ((c.tc : Thread Cert.RouterRefIdeal.nD Cert.RouterRefIdeal.τ).loc Cert.RouterRefIdeal.main_arg6) = m ((c.tc : Thread Cert.RouterRefIdeal.nD Cert.RouterRefIdeal.τ).loc Cert.RouterRefIdeal.main_arg6)
      ∧ r.2.mem ((c.tc : Thread Cert.RouterRefIdeal.nD Cert.RouterRefIdeal.τ).loc Cert.RouterRefIdeal.main_arg7) = m ((c.tc : Thread Cert.RouterRefIdeal.nD Cert.RouterRefIdeal.τ).loc Cert.RouterRefIdeal.main_arg7)
      ∧ r.2.mem ((c.tc : Thread Cert.RouterRefIdeal.nD Cert.RouterRefIdeal.τ).loc Cert.RouterRefIdeal.main_arg8) = m ((c.tc : Thread Cert.RouterRefIdeal.nD Cert.RouterRefIdeal.τ).loc Cert.RouterRefIdeal.main_arg8)
      ∧ r.2.mem ((c.tc : Thread Cert.RouterRefIdeal.nD Cert.RouterRefIdeal.τ).loc Cert.RouterRefIdeal.main_arg9) = m ((c.tc : Thread Cert.RouterRefIdeal.nD Cert.RouterRefIdeal.τ).loc Cert.RouterRefIdeal.main_arg9)
      ∧ r.2.mem ((c.tc : Thread Cert.RouterRefIdeal.nD Cert.RouterRefIdeal.τ).loc Cert.RouterRefIdeal.main_arg10) = m ((c.tc : Thread Cert.RouterRefIdeal.nD Cert.RouterRefIdeal.τ).loc Cert.RouterRefIdeal.main_arg10))
      ∧ r.2.sem = fun _ => 0)

def preserves_Experts_ExpertsIdeal : Prop :=
  True

def algebraic_ExpertsIdeal_ExpertsRefIdeal [hExpertsIdeal : Cert.ExpertsIdeal.Facts] [hExpertsRefIdeal : Cert.ExpertsRefIdeal.Facts] [hPre_experts_in_range : Cert.Pre_experts_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v4)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v4) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v55) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v7_0)) (v1 : (c : Dev Cert.InProjIdeal.nD) → Buf (Elt Ideal) ((c.tc : Thread Cert.InProjIdeal.nD Cert.InProjIdeal.τ).loc Cert.InProjIdeal.main_v7_1)) (v2 : (c : Dev Cert.InProjIdeal.nD) → Buf (Elt Ideal) ((c.tc : Thread Cert.InProjIdeal.nD Cert.InProjIdeal.τ).loc Cert.InProjIdeal.main_v7_2)) (v3 : (c : Dev Cert.InProjIdeal.nD) → Buf (Elt Ideal) ((c.tc : Thread Cert.InProjIdeal.nD Cert.InProjIdeal.τ).loc Cert.InProjIdeal.main_v7_3)) (v4 : (c : Dev Cert.InProjIdeal.nD) → Buf (Elt Ideal) ((c.tc : Thread Cert.InProjIdeal.nD Cert.InProjIdeal.τ).loc Cert.InProjIdeal.main_v7_4)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v7_0) = v0 c
          ∧ r.2.mem ((c.tc : Thread Cert.InProjIdeal.nD Cert.InProjIdeal.τ).loc Cert.InProjIdeal.main_v7_1) = v1 c
          ∧ r.2.mem ((c.tc : Thread Cert.InProjIdeal.nD Cert.InProjIdeal.τ).loc Cert.InProjIdeal.main_v7_2) = v2 c
          ∧ r.2.mem ((c.tc : Thread Cert.InProjIdeal.nD Cert.InProjIdeal.τ).loc Cert.InProjIdeal.main_v7_3) = v3 c
          ∧ r.2.mem ((c.tc : Thread Cert.InProjIdeal.nD Cert.InProjIdeal.τ).loc Cert.InProjIdeal.main_v7_4) = v4 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v26) = v0 c
          ∧ r.2.mem ((c.tc : Thread Cert.InProjRefIdeal.nD Cert.InProjRefIdeal.τ).loc Cert.InProjRefIdeal.main_v27) = v1 c
          ∧ r.2.mem ((c.tc : Thread Cert.InProjRefIdeal.nD Cert.InProjRefIdeal.τ).loc Cert.InProjRefIdeal.main_v28) = v2 c
          ∧ r.2.mem ((c.tc : Thread Cert.InProjRefIdeal.nD Cert.InProjRefIdeal.τ).loc Cert.InProjRefIdeal.main_v29) = v3 c
          ∧ r.2.mem ((c.tc : Thread Cert.InProjRefIdeal.nD Cert.InProjRefIdeal.τ).loc Cert.InProjRefIdeal.main_v30) = v4 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def preserves_Combine_CombineIdeal : Prop :=
  True

def algebraic_CombineIdeal_CombineRefIdeal [hCombineIdeal : Cert.CombineIdeal.Facts] [hCombineRefIdeal : Cert.CombineRefIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)
      ∧ m' ((c.tc : Thread Cert.CombineRefIdeal.nD Cert.CombineRefIdeal.τ).loc Cert.CombineRefIdeal.main_arg2) = m ((c.tc : Thread Cert.CombineIdeal.nD Cert.CombineIdeal.τ).loc Cert.CombineIdeal.main_arg2)
      ∧ m' ((c.tc : Thread Cert.CombineRefIdeal.nD Cert.CombineRefIdeal.τ).loc Cert.CombineRefIdeal.main_arg3) = m ((c.tc : Thread Cert.CombineIdeal.nD Cert.CombineIdeal.τ).loc Cert.CombineIdeal.main_arg3)
      ∧ m' ((c.tc : Thread Cert.CombineRefIdeal.nD Cert.CombineRefIdeal.τ).loc Cert.CombineRefIdeal.main_arg4) = m ((c.tc : Thread Cert.CombineIdeal.nD Cert.CombineIdeal.τ).loc Cert.CombineIdeal.main_arg4)) →
    ∃ (v0 : (c : Dev Cert.CombineIdeal.nD) → Buf (Elt Ideal) ((c.tc : Thread Cert.CombineIdeal.nD Cert.CombineIdeal.τ).loc Cert.CombineIdeal.main_v2)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v2) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v28) = v0 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1)
          ∧ r.2.mem ((c.tc : Thread Cert.CombineRefIdeal.nD Cert.CombineRefIdeal.τ).loc Cert.CombineRefIdeal.main_arg2) = m' ((c.tc : Thread Cert.CombineRefIdeal.nD Cert.CombineRefIdeal.τ).loc Cert.CombineRefIdeal.main_arg2)
          ∧ r.2.mem ((c.tc : Thread Cert.CombineRefIdeal.nD Cert.CombineRefIdeal.τ).loc Cert.CombineRefIdeal.main_arg3) = m' ((c.tc : Thread Cert.CombineRefIdeal.nD Cert.CombineRefIdeal.τ).loc Cert.CombineRefIdeal.main_arg3)
          ∧ r.2.mem ((c.tc : Thread Cert.CombineRefIdeal.nD Cert.CombineRefIdeal.τ).loc Cert.CombineRefIdeal.main_arg4) = m' ((c.tc : Thread Cert.CombineRefIdeal.nD Cert.CombineRefIdeal.τ).loc Cert.CombineRefIdeal.main_arg4))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)
      ∧ m' ((c.tc : Thread Cert.OutProjRefIdeal.nD Cert.OutProjRefIdeal.τ).loc Cert.OutProjRefIdeal.main_arg7) = m ((c.tc : Thread Cert.OutProjIdeal.nD Cert.OutProjIdeal.τ).loc Cert.OutProjIdeal.main_arg7)
      ∧ m' ((c.tc : Thread Cert.OutProjRefIdeal.nD Cert.OutProjRefIdeal.τ).loc Cert.OutProjRefIdeal.main_arg8) = m ((c.tc : Thread Cert.OutProjIdeal.nD Cert.OutProjIdeal.τ).loc Cert.OutProjIdeal.main_arg8)
      ∧ m' ((c.tc : Thread Cert.OutProjRefIdeal.nD Cert.OutProjRefIdeal.τ).loc Cert.OutProjRefIdeal.main_arg9) = m ((c.tc : Thread Cert.OutProjIdeal.nD Cert.OutProjIdeal.τ).loc Cert.OutProjIdeal.main_arg9)
      ∧ m' ((c.tc : Thread Cert.OutProjRefIdeal.nD Cert.OutProjRefIdeal.τ).loc Cert.OutProjRefIdeal.main_arg10) = m ((c.tc : Thread Cert.OutProjIdeal.nD Cert.OutProjIdeal.τ).loc Cert.OutProjIdeal.main_arg10)) →
    ∃ (v0 : (c : Dev Cert.OutProjIdeal.nD) → Buf (Elt Ideal) ((c.tc : Thread Cert.OutProjIdeal.nD Cert.OutProjIdeal.τ).loc Cert.OutProjIdeal.main_v12_0)) (v1 : (c : Dev Cert.OutProjIdeal.nD) → Buf (Elt Ideal) ((c.tc : Thread Cert.OutProjIdeal.nD Cert.OutProjIdeal.τ).loc Cert.OutProjIdeal.main_v12_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v12_0) = v0 c
          ∧ r.2.mem ((c.tc : Thread Cert.OutProjIdeal.nD Cert.OutProjIdeal.τ).loc Cert.OutProjIdeal.main_v12_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
          ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8)
          ∧ r.2.mem ((c.tc : Thread Cert.OutProjIdeal.nD Cert.OutProjIdeal.τ).loc Cert.OutProjIdeal.main_arg9) = m ((c.tc : Thread Cert.OutProjIdeal.nD Cert.OutProjIdeal.τ).loc Cert.OutProjIdeal.main_arg9)
          ∧ r.2.mem ((c.tc : Thread Cert.OutProjIdeal.nD Cert.OutProjIdeal.τ).loc Cert.OutProjIdeal.main_arg10) = m ((c.tc : Thread Cert.OutProjIdeal.nD Cert.OutProjIdeal.τ).loc Cert.OutProjIdeal.main_arg10))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v52) = v0 c
          ∧ r.2.mem ((c.tc : Thread Cert.OutProjRefIdeal.nD Cert.OutProjRefIdeal.τ).loc Cert.OutProjRefIdeal.main_v53) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6)
          ∧ r.2.mem ((c.tc : Thread Cert.OutProjRefIdeal.nD Cert.OutProjRefIdeal.τ).loc Cert.OutProjRefIdeal.main_arg7) = m' ((c.tc : Thread Cert.OutProjRefIdeal.nD Cert.OutProjRefIdeal.τ).loc Cert.OutProjRefIdeal.main_arg7)
          ∧ r.2.mem ((c.tc : Thread Cert.OutProjRefIdeal.nD Cert.OutProjRefIdeal.τ).loc Cert.OutProjRefIdeal.main_arg8) = m' ((c.tc : Thread Cert.OutProjRefIdeal.nD Cert.OutProjRefIdeal.τ).loc Cert.OutProjRefIdeal.main_arg8)
          ∧ r.2.mem ((c.tc : Thread Cert.OutProjRefIdeal.nD Cert.OutProjRefIdeal.τ).loc Cert.OutProjRefIdeal.main_arg9) = m' ((c.tc : Thread Cert.OutProjRefIdeal.nD Cert.OutProjRefIdeal.τ).loc Cert.OutProjRefIdeal.main_arg9)
          ∧ r.2.mem ((c.tc : Thread Cert.OutProjRefIdeal.nD Cert.OutProjRefIdeal.τ).loc Cert.OutProjRefIdeal.main_arg10) = m' ((c.tc : Thread Cert.OutProjRefIdeal.nD Cert.OutProjRefIdeal.τ).loc Cert.OutProjRefIdeal.main_arg10))

def preserves_MemAtt_MemAttIdeal : Prop :=
  True

def algebraic_MemAttIdeal_MemAttRefIdeal_pre_mem_finite [hMemAttIdeal : Cert.MemAttIdeal.Facts] [hMemAttRefIdeal : Cert.MemAttRefIdeal.Facts] [hPre_mem_finite : Cert.Pre_mem_finite.Facts] : Prop :=
  ∀ (m : (ℓ : Loc Cert.MemAttIdeal.nD Cert.MemAttIdeal.τ Cert.MemAttIdeal.sig) → Buf (Elt Ideal) ℓ) (g : Dev Cert.MemAttIdeal.nD → PrngReg)
    (m' : (ℓ : Loc Cert.MemAttRefIdeal.nD Cert.MemAttRefIdeal.τ Cert.MemAttRefIdeal.sig) → Buf (Elt Ideal) ℓ) (g' : Dev Cert.MemAttRefIdeal.nD → PrngReg), Pre_MemAttIdeal_mem_finite m →
    (∀ c : Dev Cert.MemAttIdeal.nD,
      m' ((c.tc : Thread Cert.MemAttRefIdeal.nD Cert.MemAttRefIdeal.τ).loc Cert.MemAttRefIdeal.main_arg0) = m ((c.tc : Thread Cert.MemAttIdeal.nD Cert.MemAttIdeal.τ).loc Cert.MemAttIdeal.main_arg0)
      ∧ m' ((c.tc : Thread Cert.MemAttRefIdeal.nD Cert.MemAttRefIdeal.τ).loc Cert.MemAttRefIdeal.main_arg1) = m ((c.tc : Thread Cert.MemAttIdeal.nD Cert.MemAttIdeal.τ).loc Cert.MemAttIdeal.main_arg1)
      ∧ m' ((c.tc : Thread Cert.MemAttRefIdeal.nD Cert.MemAttRefIdeal.τ).loc Cert.MemAttRefIdeal.main_arg2) = m ((c.tc : Thread Cert.MemAttIdeal.nD Cert.MemAttIdeal.τ).loc Cert.MemAttIdeal.main_arg2)) →
    ∃ (v0 : (c : Dev Cert.MemAttIdeal.nD) → Buf (Elt Ideal) ((c.tc : Thread Cert.MemAttIdeal.nD Cert.MemAttIdeal.τ).loc Cert.MemAttIdeal.main_v1)),
      θ_run (Cert.MemAttIdeal.defs (F := Ideal)) (onTc (τ := Cert.MemAttIdeal.τ) (Cert.MemAttIdeal.main (F := Ideal))) ⟨m, fun _ => 0, g⟩ (fun r => ∀ c : Dev Cert.MemAttIdeal.nD,
          r.2.mem ((c.tc : Thread Cert.MemAttIdeal.nD Cert.MemAttIdeal.τ).loc Cert.MemAttIdeal.main_v1) = v0 c
          ∧ r.2.mem ((c.tc : Thread Cert.MemAttIdeal.nD Cert.MemAttIdeal.τ).loc Cert.MemAttIdeal.main_arg0) = m ((c.tc : Thread Cert.MemAttIdeal.nD Cert.MemAttIdeal.τ).loc Cert.MemAttIdeal.main_arg0)
          ∧ r.2.mem ((c.tc : Thread Cert.MemAttIdeal.nD Cert.MemAttIdeal.τ).loc Cert.MemAttIdeal.main_arg1) = m ((c.tc : Thread Cert.MemAttIdeal.nD Cert.MemAttIdeal.τ).loc Cert.MemAttIdeal.main_arg1)
          ∧ r.2.mem ((c.tc : Thread Cert.MemAttIdeal.nD Cert.MemAttIdeal.τ).loc Cert.MemAttIdeal.main_arg2) = m ((c.tc : Thread Cert.MemAttIdeal.nD Cert.MemAttIdeal.τ).loc Cert.MemAttIdeal.main_arg2))
      ∧ θ_run (Cert.MemAttRefIdeal.defs (F := Ideal)) (onTc (τ := Cert.MemAttRefIdeal.τ) (Cert.MemAttRefIdeal.main (F := Ideal))) ⟨m', fun _ => 0, g'⟩ (fun r => ∀ c : Dev Cert.MemAttRefIdeal.nD,
          r.2.mem ((c.tc : Thread Cert.MemAttRefIdeal.nD Cert.MemAttRefIdeal.τ).loc Cert.MemAttRefIdeal.main_v23) = v0 c
          ∧ r.2.mem ((c.tc : Thread Cert.MemAttRefIdeal.nD Cert.MemAttRefIdeal.τ).loc Cert.MemAttRefIdeal.main_arg0) = m' ((c.tc : Thread Cert.MemAttRefIdeal.nD Cert.MemAttRefIdeal.τ).loc Cert.MemAttRefIdeal.main_arg0)
          ∧ r.2.mem ((c.tc : Thread Cert.MemAttRefIdeal.nD Cert.MemAttRefIdeal.τ).loc Cert.MemAttRefIdeal.main_arg1) = m' ((c.tc : Thread Cert.MemAttRefIdeal.nD Cert.MemAttRefIdeal.τ).loc Cert.MemAttRefIdeal.main_arg1)
          ∧ r.2.mem ((c.tc : Thread Cert.MemAttRefIdeal.nD Cert.MemAttRefIdeal.τ).loc Cert.MemAttRefIdeal.main_arg2) = m' ((c.tc : Thread Cert.MemAttRefIdeal.nD Cert.MemAttRefIdeal.τ).loc Cert.MemAttRefIdeal.main_arg2))

def preserves_Router_RouterIdeal : Prop :=
  True

def algebraic_RouterIdeal_RouterRefIdeal_pre_router_in_range [hRouterIdeal : Cert.RouterIdeal.Facts] [hRouterRefIdeal : Cert.RouterRefIdeal.Facts] [hPre_router_in_range : Cert.Pre_router_in_range.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterRefIdeal.nD Cert.RouterRefIdeal.τ Cert.RouterRefIdeal.sig) → Buf (Elt Ideal) ℓ) (g' : Dev Cert.RouterRefIdeal.nD → PrngReg), Pre_RouterIdeal_router_in_range m →
    (∀ c : Dev Cert.RouterIdeal.nD,
      m' ((c.tc : Thread Cert.RouterRefIdeal.nD Cert.RouterRefIdeal.τ).loc Cert.RouterRefIdeal.main_arg0) = m ((c.tc : Thread Cert.RouterIdeal.nD Cert.RouterIdeal.τ).loc Cert.RouterIdeal.main_arg0)
      ∧ m' ((c.tc : Thread Cert.RouterRefIdeal.nD Cert.RouterRefIdeal.τ).loc Cert.RouterRefIdeal.main_arg1) = m ((c.tc : Thread Cert.RouterIdeal.nD Cert.RouterIdeal.τ).loc Cert.RouterIdeal.main_arg1)
      ∧ m' ((c.tc : Thread Cert.RouterRefIdeal.nD Cert.RouterRefIdeal.τ).loc Cert.RouterRefIdeal.main_arg2) = m ((c.tc : Thread Cert.RouterIdeal.nD Cert.RouterIdeal.τ).loc Cert.RouterIdeal.main_arg2)
      ∧ m' ((c.tc : Thread Cert.RouterRefIdeal.nD Cert.RouterRefIdeal.τ).loc Cert.RouterRefIdeal.main_arg3) = m ((c.tc : Thread Cert.RouterIdeal.nD Cert.RouterIdeal.τ).loc Cert.RouterIdeal.main_arg3)
      ∧ m' ((c.tc : Thread Cert.RouterRefIdeal.nD Cert.RouterRefIdeal.τ).loc Cert.RouterRefIdeal.main_arg4) = m ((c.tc : Thread Cert.RouterIdeal.nD Cert.RouterIdeal.τ).loc Cert.RouterIdeal.main_arg4)
      ∧ m' ((c.tc : Thread Cert.RouterRefIdeal.nD Cert.RouterRefIdeal.τ).loc Cert.RouterRefIdeal.main_arg5) = m ((c.tc : Thread Cert.RouterIdeal.nD Cert.RouterIdeal.τ).loc Cert.RouterIdeal.main_arg5)
      ∧ m' ((c.tc : Thread Cert.RouterRefIdeal.nD Cert.RouterRefIdeal.τ).loc Cert.RouterRefIdeal.main_arg6) = m ((c.tc : Thread Cert.RouterIdeal.nD Cert.RouterIdeal.τ).loc Cert.RouterIdeal.main_arg6)
      ∧ m' ((c.tc : Thread Cert.RouterRefIdeal.nD Cert.RouterRefIdeal.τ).loc Cert.RouterRefIdeal.main_arg7) = m ((c.tc : Thread Cert.RouterIdeal.nD Cert.RouterIdeal.τ).loc Cert.RouterIdeal.main_arg7)
      ∧ m' ((c.tc : Thread Cert.RouterRefIdeal.nD Cert.RouterRefIdeal.τ).loc Cert.RouterRefIdeal.main_arg8) = m ((c.tc : Thread Cert.RouterIdeal.nD Cert.RouterIdeal.τ).loc Cert.RouterIdeal.main_arg8)
      ∧ m' ((c.tc : Thread Cert.RouterRefIdeal.nD Cert.RouterRefIdeal.τ).loc Cert.RouterRefIdeal.main_arg9) = m ((c.tc : Thread Cert.RouterIdeal.nD Cert.RouterIdeal.τ).loc Cert.RouterIdeal.main_arg9)
      ∧ m' ((c.tc : Thread Cert.RouterRefIdeal.nD Cert.RouterRefIdeal.τ).loc Cert.RouterRefIdeal.main_arg10) = m ((c.tc : Thread Cert.RouterIdeal.nD Cert.RouterIdeal.τ).loc Cert.RouterIdeal.main_arg10)) →
    ∃ (v0 : (c : Dev Cert.RouterIdeal.nD) → Buf (Elt Ideal) ((c.tc : Thread Cert.RouterIdeal.nD Cert.RouterIdeal.τ).loc Cert.RouterIdeal.main_v12_2)) (v1 : (c : Dev Cert.RouterIdeal.nD) → Buf (Elt Ideal) ((c.tc : Thread Cert.RouterIdeal.nD Cert.RouterIdeal.τ).loc Cert.RouterIdeal.main_v12_3)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v12_2) = v0 c
          ∧ r.2.mem ((c.tc : Thread Cert.RouterIdeal.nD Cert.RouterIdeal.τ).loc Cert.RouterIdeal.main_v12_3) = v1 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
          ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
          ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
          ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
          ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5)
          ∧ r.2.mem ((c.tc : Thread Cert.RouterIdeal.nD Cert.RouterIdeal.τ).loc Cert.RouterIdeal.main_arg6) = m ((c.tc : Thread Cert.RouterIdeal.nD Cert.RouterIdeal.τ).loc Cert.RouterIdeal.main_arg6)
          ∧ r.2.mem ((c.tc : Thread Cert.RouterIdeal.nD Cert.RouterIdeal.τ).loc Cert.RouterIdeal.main_arg7) = m ((c.tc : Thread Cert.RouterIdeal.nD Cert.RouterIdeal.τ).loc Cert.RouterIdeal.main_arg7)
          ∧ r.2.mem ((c.tc : Thread Cert.RouterIdeal.nD Cert.RouterIdeal.τ).loc Cert.RouterIdeal.main_arg8) = m ((c.tc : Thread Cert.RouterIdeal.nD Cert.RouterIdeal.τ).loc Cert.RouterIdeal.main_arg8)
          ∧ r.2.mem ((c.tc : Thread Cert.RouterIdeal.nD Cert.RouterIdeal.τ).loc Cert.RouterIdeal.main_arg9) = m ((c.tc : Thread Cert.RouterIdeal.nD Cert.RouterIdeal.τ).loc Cert.RouterIdeal.main_arg9)
          ∧ r.2.mem ((c.tc : Thread Cert.RouterIdeal.nD Cert.RouterIdeal.τ).loc Cert.RouterIdeal.main_arg10) = m ((c.tc : Thread Cert.RouterIdeal.nD Cert.RouterIdeal.τ).loc Cert.RouterIdeal.main_arg10))
      ∧ θ_run (Cert.RouterRefIdeal.defs (F := Ideal)) (onTc (τ := Cert.RouterRefIdeal.τ) (Cert.RouterRefIdeal.main (F := Ideal))) ⟨m', fun _ => 0, g'⟩ (fun r => ∀ c : Dev Cert.RouterRefIdeal.nD,
          r.2.mem ((c.tc : Thread Cert.RouterRefIdeal.nD Cert.RouterRefIdeal.τ).loc Cert.RouterRefIdeal.main_v68) = v0 c
          ∧ r.2.mem ((c.tc : Thread Cert.RouterRefIdeal.nD Cert.RouterRefIdeal.τ).loc Cert.RouterRefIdeal.main_v69) = v1 c
          ∧ r.2.mem ((c.tc : Thread Cert.RouterRefIdeal.nD Cert.RouterRefIdeal.τ).loc Cert.RouterRefIdeal.main_arg0) = m' ((c.tc : Thread Cert.RouterRefIdeal.nD Cert.RouterRefIdeal.τ).loc Cert.RouterRefIdeal.main_arg0)
          ∧ r.2.mem ((c.tc : Thread Cert.RouterRefIdeal.nD Cert.RouterRefIdeal.τ).loc Cert.RouterRefIdeal.main_arg1) = m' ((c.tc : Thread Cert.RouterRefIdeal.nD Cert.RouterRefIdeal.τ).loc Cert.RouterRefIdeal.main_arg1)
          ∧ r.2.mem ((c.tc : Thread Cert.RouterRefIdeal.nD Cert.RouterRefIdeal.τ).loc Cert.RouterRefIdeal.main_arg2) = m' ((c.tc : Thread Cert.RouterRefIdeal.nD Cert.RouterRefIdeal.τ).loc Cert.RouterRefIdeal.main_arg2)
          ∧ r.2.mem ((c.tc : Thread Cert.RouterRefIdeal.nD Cert.RouterRefIdeal.τ).loc Cert.RouterRefIdeal.main_arg3) = m' ((c.tc : Thread Cert.RouterRefIdeal.nD Cert.RouterRefIdeal.τ).loc Cert.RouterRefIdeal.main_arg3)
          ∧ r.2.mem ((c.tc : Thread Cert.RouterRefIdeal.nD Cert.RouterRefIdeal.τ).loc Cert.RouterRefIdeal.main_arg4) = m' ((c.tc : Thread Cert.RouterRefIdeal.nD Cert.RouterRefIdeal.τ).loc Cert.RouterRefIdeal.main_arg4)
          ∧ r.2.mem ((c.tc : Thread Cert.RouterRefIdeal.nD Cert.RouterRefIdeal.τ).loc Cert.RouterRefIdeal.main_arg5) = m' ((c.tc : Thread Cert.RouterRefIdeal.nD Cert.RouterRefIdeal.τ).loc Cert.RouterRefIdeal.main_arg5)
          ∧ r.2.mem ((c.tc : Thread Cert.RouterRefIdeal.nD Cert.RouterRefIdeal.τ).loc Cert.RouterRefIdeal.main_arg6) = m' ((c.tc : Thread Cert.RouterRefIdeal.nD Cert.RouterRefIdeal.τ).loc Cert.RouterRefIdeal.main_arg6)
          ∧ r.2.mem ((c.tc : Thread Cert.RouterRefIdeal.nD Cert.RouterRefIdeal.τ).loc Cert.RouterRefIdeal.main_arg7) = m' ((c.tc : Thread Cert.RouterRefIdeal.nD Cert.RouterRefIdeal.τ).loc Cert.RouterRefIdeal.main_arg7)
          ∧ r.2.mem ((c.tc : Thread Cert.RouterRefIdeal.nD Cert.RouterRefIdeal.τ).loc Cert.RouterRefIdeal.main_arg8) = m' ((c.tc : Thread Cert.RouterRefIdeal.nD Cert.RouterRefIdeal.τ).loc Cert.RouterRefIdeal.main_arg8)
          ∧ r.2.mem ((c.tc : Thread Cert.RouterRefIdeal.nD Cert.RouterRefIdeal.τ).loc Cert.RouterRefIdeal.main_arg9) = m' ((c.tc : Thread Cert.RouterRefIdeal.nD Cert.RouterRefIdeal.τ).loc Cert.RouterRefIdeal.main_arg9)
          ∧ r.2.mem ((c.tc : Thread Cert.RouterRefIdeal.nD Cert.RouterRefIdeal.τ).loc Cert.RouterRefIdeal.main_arg10) = m' ((c.tc : Thread Cert.RouterRefIdeal.nD Cert.RouterRefIdeal.τ).loc Cert.RouterRefIdeal.main_arg10))

def Claim : Prop :=
  ∃ (hExperts : Cert.Experts.Facts) (hExpertsIdeal : Cert.ExpertsIdeal.Facts) (hExpertsRefIdeal : Cert.ExpertsRefIdeal.Facts) (hInProj : Cert.InProj.Facts) (hInProjIdeal : Cert.InProjIdeal.Facts) (hInProjRefIdeal : Cert.InProjRefIdeal.Facts) (hCombine : Cert.Combine.Facts) (hCombineIdeal : Cert.CombineIdeal.Facts) (hCombineRefIdeal : Cert.CombineRefIdeal.Facts) (hOutProj : Cert.OutProj.Facts) (hOutProjIdeal : Cert.OutProjIdeal.Facts) (hOutProjRefIdeal : Cert.OutProjRefIdeal.Facts) (hMemAtt : Cert.MemAtt.Facts) (hMemAttIdeal : Cert.MemAttIdeal.Facts) (hMemAttRefIdeal : Cert.MemAttRefIdeal.Facts) (hRouter : Cert.Router.Facts) (hRouterIdeal : Cert.RouterIdeal.Facts) (hRouterRefIdeal : Cert.RouterRefIdeal.Facts) (hPre_experts_in_range : Cert.Pre_experts_in_range.Facts) (hPre_mem_finite : Cert.Pre_mem_finite.Facts) (hPre_router_in_range : Cert.Pre_router_in_range.Facts),
    quiescent_Experts (hExperts := hExperts) (hPre_experts_in_range := hPre_experts_in_range)
    ∧ quiescent_ExpertsIdeal (hExpertsIdeal := hExpertsIdeal) (hPre_experts_in_range := hPre_experts_in_range)
    ∧ quiescent_ExpertsRefIdeal (hExpertsRefIdeal := hExpertsRefIdeal) (hPre_experts_in_range := hPre_experts_in_range)
    ∧ quiescent_InProj (hInProj := hInProj)
    ∧ quiescent_InProjIdeal (hInProjIdeal := hInProjIdeal)
    ∧ quiescent_InProjRefIdeal (hInProjRefIdeal := hInProjRefIdeal)
    ∧ quiescent_Combine (hCombine := hCombine)
    ∧ quiescent_CombineIdeal (hCombineIdeal := hCombineIdeal)
    ∧ quiescent_CombineRefIdeal (hCombineRefIdeal := hCombineRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_MemAtt (hMemAtt := hMemAtt)
    ∧ quiescent_MemAttIdeal (hMemAttIdeal := hMemAttIdeal)
    ∧ quiescent_MemAttIdeal_pre_mem_finite (hMemAttIdeal := hMemAttIdeal) (hPre_mem_finite := hPre_mem_finite)
    ∧ quiescent_MemAttRefIdeal (hMemAttRefIdeal := hMemAttRefIdeal)
    ∧ quiescent_MemAttRefIdeal_pre_mem_finite (hMemAttRefIdeal := hMemAttRefIdeal) (hPre_mem_finite := hPre_mem_finite)
    ∧ quiescent_Router (hRouter := hRouter)
    ∧ quiescent_RouterIdeal (hRouterIdeal := hRouterIdeal)
    ∧ quiescent_RouterIdeal_pre_router_in_range (hRouterIdeal := hRouterIdeal) (hPre_router_in_range := hPre_router_in_range)
    ∧ quiescent_RouterRefIdeal (hRouterRefIdeal := hRouterRefIdeal)
    ∧ quiescent_RouterRefIdeal_pre_router_in_range (hRouterRefIdeal := hRouterRefIdeal) (hPre_router_in_range := hPre_router_in_range)
    ∧ preserves_Experts_ExpertsIdeal
    ∧ algebraic_ExpertsIdeal_ExpertsRefIdeal (hExpertsIdeal := hExpertsIdeal) (hExpertsRefIdeal := hExpertsRefIdeal) (hPre_experts_in_range := hPre_experts_in_range)
    ∧ preserves_InProj_InProjIdeal
    ∧ algebraic_InProjIdeal_InProjRefIdeal (hInProjIdeal := hInProjIdeal) (hInProjRefIdeal := hInProjRefIdeal)
    ∧ preserves_Combine_CombineIdeal
    ∧ algebraic_CombineIdeal_CombineRefIdeal (hCombineIdeal := hCombineIdeal) (hCombineRefIdeal := hCombineRefIdeal)
    ∧ preserves_OutProj_OutProjIdeal
    ∧ algebraic_OutProjIdeal_OutProjRefIdeal (hOutProjIdeal := hOutProjIdeal) (hOutProjRefIdeal := hOutProjRefIdeal)
    ∧ preserves_MemAtt_MemAttIdeal
    ∧ algebraic_MemAttIdeal_MemAttRefIdeal_pre_mem_finite (hMemAttIdeal := hMemAttIdeal) (hMemAttRefIdeal := hMemAttRefIdeal) (hPre_mem_finite := hPre_mem_finite)
    ∧ preserves_Router_RouterIdeal
    ∧ algebraic_RouterIdeal_RouterRefIdeal_pre_router_in_range (hRouterIdeal := hRouterIdeal) (hRouterRefIdeal := hRouterRefIdeal) (hPre_router_in_range := hPre_router_in_range)
-- ==== Pre_experts_in_range.lean ====
abbrev S544 : Shape := ⟨1, ![544]⟩
abbrev S139264x1024 : Shape := ⟨2, ![139264, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩

class Facts : Prop where
  bcast_S_S544 : S_.BroadcastsInDim S544 (![] : Fin 0 → Fin S544.rank)
  reducesTo_S544_S_d0 : S544.ReducesTo [0] S_
  h_S_ : 0 < S_.numel

variable [Facts]

def fn {F : FTy → Type} [FloatOps F] (main_arg0 : IVec S544 32) (main_arg1 : FVec F S139264x1024 .bf16) (main_arg2 : FVec F S32x1024x2048 .f32) (main_arg3 : FVec F S32x2048 .f32) (main_arg4 : FVec F S32x1024x1024 .f32) (main_arg5 : FVec F S32x1024 .f32) : IVec S_ 1 :=
  let main_c : IVec S_ 32 := constantI S_ 32 0#32
  let main_v0 : IVec S544 32 := broadcastInDim S544 ![] bcast_S_S544 main_c
  let main_v1 : IVec S544 1 := cmpi .sge main_arg0 main_v0
  let main_c_0 : IVec S_ 32 := constantI S_ 32 32#32
  let main_v2 : IVec S544 32 := broadcastInDim S544 ![] bcast_S_S544 main_c_0
  let main_v3 : IVec S544 1 := cmpi .slt main_arg0 main_v2
  let main_v4 : IVec S544 1 := andi main_v1 main_v3
  let main_c_1 : IVec S_ 1 := constantI S_ 1 1#1
  let main_v5 : IVec S_ 1 := (fun x v => Host.reduce IntOp.andi x v reducesTo_S544_S_d0 h_S_) main_v4 main_c_1
  main_v5
-- ==== Pre_mem_finite.lean ====
abbrev S16x2048x256 : Shape := ⟨3, ![16, 2048, 256]⟩
abbrev S16x256x1024 : Shape := ⟨3, ![16, 256, 1024]⟩
abbrev S1024x512 : Shape := ⟨2, ![1024, 512]⟩
abbrev S_ : Shape := ⟨0, ![]⟩

class Facts : Prop where
  bcast_S_S16x2048x256 : S_.BroadcastsInDim S16x2048x256 (![] : Fin 0 → Fin S16x2048x256.rank)
  reducesTo_S16x2048x256_S_d0_1_2 : S16x2048x256.ReducesTo [0, 1, 2] S_
  h_S_ : 0 < S_.numel
  bcast_S_S16x256x1024 : S_.BroadcastsInDim S16x256x1024 (![] : Fin 0 → Fin S16x256x1024.rank)
  reducesTo_S16x256x1024_S_d0_1_2 : S16x256x1024.ReducesTo [0, 1, 2] S_
  bcast_S_S1024x512 : S_.BroadcastsInDim S1024x512 (![] : Fin 0 → Fin S1024x512.rank)
  reducesTo_S1024x512_S_d0_1 : S1024x512.ReducesTo [0, 1] S_

variable [Facts]

def fn {F : FTy → Type} [FloatOps F] (main_arg0 : FVec F S16x2048x256 .f32) (main_arg1 : FVec F S16x256x1024 .f32) (main_arg2 : FVec F S1024x512 .f32) : IVec S_ 1 :=
  let main_v0 : FVec F S16x2048x256 .f32 := Host.absf main_arg0
  let main_cst : FVec F S_ .f32 := constant S_ .f32 0x7F800000#32
  let main_v1 : FVec F S16x2048x256 .f32 := broadcastInDim S16x2048x256 ![] bcast_S_S16x2048x256 main_cst
  let main_v2 : IVec S16x2048x256 1 := cmpf .olt main_v0 main_v1
  let main_c : IVec S_ 1 := constantI S_ 1 1#1
  let main_v3 : IVec S_ 1 := (fun x v => Host.reduce IntOp.andi x v reducesTo_S16x2048x256_S_d0_1_2 h_S_) main_v2 main_c
  let main_v4 : FVec F S16x256x1024 .f32 := Host.absf main_arg1
  let main_cst_0 : FVec F S_ .f32 := constant S_ .f32 0x7F800000#32
  let main_v5 : FVec F S16x256x1024 .f32 := broadcastInDim S16x256x1024 ![] bcast_S_S16x256x1024 main_cst_0
  let main_v6 : IVec S16x256x1024 1 := cmpf .olt main_v4 main_v5
  let main_c_1 : IVec S_ 1 := constantI S_ 1 1#1
  let main_v7 : IVec S_ 1 := (fun x v => Host.reduce IntOp.andi x v reducesTo_S16x256x1024_S_d0_1_2 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  main_v13
-- ==== Pre_router_in_range.lean ====
abbrev S32768x1024 : Shape := ⟨2, ![32768, 1024]⟩
abbrev S32768x384 : Shape := ⟨2, ![32768, 384]⟩
abbrev S32768x256 : Shape := ⟨2, ![32768, 256]⟩
abbrev S1024 : Shape := ⟨1, ![1024]⟩
abbrev S1024x1024 : Shape := ⟨2, ![1024, 1024]⟩
abbrev S1024x32 : Shape := ⟨2, ![1024, 32]⟩
abbrev S32 : Shape := ⟨1, ![32]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x32 : Shape := ⟨2, ![32768, 32]⟩
abbrev S1x32 : Shape := ⟨2, ![1, 32]⟩

class Facts : Prop where
  reducesTo_S32768x1024_S32768_d1 : S32768x1024.ReducesTo [1] S32768
  h_S_ : 0 < S_.numel
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x1024_0_1 : S32768x1.BroadcastsInDim S32768x1024 (![0, 1] : Fin 2 → Fin S32768x1024.rank)
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  concatenates_S32768x384_S32768x384_S32768x256_S32768x1024_d1 : Shape.Concatenates [S32768x384, S32768x384, S32768x256] S32768x1024 1
  bcast_S_S32768x1024 : S_.BroadcastsInDim S32768x1024 (![] : Fin 0 → Fin S32768x1024.rank)
  bcast_S32_S1x32_1 : S32.BroadcastsInDim S1x32 (![1] : Fin 1 → Fin S1x32.rank)
  bcast_S1x32_S32768x32_0_1 : S1x32.BroadcastsInDim S32768x32 (![0, 1] : Fin 2 → Fin S32768x32.rank)
  bcast_S_S1024 : S_.BroadcastsInDim S1024 (![] : Fin 0 → Fin S1024.rank)
  reducesTo_S1024_S_d0 : S1024.ReducesTo [0] S_
  bcast_S_S1024x32 : S_.BroadcastsInDim S1024x32 (![] : Fin 0 → Fin S1024x32.rank)
  reducesTo_S1024x32_S_d0_1 : S1024x32.ReducesTo [0, 1] S_
  bcast_S_S32768x32 : S_.BroadcastsInDim S32768x32 (![] : Fin 0 → Fin S32768x32.rank)
  reducesTo_S32768x32_S_d0_1 : S32768x32.ReducesTo [0, 1] S_
  dot_S32768x1024_S1024x1024_S32768x1024_1_0_0_1_n_n_wf : DotDims.WF S32768x1024 S1024x1024 S32768x1024 [1] [0] [0] [1] [] []
  dot_S32768x1024_S1024x32_S32768x32_1_0_0_1_n_n_wf : DotDims.WF S32768x1024 S1024x32 S32768x32 [1] [0] [0] [1] [] []

variable [Facts]

def dot_S32768x1024_S1024x1024_S32768x1024_1_0_0_1_n_n : DotDims S32768x1024 S1024x1024 S32768x1024 where
  lhsContracting := [1]
  rhsContracting := [0]
  lhsNonContracting := [0]
  rhsNonContracting := [1]
  lhsBatch := []
  rhsBatch := []
  wf := dot_S32768x1024_S1024x1024_S32768x1024_1_0_0_1_n_n_wf
def dot_S32768x1024_S1024x32_S32768x32_1_0_0_1_n_n : DotDims S32768x1024 S1024x32 S32768x32 where
  lhsContracting := [1]
  rhsContracting := [0]
  lhsNonContracting := [0]
  rhsNonContracting := [1]
  lhsBatch := []
  rhsBatch := []
  wf := dot_S32768x1024_S1024x32_S32768x32_1_0_0_1_n_n_wf
def fn_part3 {F : FTy → Type} [FloatOps F] (main_arg8 : FVec F S1024 .f32) (main_arg9 : FVec F S1024x32 .f32) (main_v56 : FVec F S32768x32 .f32) (main_v59 : IVec S1024 1) : IVec S_ 1 :=
  let main_c : IVec S_ 1 := constantI S_ 1 1#1
  let main_v60 : IVec S_ 1 := (fun x v => Host.reduce IntOp.andi x v reducesTo_S1024_S_d0 h_S_) main_v59 main_c
  let main_v61 : FVec F S1024 .f32 := Host.absf main_arg8
  let main_cst_11 : FVec F S_ .f32 := constant S_ .f32 0x7F800000#32
  let main_v62 : FVec F S1024 .f32 := broadcastInDim S1024 ![] bcast_S_S1024 main_cst_11
  let main_v63 : IVec S1024 1 := cmpf .olt main_v61 main_v62
  let main_c_12 : IVec S_ 1 := constantI S_ 1 1#1
  let main_v64 : IVec S_ 1 := (fun x v => Host.reduce IntOp.andi x v reducesTo_S1024_S_d0 h_S_) main_v63 main_c_12
  let main_v65 : IVec S_ 1 := andi main_v60 main_v64
  let main_v66 : FVec F S1024x32 .f32 := Host.absf main_arg9
  let main_cst_13 : FVec F S_ .f32 := constant S_ .f32 0x7F800000#32
  let main_v67 : FVec F S1024x32 .f32 := broadcastInDim S1024x32 ![] bcast_S_S1024x32 main_cst_13
  let main_v68 : IVec S1024x32 1 := cmpf .olt main_v66 main_v67
  let main_c_14 : IVec S_ 1 := constantI S_ 1 1#1
  let main_v69 : IVec S_ 1 := (fun x v => Host.reduce IntOp.andi x v reducesTo_S1024x32_S_d0_1 h_S_) main_v68 main_c_14
  let main_v70 : IVec S_ 1 := andi main_v65 main_v69
  let main_cst_15 : FVec F S_ .f32 := constant S_ .f32 0xF149F2CA#32
  let main_v71 : FVec F S32768x32 .f32 := broadcastInDim S32768x32 ![] bcast_S_S32768x32 main_cst_15
  let main_v72 : IVec S32768x32 1 := cmpf .ogt main_v56 main_v71
  let main_c_16 : IVec S_ 1 := constantI S_ 1 1#1
  let main_v73 : IVec S_ 1 := (fun x v => Host.reduce IntOp.andi x v reducesTo_S32768x32_S_d0_1 h_S_) main_v72 main_c_16
  let main_v74 : IVec S_ 1 := andi main_v70 main_v73
  main_v74

def fn_part2 {F : FTy → Type} [FloatOps F] (main_arg7 : FVec F S1024 .f32) (main_arg8 : FVec F S1024 .f32) (main_arg9 : FVec F S1024x32 .f32) (main_arg10 : FVec F S32 .f32) (main_v28 : FVec F S32768x1024 .f32) (main_v32 : FVec F S32768x1 .f32) (main_v37 : FVec F S32768x1 .f32) (main_cst_8 : FVec F S_ .f32) : IVec S_ 1 :=
  let main_v38 : FVec F S32768x1 .f32 := broadcastInDim S32768x1 ![] bcast_S_S32768x1 main_cst_8
  let main_v39 : FVec F S32768x1 .f32 := Host.divf main_v37 main_v38
  let main_v40 : FVec F S32768x1024 .f32 := broadcastInDim S32768x1024 ![0, 1] bcast_S32768x1_S32768x1024_0_1 main_v32
  let main_v41 : FVec F S32768x1024 .f32 := subf main_v28 main_v40
  let main_cst_9 : FVec F S_ .f32 := constant S_ .f32 0x3727C5AC#32
  let main_v42 : FVec F S32768x1 .f32 := broadcastInDim S32768x1 ![] bcast_S_S32768x1 main_cst_9
  let main_v43 : FVec F S32768x1 .f32 := addf main_v39 main_v42
  let main_v44 : FVec F S32768x1 .f32 := Host.rsqrt main_v43
  let main_v45 : FVec F S32768x1024 .f32 := broadcastInDim S32768x1024 ![0, 1] bcast_S32768x1_S32768x1024_0_1 main_v44
  let main_v46 : FVec F S32768x1024 .f32 := mulf main_v41 main_v45
  let main_v47 : FVec F S1x1024 .f32 := broadcastInDim S1x1024 ![1] bcast_S1024_S1x1024_1 main_arg7
  let main_v48 : FVec F S32768x1024 .f32 := broadcastInDim S32768x1024 ![0, 1] bcast_S1x1024_S32768x1024_0_1 main_v47
  let main_v49 : FVec F S32768x1024 .f32 := mulf main_v46 main_v48
  let main_v50 : FVec F S1x1024 .f32 := broadcastInDim S1x1024 ![1] bcast_S1024_S1x1024_1 main_arg8
  let main_v51 : FVec F S32768x1024 .f32 := broadcastInDim S32768x1024 ![0, 1] bcast_S1x1024_S32768x1024_0_1 main_v50
  let main_v52 : FVec F S32768x1024 .f32 := addf main_v49 main_v51
  let main_v53 : FVec F S32768x32 .f32 := (fun l r => Host.dotGeneral dot_S32768x1024_S1024x32_S32768x32_1_0_0_1_n_n none l r) main_v52 main_arg9
  let main_v54 : FVec F S1x32 .f32 := broadcastInDim S1x32 ![1] bcast_S32_S1x32_1 main_arg10
  let main_v55 : FVec F S32768x32 .f32 := broadcastInDim S32768x32 ![0, 1] bcast_S1x32_S32768x32_0_1 main_v54
  let main_v56 : FVec F S32768x32 .f32 := addf main_v53 main_v55
  let main_v57 : FVec F S1024 .f32 := Host.absf main_arg7
  let main_cst_10 : FVec F S_ .f32 := constant S_ .f32 0x7F800000#32
  let main_v58 : FVec F S1024 .f32 := broadcastInDim S1024 ![] bcast_S_S1024 main_cst_10
  let main_v59 : IVec S1024 1 := cmpf .olt main_v57 main_v58
  fn_part3 (F := F) main_arg8 main_arg9 main_v56 main_v59

def fn_part1 {F : FTy → Type} [FloatOps F] (main_arg1 : FVec F S32768x384 .f32) (main_arg2 : FVec F S32768x384 .f32) (main_arg3 : FVec F S32768x256 .f32) (main_arg5 : FVec F S1024 .f32) (main_arg6 : FVec F S1024x1024 .f32) (main_arg7 : FVec F S1024 .f32) (main_arg8 : FVec F S1024 .f32) (main_arg9 : FVec F S1024x32 .f32) (main_arg10 : FVec F S32 .f32) (main_v17 : FVec F S32768x1024 .f32) (main_v18 : FVec F S1x1024 .f32) : IVec S_ 1 :=
  let main_v19 : FVec F S32768x1024 .f32 := broadcastInDim S32768x1024 ![0, 1] bcast_S1x1024_S32768x1024_0_1 main_v18
  let main_v20 : FVec F S32768x1024 .f32 := mulf main_v17 main_v19
  let main_v21 : FVec F S1x1024 .f32 := broadcastInDim S1x1024 ![1] bcast_S1024_S1x1024_1 main_arg5
  let main_v22 : FVec F S32768x1024 .f32 := broadcastInDim S32768x1024 ![0, 1] bcast_S1x1024_S32768x1024_0_1 main_v21
  let main_v23 : FVec F S32768x1024 .f32 := addf main_v20 main_v22
  let main_v24 : FVec F S32768x1024 .f32 := concatenate S32768x1024 1 [⟨S32768x384, main_arg1⟩, ⟨S32768x384, main_arg2⟩, ⟨S32768x256, main_arg3⟩] concatenates_S32768x384_S32768x384_S32768x256_S32768x1024_d1
  let main_cst_4 : FVec F S_ .f32 := constant S_ .f32 0x3F9837F0#32
  let main_v25 : FVec F S32768x1024 .f32 := broadcastInDim S32768x1024 ![] bcast_S_S32768x1024 main_cst_4
  let main_v26 : FVec F S32768x1024 .f32 := mulf main_v25 main_v23
  let main_v27 : FVec F S32768x1024 .f32 := (fun l r => Host.dotGeneral dot_S32768x1024_S1024x1024_S32768x1024_1_0_0_1_n_n none l r) main_v24 main_arg6
  let main_v28 : FVec F S32768x1024 .f32 := addf main_v26 main_v27
  let main_cst_5 : FVec F S_ .f32 := constant S_ .f32 0x00000000#32
  let main_v29 : FVec F S32768 .f32 := (fun x v => Host.reduceAdd x v reducesTo_S32768x1024_S32768_d1 h_S_) main_v28 main_cst_5
  let main_v30 : FVec F S32768x1 .f32 := broadcastInDim S32768x1 ![0] bcast_S32768_S32768x1_0 main_v29
  let main_cst_6 : FVec F S_ .f32 := constant S_ .f32 0x44800000#32
  let main_v31 : FVec F S32768x1 .f32 := broadcastInDim S32768x1 ![] bcast_S_S32768x1 main_cst_6
  let main_v32 : FVec F S32768x1 .f32 := Host.divf main_v30 main_v31
  let main_v33 : FVec F S32768x1024 .f32 := broadcastInDim S32768x1024 ![0, 1] bcast_S32768x1_S32768x1024_0_1 main_v32
  let main_v34 : FVec F S32768x1024 .f32 := subf main_v28 main_v33
  let main_v35 : FVec F S32768x1024 .f32 := mulf main_v34 main_v34
  let main_cst_7 : FVec F S_ .f32 := constant S_ .f32 0x00000000#32
  let main_v36 : FVec F S32768 .f32 := (fun x v => Host.reduceAdd x v reducesTo_S32768x1024_S32768_d1 h_S_) main_v35 main_cst_7
  let main_v37 : FVec F S32768x1 .f32 := broadcastInDim S32768x1 ![0] bcast_S32768_S32768x1_0 main_v36
  let main_cst_8 : FVec F S_ .f32 := constant S_ .f32 0x44800000#32
  fn_part2 (F := F) main_arg7 main_arg8 main_arg9 main_arg10 main_v28 main_v32 main_v37 main_cst_8

def fn {F : FTy → Type} [FloatOps F] (main_arg0 : FVec F S32768x1024 .f32) (main_arg1 : FVec F S32768x384 .f32) (main_arg2 : FVec F S32768x384 .f32) (main_arg3 : FVec F S32768x256 .f32) (main_arg4 : FVec F S1024 .f32) (main_arg5 : FVec F S1024 .f32) (main_arg6 : FVec F S1024x1024 .f32) (main_arg7 : FVec F S1024 .f32) (main_arg8 : FVec F S1024 .f32) (main_arg9 : FVec F S1024x32 .f32) (main_arg10 : FVec F S32 .f32) : IVec S_ 1 :=
  let main_cst : FVec F S_ .f32 := constant S_ .f32 0x00000000#32
  let main_v0 : FVec F S32768 .f32 := (fun x v => Host.reduceAdd x v reducesTo_S32768x1024_S32768_d1 h_S_) main_arg0 main_cst
  let main_v1 : FVec F S32768x1 .f32 := broadcastInDim S32768x1 ![0] bcast_S32768_S32768x1_0 main_v0
  let main_cst_0 : FVec F S_ .f32 := constant S_ .f32 0x44800000#32
  let main_v2 : FVec F S32768x1 .f32 := broadcastInDim S32768x1 ![] bcast_S_S32768x1 main_cst_0
  let main_v3 : FVec F S32768x1 .f32 := Host.divf main_v1 main_v2
  let main_v4 : FVec F S32768x1024 .f32 := broadcastInDim S32768x1024 ![0, 1] bcast_S32768x1_S32768x1024_0_1 main_v3
  let main_v5 : FVec F S32768x1024 .f32 := subf main_arg0 main_v4
  let main_v6 : FVec F S32768x1024 .f32 := mulf main_v5 main_v5
  let main_cst_1 : FVec F S_ .f32 := constant S_ .f32 0x00000000#32
  let main_v7 : FVec F S32768 .f32 := (fun x v => Host.reduceAdd x v reducesTo_S32768x1024_S32768_d1 h_S_) main_v6 main_cst_1
  let main_v8 : FVec F S32768x1 .f32 := broadcastInDim S32768x1 ![0] bcast_S32768_S32768x1_0 main_v7
  let main_cst_2 : FVec F S_ .f32 := constant S_ .f32 0x44800000#32
  let main_v9 : FVec F S32768x1 .f32 := broadcastInDim S32768x1 ![] bcast_S_S32768x1 main_cst_2
  let main_v10 : FVec F S32768x1 .f32 := Host.divf main_v8 main_v9
  let main_v11 : FVec F S32768x1024 .f32 := broadcastInDim S32768x1024 ![0, 1] bcast_S32768x1_S32768x1024_0_1 main_v3
  let main_v12 : FVec F S32768x1024 .f32 := subf main_arg0 main_v11
  let main_cst_3 : FVec F S_ .f32 := constant S_ .f32 0x3727C5AC#32
  let main_v13 : FVec F S32768x1 .f32 := broadcastInDim S32768x1 ![] bcast_S_S32768x1 main_cst_3
  let main_v14 : FVec F S32768x1 .f32 := addf main_v10 main_v13
  let main_v15 : FVec F S32768x1 .f32 := Host.rsqrt main_v14
  let main_v16 : FVec F S32768x1024 .f32 := broadcastInDim S32768x1024 ![0, 1] bcast_S32768x1_S32768x1024_0_1 main_v15
  let main_v17 : FVec F S32768x1024 .f32 := mulf main_v12 main_v16
  let main_v18 : FVec F S1x1024 .f32 := broadcastInDim S1x1024 ![1] bcast_S1024_S1x1024_1 main_arg4
  fn_part1 (F := F) main_arg1 main_arg2 main_arg3 main_arg5 main_arg6 main_arg7 main_arg8 main_arg9 main_arg10 main_v17 main_v18
-- ==== Experts.lean ====
abbrev S544 : Shape := ⟨1, ![544]⟩
abbrev S139264x1024 : Shape := ⟨2, ![139264, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32x1x2048 : Shape := ⟨3, ![32, 1, 2048]⟩
abbrev S32x1x1024 : Shape := ⟨3, ![32, 1, 1024]⟩
abbrev S256x1024 : Shape := ⟨2, ![256, 1024]⟩
abbrev S1x1024x2048 : Shape := ⟨3, ![1, 1024, 2048]⟩
abbrev S1 : Shape := ⟨1, ![1]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S256x2048 : Shape := ⟨2, ![256, 2048]⟩
abbrev S1x2048 : Shape := ⟨2, ![1, 2048]⟩
abbrev S1024x1024 : Shape := ⟨2, ![1024, 1024]⟩
abbrev S1x1024 : Shape := ⟨2, ![1, 1024]⟩

abbrev nBuf : Space → Nat
  | .hbm => 10
  | .vmem => 12
  | .smem => 1
  | _ => 0

abbrev bufTy : (tb : Table) → Fin (tcTables nBuf tb) → BufTy
  | .hbm, ⟨0, _⟩ => ⟨S139264x1024, .bf16⟩
  | .hbm, ⟨1, _⟩ => ⟨S32x1024x2048, .f32⟩
  | .hbm, ⟨2, _⟩ => ⟨S32x2048, .f32⟩
  | .hbm, ⟨3, _⟩ => ⟨S32x1024x1024, .f32⟩
  | .hbm, ⟨4, _⟩ => ⟨S32x1024, .f32⟩
  | .hbm, ⟨5, _⟩ => ⟨S32x1024x2048, .bf16⟩
  | .hbm, ⟨6, _⟩ => ⟨S32x1x2048, .f32⟩
  | .hbm, ⟨7, _⟩ => ⟨S32x1024x1024, .bf16⟩
  | .hbm, ⟨8, _⟩ => ⟨S32x1x1024, .f32⟩
  | .hbm, ⟨9, _⟩ => ⟨S139264x1024, .f32⟩
  | .local _ .vmem, ⟨0, _⟩ => ⟨S256x1024, .bf16⟩
  | .local _ .vmem, ⟨1, _⟩ => ⟨S256x1024, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x1x1024, .f32⟩
  | .local _ .vmem, ⟨9, _⟩ => ⟨S1x1x1024, .f32⟩
  | .local _ .vmem, ⟨10, _⟩ => ⟨S256x1024, .f32⟩
  | .local _ .vmem, ⟨11, _⟩ => ⟨S256x1024, .f32⟩
  | .local _ .smem, ⟨0, _⟩ => ⟨S544, .i32⟩
  | _, _ => ⟨S139264x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![544], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ExpertsRefIdeal.lean ====
abbrev S544 : Shape := ⟨1, ![544]⟩
abbrev S139264x1024 : Shape := ⟨2, ![139264, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S544x256x1024 : Shape := ⟨3, ![544, 256, 1024]⟩
abbrev S_ : Shape := ⟨0, ![]⟩
abbrev S544x1 : Shape := ⟨2, ![544, 1]⟩
abbrev S544x1024x2048 : Shape := ⟨3, ![544, 1024, 2048]⟩
abbrev S544x256x2048 : Shape := ⟨3, ![544, 256, 2048]⟩
abbrev S544x2048 : Shape := ⟨2, ![544, 2048]⟩
abbrev S544x1x2048 : Shape := ⟨3, ![544, 1, 2048]⟩
abbrev S544x1024x1024 : Shape := ⟨3, ![544, 1024, 1024]⟩
abbrev S544x1024 : Shape := ⟨2, ![544, 1024]⟩
abbrev S544x1x1024 : Shape := ⟨3, ![544, 1, 1024]⟩

abbrev nBuf : Space → Nat
  | .hbm => 82
  | .vmem => 0
  | .smem => 0
  | _ => 0

abbrev bufTy : (tb : Table) → Fin (tcTables nBuf tb) → BufTy
  | .hbm, ⟨0, _⟩ => ⟨S544, .i32⟩
  | .hbm, ⟨1, _⟩ => ⟨S139264x1024, .bf16⟩
  | .hbm, ⟨2, _⟩ => ⟨S32x1024x2048, .f32⟩
  | .hbm, ⟨3, _⟩ => ⟨S32x2048, .f32⟩
  | .hbm, ⟨4, _⟩ => ⟨S32x1024x1024, .f32⟩
  | .hbm, ⟨5, _⟩ => ⟨S32x1024, .f32⟩
  | .hbm, ⟨6, _⟩ => ⟨S139264x1024, .f32⟩
  | .hbm, ⟨7, _⟩ => ⟨S544x256x1024, .f32⟩
  | .hbm, ⟨8, _⟩ => ⟨S_, .i32⟩
  | .hbm, ⟨9, _⟩ => ⟨S544, .i32⟩
  | .hbm, ⟨10, _⟩ => ⟨S544, .i1⟩
  | .hbm, ⟨11, _⟩ => ⟨S_, .i32⟩
  | .hbm, ⟨12, _⟩ => ⟨S544, .i32⟩
  | .hbm, ⟨13, _⟩ => ⟨S544, .i32⟩
  | .hbm, ⟨14, _⟩ => ⟨S544, .i32⟩
  | .hbm, ⟨15, _⟩ => ⟨S544x1, .i32⟩
  | .hbm, ⟨16, _⟩ => ⟨S544x1024x2048, .f32⟩
  | .hbm, ⟨17, _⟩ => ⟨S544x256x2048, .f32⟩
  | .hbm, ⟨18, _⟩ => ⟨S_, .i32⟩
  | .hbm, ⟨19, _⟩ => ⟨S544, .i32⟩
  | .hbm, ⟨20, _⟩ => ⟨S544, .i1⟩
  | .hbm, ⟨21, _⟩ => ⟨S_, .i32⟩
  | .hbm, ⟨22, _⟩ => ⟨S544, .i32⟩
  | .hbm, ⟨23, _⟩ => ⟨S544, .i32⟩
  | .hbm, ⟨24, _⟩ => ⟨S544, .i32⟩
  | .hbm, ⟨25, _⟩ => ⟨S544x1, .i32⟩
  | .hbm, ⟨26, _⟩ => ⟨S544x2048, .f32⟩
  | .hbm, ⟨27, _⟩ => ⟨S544x1x2048, .f32⟩
  | .hbm, ⟨28, _⟩ => ⟨S544x256x2048, .f32⟩
  | .hbm, ⟨29, _⟩ => ⟨S544x256x2048, .f32⟩
  | .hbm, ⟨30, _⟩ => ⟨S544x256x1024, .f32⟩
  | .hbm, ⟨31, _⟩ => ⟨S_, .f32⟩
  | .hbm, ⟨32, _⟩ => ⟨S544x256x1024, .f32⟩
  | .hbm, ⟨33, _⟩ => ⟨S544x256x1024, .f32⟩
  | .hbm, ⟨34, _⟩ => ⟨S544x256x1024, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S544x256x1024, .f32⟩
  | .hbm, ⟨39, _⟩ => ⟨S544x256x1024, .f32⟩
  | .hbm, ⟨40, _⟩ => ⟨S_, .f32⟩
  | .hbm, ⟨41, _⟩ => ⟨S544x256x1024, .f32⟩
  | .hbm, ⟨42, _⟩ => ⟨S544x256x1024, .f32⟩
  | .hbm, ⟨43, _⟩ => ⟨S_, .f32⟩
  | .hbm, ⟨44, _⟩ => ⟨S544x256x1024, .f32⟩
  | .hbm, ⟨45, _⟩ => ⟨S544x256x1024, .f32⟩
  | .hbm, ⟨46, _⟩ => ⟨S544x256x1024, .f32⟩
  | .hbm, ⟨47, _⟩ => ⟨S_, .f32⟩
  | .hbm, ⟨48, _⟩ => ⟨S544x256x1024, .f32⟩
  | .hbm, ⟨49, _⟩ => ⟨S544x256x1024, .f32⟩
  | .hbm, ⟨50, _⟩ => ⟨S544x256x1024, .f32⟩
  | .hbm, ⟨51, _⟩ => ⟨S544x256x1024, .f32⟩
  | .hbm, ⟨52, _⟩ => ⟨S_, .f32⟩
  | .hbm, ⟨53, _⟩ => ⟨S544x256x1024, .f32⟩
  | .hbm, ⟨54, _⟩ => ⟨S544x256x1024, .f32⟩
  | .hbm, ⟨55, _⟩ => ⟨S_, .f32⟩
  | .hbm, ⟨56, _⟩ => ⟨S544x256x1024, .f32⟩
  | .hbm, ⟨57, _⟩ => ⟨S544x256x1024, .f32⟩
  | .hbm, ⟨58, _⟩ => ⟨S544x256x1024, .f32⟩
  | .hbm, ⟨59, _⟩ => ⟨S_, .i32⟩
  | .hbm, ⟨60, _⟩ => ⟨S544, .i32⟩
  | .hbm, ⟨61, _⟩ => ⟨S544, .i1⟩
  | .hbm, ⟨62, _⟩ => ⟨S_, .i32⟩
  | .hbm, ⟨63, _⟩ => ⟨S544, .i32⟩
  | .hbm, ⟨64, _⟩ => ⟨S544, .i32⟩
  | .hbm, ⟨65, _⟩ => ⟨S544, .i32⟩
  | .hbm, ⟨66, _⟩ => ⟨S544x1, .i32⟩
  | .hbm, ⟨67, _⟩ => ⟨S544x1024x1024, .f32⟩
  | .hbm, ⟨68, _⟩ => ⟨S544x256x1024, .f32⟩
  | .hbm, ⟨69, _⟩ => ⟨S_, .i32⟩
  | .hbm, ⟨70, _⟩ => ⟨S544, .i32⟩
  | .hbm, ⟨71, _⟩ => ⟨S544, .i1⟩
  | .hbm, ⟨72, _⟩ => ⟨S_, .i32⟩
  | .hbm, ⟨73, _⟩ => ⟨S544, .i32⟩
  | .hbm, ⟨74, _⟩ => ⟨S544, .i32⟩
  | .hbm, ⟨75, _⟩ => ⟨S544, .i32⟩
  | .hbm, ⟨76, _⟩ => ⟨S544x1, .i32⟩
  | .hbm, ⟨77, _⟩ => ⟨S544x1024, .f32⟩
  | .hbm, ⟨78, _⟩ => ⟨S544x1x1024, .f32⟩
  | .hbm, ⟨79, _⟩ => ⟨S544x256x1024, .f32⟩
  | .hbm, ⟨80, _⟩ => ⟨S544x256x1024, .f32⟩
  | .hbm, ⟨81, _⟩ => ⟨S139264x1024, .f32⟩
  | _, _ => ⟨S544, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v24 : Ref sig .tc := ⟨.hbm, 42, rfl⟩
abbrev main_cst_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_7 : Ref sig .tc := ⟨.hbm, 52, rfl⟩
abbrev main_v32 : Ref sig .tc := ⟨.hbm, 53, rfl⟩
abbrev main_v33 : Ref sig .tc := ⟨.hbm, 54, rfl⟩
abbrev main_cst_8 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_9 : Ref sig .tc := ⟨.hbm, 59, rfl⟩
abbrev main_v37 : Ref sig .tc := ⟨.hbm, 60, rfl⟩
abbrev main_v38 : Ref sig .tc := ⟨.hbm, 61, rfl⟩
abbrev main_c_10 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_c_11 : Ref sig .tc := ⟨.hbm, 69, rfl⟩
abbrev main_v45 : Ref sig .tc := ⟨.hbm, 70, rfl⟩
abbrev main_v46 : Ref sig .tc := ⟨.hbm, 71, rfl⟩
abbrev main_c_12 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩

abbrev nD : Nat := 1
abbrev τ : Topo := Topo.v7x

variable {F : FTy → Type} [FloatOps F]
-- ==== InProj.lean ====
abbrev S32768x1024 : Shape := ⟨2, ![32768, 1024]⟩
abbrev S1024 : Shape := ⟨1, ![1024]⟩
abbrev S1024x2752 : Shape := ⟨2, ![1024, 2752]⟩
abbrev S1024x1344 : Shape := ⟨2, ![1024, 1344]⟩
abbrev S_ : Shape := ⟨0, ![]⟩
abbrev S1024x64 : Shape := ⟨2, ![1024, 64]⟩
abbrev S1024x1408 : Shape := ⟨2, ![1024, 1408]⟩
abbrev S1024x2816 : Shape := ⟨2, ![1024, 2816]⟩
abbrev S1x1024 : Shape := ⟨2, ![1, 1024]⟩
abbrev S32768x1408 : Shape := ⟨2, ![32768, 1408]⟩
abbrev S32768x384 : Shape := ⟨2, ![32768, 384]⟩
abbrev S32768x256 : Shape := ⟨2, ![32768, 256]⟩
abbrev S512x1024 : Shape := ⟨2, ![512, 1024]⟩
abbrev S512x1408 : Shape := ⟨2, ![512, 1408]⟩
abbrev S512x384 : Shape := ⟨2, ![512, 384]⟩
abbrev S512x256 : Shape := ⟨2, ![512, 256]⟩
abbrev S512 : Shape := ⟨1, ![512]⟩
abbrev S512x1 : Shape := ⟨2, ![512, 1]⟩
abbrev S1024x384 : Shape := ⟨2, ![1024, 384]⟩
abbrev S1024x256 : Shape := ⟨2, ![1024, 256]⟩

abbrev nBuf : Space → Nat
  | .hbm => 17
  | .vmem => 15
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024, .f32⟩
  | .hbm, ⟨3, _⟩ => ⟨S1024x2752, .f32⟩
  | .hbm, ⟨4, _⟩ => ⟨S1024x1344, .f32⟩
  | .hbm, ⟨5, _⟩ => ⟨S_, .f32⟩
  | .hbm, ⟨6, _⟩ => ⟨S1024x64, .f32⟩
  | .hbm, ⟨7, _⟩ => ⟨S1024x1408, .f32⟩
  | .hbm, ⟨8, _⟩ => ⟨S1024x2816, .f32⟩
  | .hbm, ⟨9, _⟩ => ⟨S1024x2816, .bf16⟩
  | .hbm, ⟨10, _⟩ => ⟨S1x1024, .f32⟩
  | .hbm, ⟨11, _⟩ => ⟨S1x1024, .f32⟩
  | .hbm, ⟨12, _⟩ => ⟨S32768x1408, .f32⟩
  | .hbm, ⟨13, _⟩ => ⟨S32768x384, .f32⟩
  | .hbm, ⟨14, _⟩ => ⟨S32768x384, .f32⟩
  | .hbm, ⟨15, _⟩ => ⟨S32768x384, .f32⟩
  | .hbm, ⟨16, _⟩ => ⟨S32768x256, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x2816, .bf16⟩
  | .local _ .vmem, ⟨5, _⟩ => ⟨S512x1408, .f32⟩
  | .local _ .vmem, ⟨6, _⟩ => ⟨S512x1408, .f32⟩
  | .local _ .vmem, ⟨7, _⟩ => ⟨S512x384, .f32⟩
  | .local _ .vmem, ⟨8, _⟩ => ⟨S512x384, .f32⟩
  | .local _ .vmem, ⟨9, _⟩ => ⟨S512x384, .f32⟩
  | .local _ .vmem, ⟨10, _⟩ => ⟨S512x384, .f32⟩
  | .local _ .vmem, ⟨11, _⟩ => ⟨S512x384, .f32⟩
  | .local _ .vmem, ⟨12, _⟩ => ⟨S512x384, .f32⟩
  | .local _ .vmem, ⟨13, _⟩ => ⟨S512x256, .f32⟩
  | .local _ .vmem, ⟨14, _⟩ => ⟨S512x256, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev main_v7_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InProjRefIdeal.lean ====
abbrev S32768x1024 : Shape := ⟨2, ![32768, 1024]⟩
abbrev S1024 : Shape := ⟨1, ![1024]⟩
abbrev S1024x2752 : Shape := ⟨2, ![1024, 2752]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2752 : Shape := ⟨2, ![32768, 2752]⟩
abbrev S32768x1344 : Shape := ⟨2, ![32768, 1344]⟩
abbrev S32768x1408 : Shape := ⟨2, ![32768, 1408]⟩
abbrev S32768x384 : Shape := ⟨2, ![32768, 384]⟩
abbrev S32768x256 : Shape := ⟨2, ![32768, 256]⟩

abbrev nBuf : Space → Nat
  | .hbm => 42
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024, .f32⟩
  | .hbm, ⟨3, _⟩ => ⟨S1024x2752, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S32768x1024, .f32⟩
  | .hbm, ⟨11, _⟩ => ⟨S32768x1024, .f32⟩
  | .hbm, ⟨12, _⟩ => ⟨S32768x1024, .f32⟩
  | .hbm, ⟨13, _⟩ => ⟨S_, .f32⟩
  | .hbm, ⟨14, _⟩ => ⟨S32768, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S32768x1024, .f32⟩
  | .hbm, ⟨20, _⟩ => ⟨S32768x1024, .f32⟩
  | .hbm, ⟨21, _⟩ => ⟨S_, .f32⟩
  | .hbm, ⟨22, _⟩ => ⟨S32768x1, .f32⟩
  | .hbm, ⟨23, _⟩ => ⟨S32768x1, .f32⟩
  | .hbm, ⟨24, _⟩ => ⟨S32768x1, .f32⟩
  | .hbm, ⟨25, _⟩ => ⟨S32768x1024, .f32⟩
  | .hbm, ⟨26, _⟩ => ⟨S32768x1024, .f32⟩
  | .hbm, ⟨27, _⟩ => ⟨S1x1024, .f32⟩
  | .hbm, ⟨28, _⟩ => ⟨S32768x1024, .f32⟩
  | .hbm, ⟨29, _⟩ => ⟨S32768x1024, .f32⟩
  | .hbm, ⟨30, _⟩ => ⟨S1x1024, .f32⟩
  | .hbm, ⟨31, _⟩ => ⟨S32768x1024, .f32⟩
  | .hbm, ⟨32, _⟩ => ⟨S32768x1024, .f32⟩
  | .hbm, ⟨33, _⟩ => ⟨S32768x2752, .f32⟩
  | .hbm, ⟨34, _⟩ => ⟨S32768x1344, .f32⟩
  | .hbm, ⟨35, _⟩ => ⟨S_, .i32⟩
  | .hbm, ⟨36, _⟩ => ⟨S_, .f32⟩
  | .hbm, ⟨37, _⟩ => ⟨S32768x1408, .f32⟩
  | .hbm, ⟨38, _⟩ => ⟨S32768x384, .f32⟩
  | .hbm, ⟨39, _⟩ => ⟨S32768x384, .f32⟩
  | .hbm, ⟨40, _⟩ => ⟨S32768x384, .f32⟩
  | .hbm, ⟨41, _⟩ => ⟨S32768x256, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c : Ref sig .tc := ⟨.hbm, 35, rfl⟩
abbrev main_call0_v0 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Combine.lean ====
abbrev S32768x1024 : Shape := ⟨2, ![32768, 1024]⟩
abbrev S4x32768x1024 : Shape := ⟨3, ![4, 32768, 1024]⟩
abbrev S32768x128 : Shape := ⟨2, ![32768, 128]⟩
abbrev S1024 : Shape := ⟨1, ![1024]⟩
abbrev S1x1024 : Shape := ⟨2, ![1, 1024]⟩
abbrev S512x1024 : Shape := ⟨2, ![512, 1024]⟩
abbrev S4x512x1024 : Shape := ⟨3, ![4, 512, 1024]⟩
abbrev S512x128 : Shape := ⟨2, ![512, 128]⟩
abbrev S512x1 : Shape := ⟨2, ![512, 1]⟩
abbrev S1x512x1024 : Shape := ⟨3, ![1, 512, 1024]⟩
abbrev S512 : Shape := ⟨1, ![512]⟩

abbrev nBuf : Space → Nat
  | .hbm => 8
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S4x32768x1024, .f32⟩
  | .hbm, ⟨2, _⟩ => ⟨S32768x128, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S4x512x1024, .f32⟩
  | .local _ .vmem, ⟨3, _⟩ => ⟨S4x512x1024, .f32⟩
  | .local _ .vmem, ⟨4, _⟩ => ⟨S512x128, .f32⟩
  | .local _ .vmem, ⟨5, _⟩ => ⟨S512x128, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== CombineRefIdeal.lean ====
abbrev S32768x1024 : Shape := ⟨2, ![32768, 1024]⟩
abbrev S4x32768x1024 : Shape := ⟨3, ![4, 32768, 1024]⟩
abbrev S32768x128 : Shape := ⟨2, ![32768, 128]⟩
abbrev S1024 : Shape := ⟨1, ![1024]⟩
abbrev S32768x4 : Shape := ⟨2, ![32768, 4]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S4x32768x1024, .f32⟩
  | .hbm, ⟨2, _⟩ => ⟨S32768x128, .f32⟩
  | .hbm, ⟨3, _⟩ => ⟨S1024, .f32⟩
  | .hbm, ⟨4, _⟩ => ⟨S1024, .f32⟩
  | .hbm, ⟨5, _⟩ => ⟨S32768x4, .f32⟩
  | .hbm, ⟨6, _⟩ => ⟨S32768x1024, .f32⟩
  | .hbm, ⟨7, _⟩ => ⟨S_, .f32⟩
  | .hbm, ⟨8, _⟩ => ⟨S32768x1024, .f32⟩
  | .hbm, ⟨9, _⟩ => ⟨S32768x1024, .f32⟩
  | .hbm, ⟨10, _⟩ => ⟨S32768x1024, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S_, .f32⟩
  | .hbm, ⟨21, _⟩ => ⟨S32768, .f32⟩
  | .hbm, ⟨22, _⟩ => ⟨S32768x1, .f32⟩
  | .hbm, ⟨23, _⟩ => ⟨S_, .f32⟩
  | .hbm, ⟨24, _⟩ => ⟨S32768x1, .f32⟩
  | .hbm, ⟨25, _⟩ => ⟨S32768x1, .f32⟩
  | .hbm, ⟨26, _⟩ => ⟨S32768x1024, .f32⟩
  | .hbm, ⟨27, _⟩ => ⟨S32768x1024, .f32⟩
  | .hbm, ⟨28, _⟩ => ⟨S_, .f32⟩
  | .hbm, ⟨29, _⟩ => ⟨S32768x1, .f32⟩
  | .hbm, ⟨30, _⟩ => ⟨S32768x1, .f32⟩
  | .hbm, ⟨31, _⟩ => ⟨S32768x1, .f32⟩
  | .hbm, ⟨32, _⟩ => ⟨S32768x1024, .f32⟩
  | .hbm, ⟨33, _⟩ => ⟨S32768x1024, .f32⟩
  | .hbm, ⟨34, _⟩ => ⟨S1x1024, .f32⟩
  | .hbm, ⟨35, _⟩ => ⟨S32768x1024, .f32⟩
  | .hbm, ⟨36, _⟩ => ⟨S32768x1024, .f32⟩
  | .hbm, ⟨37, _⟩ => ⟨S1x1024, .f32⟩
  | .hbm, ⟨38, _⟩ => ⟨S32768x1024, .f32⟩
  | .hbm, ⟨39, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== OutProj.lean ====
abbrev S32768x1024 : Shape := ⟨2, ![32768, 1024]⟩
abbrev S32768x384 : Shape := ⟨2, ![32768, 384]⟩
abbrev S32768x256 : Shape := ⟨2, ![32768, 256]⟩
abbrev S1024 : Shape := ⟨1, ![1024]⟩
abbrev S1024x1024 : Shape := ⟨2, ![1024, 1024]⟩
abbrev S1024x32 : Shape := ⟨2, ![1024, 32]⟩
abbrev S32 : Shape := ⟨1, ![32]⟩
abbrev S_ : Shape := ⟨0, ![]⟩
abbrev S1024x128 : Shape := ⟨2, ![1024, 128]⟩
abbrev S128 : Shape := ⟨1, ![128]⟩
abbrev S1x128 : Shape := ⟨2, ![1, 128]⟩
abbrev S1x1024 : Shape := ⟨2, ![1, 1024]⟩
abbrev S32768x128 : Shape := ⟨2, ![32768, 128]⟩
abbrev S512x1024 : Shape := ⟨2, ![512, 1024]⟩
abbrev S512x384 : Shape := ⟨2, ![512, 384]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S384x1024 : Shape := ⟨2, ![384, 1024]⟩
abbrev S256x1024 : Shape := ⟨2, ![256, 1024]⟩

abbrev nBuf : Space → Nat
  | .hbm => 31
  | .vmem => 24
  | .smem => 0
  | _ => 0

abbrev bufTy : (tb : Table) → Fin (tcTables nBuf tb) → BufTy
  | .hbm, ⟨0, _⟩ => ⟨S32768x1024, .f32⟩
  | .hbm, ⟨1, _⟩ => ⟨S32768x384, .f32⟩
  | .hbm, ⟨2, _⟩ => ⟨S32768x384, .f32⟩
  | .hbm, ⟨3, _⟩ => ⟨S32768x256, .f32⟩
  | .hbm, ⟨4, _⟩ => ⟨S1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x32, .f32⟩
  | .hbm, ⟨10, _⟩ => ⟨S32, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S1024x128, .bf16⟩
  | .hbm, ⟨15, _⟩ => ⟨S1024x128, .f32⟩
  | .hbm, ⟨16, _⟩ => ⟨S1024x128, .f32⟩
  | .hbm, ⟨17, _⟩ => ⟨S1024x128, .bf16⟩
  | .hbm, ⟨18, _⟩ => ⟨S_, .f32⟩
  | .hbm, ⟨19, _⟩ => ⟨S_, .f32⟩
  | .hbm, ⟨20, _⟩ => ⟨S128, .f32⟩
  | .hbm, ⟨21, _⟩ => ⟨S1x128, .f32⟩
  | .hbm, ⟨22, _⟩ => ⟨S1x1024, .f32⟩
  | .hbm, ⟨23, _⟩ => ⟨S1x1024, .f32⟩
  | .hbm, ⟨24, _⟩ => ⟨S1024x1024, .bf16⟩
  | .hbm, ⟨25, _⟩ => ⟨S1x1024, .f32⟩
  | .hbm, ⟨26, _⟩ => ⟨S1x1024, .f32⟩
  | .hbm, ⟨27, _⟩ => ⟨S32768x1024, .f32⟩
  | .hbm, ⟨28, _⟩ => ⟨S32768x1024, .bf16⟩
  | .hbm, ⟨29, _⟩ => ⟨S32768x128, .f32⟩
  | .hbm, ⟨30, _⟩ => ⟨S32768x128, .i32⟩
  | .local _ .vmem, ⟨0, _⟩ => ⟨S512x1024, .f32⟩
  | .local _ .vmem, ⟨1, _⟩ => ⟨S512x1024, .f32⟩
  | .local _ .vmem, ⟨2, _⟩ => ⟨S512x384, .f32⟩
  | .local _ .vmem, ⟨3, _⟩ => ⟨S512x384, .f32⟩
  | .local _ .vmem, ⟨4, _⟩ => ⟨S512x384, .f32⟩
  | .local _ .vmem, ⟨5, _⟩ => ⟨S512x384, .f32⟩
  | .local _ .vmem, ⟨6, _⟩ => ⟨S512x256, .f32⟩
  | .local _ .vmem, ⟨7, _⟩ => ⟨S512x256, .f32⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1024x128, .bf16⟩
  | .local _ .vmem, ⟨14, _⟩ => ⟨S1024x128, .bf16⟩
  | .local _ .vmem, ⟨15, _⟩ => ⟨S1x128, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S512x128, .f32⟩
  | .local _ .vmem, ⟨21, _⟩ => ⟨S512x128, .f32⟩
  | .local _ .vmem, ⟨22, _⟩ => ⟨S512x128, .i32⟩
  | .local _ .vmem, ⟨23, _⟩ => ⟨S512x128, .i32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_call1_v0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12_0 : Ref sig .tc := ⟨.hbm, 27, rfl⟩
abbrev main_v12_1 : Ref sig .tc := ⟨.hbm, 28, rfl⟩
abbrev main_v12_2 : Ref sig .tc := ⟨.hbm, 29, rfl⟩
abbrev main_v12_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .i32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== OutProjRefIdeal.lean ====
abbrev S32768x1024 : Shape := ⟨2, ![32768, 1024]⟩
abbrev S32768x384 : Shape := ⟨2, ![32768, 384]⟩
abbrev S32768x256 : Shape := ⟨2, ![32768, 256]⟩
abbrev S1024 : Shape := ⟨1, ![1024]⟩
abbrev S1024x1024 : Shape := ⟨2, ![1024, 1024]⟩
abbrev S1024x32 : Shape := ⟨2, ![1024, 32]⟩
abbrev S32 : Shape := ⟨1, ![32]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 76
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x384, .f32⟩
  | .hbm, ⟨2, _⟩ => ⟨S32768x384, .f32⟩
  | .hbm, ⟨3, _⟩ => ⟨S32768x256, .f32⟩
  | .hbm, ⟨4, _⟩ => ⟨S1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x32, .f32⟩
  | .hbm, ⟨10, _⟩ => ⟨S32, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S_, .f32⟩
  | .hbm, ⟨21, _⟩ => ⟨S32768, .f32⟩
  | .hbm, ⟨22, _⟩ => ⟨S32768x1, .f32⟩
  | .hbm, ⟨23, _⟩ => ⟨S_, .f32⟩
  | .hbm, ⟨24, _⟩ => ⟨S32768x1, .f32⟩
  | .hbm, ⟨25, _⟩ => ⟨S32768x1, .f32⟩
  | .hbm, ⟨26, _⟩ => ⟨S32768x1024, .f32⟩
  | .hbm, ⟨27, _⟩ => ⟨S32768x1024, .f32⟩
  | .hbm, ⟨28, _⟩ => ⟨S_, .f32⟩
  | .hbm, ⟨29, _⟩ => ⟨S32768x1, .f32⟩
  | .hbm, ⟨30, _⟩ => ⟨S32768x1, .f32⟩
  | .hbm, ⟨31, _⟩ => ⟨S32768x1, .f32⟩
  | .hbm, ⟨32, _⟩ => ⟨S32768x1024, .f32⟩
  | .hbm, ⟨33, _⟩ => ⟨S32768x1024, .f32⟩
  | .hbm, ⟨34, _⟩ => ⟨S1x1024, .f32⟩
  | .hbm, ⟨35, _⟩ => ⟨S32768x1024, .f32⟩
  | .hbm, ⟨36, _⟩ => ⟨S32768x1024, .f32⟩
  | .hbm, ⟨37, _⟩ => ⟨S1x1024, .f32⟩
  | .hbm, ⟨38, _⟩ => ⟨S32768x1024, .f32⟩
  | .hbm, ⟨39, _⟩ => ⟨S32768x1024, .f32⟩
  | .hbm, ⟨40, _⟩ => ⟨S32768x1024, .f32⟩
  | .hbm, ⟨41, _⟩ => ⟨S_, .f32⟩
  | .hbm, ⟨42, _⟩ => ⟨S32768x1024, .f32⟩
  | .hbm, ⟨43, _⟩ => ⟨S32768x1024, .f32⟩
  | .hbm, ⟨44, _⟩ => ⟨S32768x1024, .f32⟩
  | .hbm, ⟨45, _⟩ => ⟨S32768x1024, .f32⟩
  | .hbm, ⟨46, _⟩ => ⟨S_, .f32⟩
  | .hbm, ⟨47, _⟩ => ⟨S32768, .f32⟩
  | .hbm, ⟨48, _⟩ => ⟨S32768x1, .f32⟩
  | .hbm, ⟨49, _⟩ => ⟨S_, .f32⟩
  | .hbm, ⟨50, _⟩ => ⟨S32768x1, .f32⟩
  | .hbm, ⟨51, _⟩ => ⟨S32768x1, .f32⟩
  | .hbm, ⟨52, _⟩ => ⟨S32768x1024, .f32⟩
  | .hbm, ⟨53, _⟩ => ⟨S32768x1024, .f32⟩
  | .hbm, ⟨54, _⟩ => ⟨S32768x1024, .f32⟩
  | .hbm, ⟨55, _⟩ => ⟨S_, .f32⟩
  | .hbm, ⟨56, _⟩ => ⟨S32768, .f32⟩
  | .hbm, ⟨57, _⟩ => ⟨S32768x1, .f32⟩
  | .hbm, ⟨58, _⟩ => ⟨S_, .f32⟩
  | .hbm, ⟨59, _⟩ => ⟨S32768x1, .f32⟩
  | .hbm, ⟨60, _⟩ => ⟨S32768x1, .f32⟩
  | .hbm, ⟨61, _⟩ => ⟨S32768x1024, .f32⟩
  | .hbm, ⟨62, _⟩ => ⟨S32768x1024, .f32⟩
  | .hbm, ⟨63, _⟩ => ⟨S_, .f32⟩
  | .hbm, ⟨64, _⟩ => ⟨S32768x1, .f32⟩
  | .hbm, ⟨65, _⟩ => ⟨S32768x1, .f32⟩
  | .hbm, ⟨66, _⟩ => ⟨S32768x1, .f32⟩
  | .hbm, ⟨67, _⟩ => ⟨S32768x1024, .f32⟩
  | .hbm, ⟨68, _⟩ => ⟨S32768x1024, .f32⟩
  | .hbm, ⟨69, _⟩ => ⟨S1x1024, .f32⟩
  | .hbm, ⟨70, _⟩ => ⟨S32768x1024, .f32⟩
  | .hbm, ⟨71, _⟩ => ⟨S32768x1024, .f32⟩
  | .hbm, ⟨72, _⟩ => ⟨S1x1024, .f32⟩
  | .hbm, ⟨73, _⟩ => ⟨S32768x1024, .f32⟩
  | .hbm, ⟨74, _⟩ => ⟨S32768x1024, .f32⟩
  | .hbm, ⟨75, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_cst_8 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩

abbrev nD : Nat := 1
abbrev τ : Topo := Topo.v7x

variable {F : FTy → Type} [FloatOps F]
-- ==== MemAtt.lean ====
abbrev S16x2048x256 : Shape := ⟨3, ![16, 2048, 256]⟩
abbrev S16x256x1024 : Shape := ⟨3, ![16, 256, 1024]⟩
abbrev S1024x512 : Shape := ⟨2, ![1024, 512]⟩
abbrev S1x512x256 : Shape := ⟨3, ![1, 512, 256]⟩
abbrev S1x256x1024 : Shape := ⟨3, ![1, 256, 1024]⟩
abbrev S256x512 : Shape := ⟨2, ![256, 512]⟩
abbrev S256x1024 : Shape := ⟨2, ![256, 1024]⟩
abbrev S512x256 : Shape := ⟨2, ![512, 256]⟩
abbrev S1x256 : Shape := ⟨2, ![1, 256]⟩
abbrev S256x256 : Shape := ⟨2, ![256, 256]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S16x2048x256, .f32⟩
  | .hbm, ⟨1, _⟩ => ⟨S16x256x1024, .f32⟩
  | .hbm, ⟨2, _⟩ => ⟨S1024x512, .f32⟩
  | .hbm, ⟨3, _⟩ => ⟨S1024x512, .bf16⟩
  | .hbm, ⟨4, _⟩ => ⟨S16x2048x256, .f32⟩
  | .local _ .vmem, ⟨0, _⟩ => ⟨S1x512x256, .f32⟩
  | .local _ .vmem, ⟨1, _⟩ => ⟨S1x512x256, .f32⟩
  | .local _ .vmem, ⟨2, _⟩ => ⟨S1x256x1024, .f32⟩
  | .local _ .vmem, ⟨3, _⟩ => ⟨S1x256x1024, .f32⟩
  | .local _ .vmem, ⟨4, _⟩ => ⟨S1024x512, .bf16⟩
  | .local _ .vmem, ⟨5, _⟩ => ⟨S1x512x256, .f32⟩
  | .local _ .vmem, ⟨6, _⟩ => ⟨S1x512x256, .f32⟩
  | .local _ .vmem, ⟨7, _⟩ => ⟨S256x512, .bf16⟩
  | _, _ => ⟨S16x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MemAttRefIdeal.lean ====
abbrev S16x2048x256 : Shape := ⟨3, ![16, 2048, 256]⟩
abbrev S16x256x1024 : Shape := ⟨3, ![16, 256, 1024]⟩
abbrev S1024x512 : Shape := ⟨2, ![1024, 512]⟩
abbrev S16x2048x4x64 : Shape := ⟨4, ![16, 2048, 4, 64]⟩
abbrev S16x256x512 : Shape := ⟨3, ![16, 256, 512]⟩
abbrev S16x256x2x4x64 : Shape := ⟨5, ![16, 256, 2, 4, 64]⟩
abbrev S16x256x1x4x64 : Shape := ⟨5, ![16, 256, 1, 4, 64]⟩
abbrev S16x256x4x64 : Shape := ⟨4, ![16, 256, 4, 64]⟩
abbrev S16x4x2048x256 : Shape := ⟨4, ![16, 4, 2048, 256]⟩
abbrev S_ : Shape := ⟨0, ![]⟩
abbrev S16x4x2048 : Shape := ⟨3, ![16, 4, 2048]⟩
abbrev S16x4x2048x1 : Shape := ⟨4, ![16, 4, 2048, 1]⟩
abbrev S16x4x64x2048 : Shape := ⟨4, ![16, 4, 64, 2048]⟩

abbrev nBuf : Space → Nat
  | .hbm => 31
  | .vmem => 0
  | .smem => 0
  | _ => 0

abbrev bufTy : (tb : Table) → Fin (tcTables nBuf tb) → BufTy
  | .hbm, ⟨0, _⟩ => ⟨S16x2048x256, .f32⟩
  | .hbm, ⟨1, _⟩ => ⟨S16x256x1024, .f32⟩
  | .hbm, ⟨2, _⟩ => ⟨S1024x512, .f32⟩
  | .hbm, ⟨3, _⟩ => ⟨S16x2048x4x64, .f32⟩
  | .hbm, ⟨4, _⟩ => ⟨S16x256x512, .f32⟩
  | .hbm, ⟨5, _⟩ => ⟨S16x256x2x4x64, .f32⟩
  | .hbm, ⟨6, _⟩ => ⟨S16x256x1x4x64, .f32⟩
  | .hbm, ⟨7, _⟩ => ⟨S16x256x4x64, .f32⟩
  | .hbm, ⟨8, _⟩ => ⟨S16x4x2048x256, .f32⟩
  | .hbm, ⟨9, _⟩ => ⟨S_, .f32⟩
  | .hbm, ⟨10, _⟩ => ⟨S16x4x2048x256, .f32⟩
  | .hbm, ⟨11, _⟩ => ⟨S16x4x2048x256, .f32⟩
  | .hbm, ⟨12, _⟩ => ⟨S_, .f32⟩
  | .hbm, ⟨13, _⟩ => ⟨S16x4x2048, .f32⟩
  | .hbm, ⟨14, _⟩ => ⟨S_, .f32⟩
  | .hbm, ⟨15, _⟩ => ⟨S16x4x2048, .f32⟩
  | .hbm, ⟨16, _⟩ => ⟨S16x4x2048, .f32⟩
  | .hbm, ⟨17, _⟩ => ⟨S16x4x2048x1, .f32⟩
  | .hbm, ⟨18, _⟩ => ⟨S16x4x2048x256, .f32⟩
  | .hbm, ⟨19, _⟩ => ⟨S16x4x2048x256, .f32⟩
  | .hbm, ⟨20, _⟩ => ⟨S16x4x2048x256, .f32⟩
  | .hbm, ⟨21, _⟩ => ⟨S_, .f32⟩
  | .hbm, ⟨22, _⟩ => ⟨S16x4x2048, .f32⟩
  | .hbm, ⟨23, _⟩ => ⟨S16x4x2048x1, .f32⟩
  | .hbm, ⟨24, _⟩ => ⟨S16x4x2048x256, .f32⟩
  | .hbm, ⟨25, _⟩ => ⟨S16x4x2048x256, .f32⟩
  | .hbm, ⟨26, _⟩ => ⟨S16x256x1x4x64, .f32⟩
  | .hbm, ⟨27, _⟩ => ⟨S16x256x4x64, .f32⟩
  | .hbm, ⟨28, _⟩ => ⟨S16x4x64x2048, .f32⟩
  | .hbm, ⟨29, _⟩ => ⟨S16x2048x4x64, .f32⟩
  | .hbm, ⟨30, _⟩ => ⟨S16x2048x256, .f32⟩
  | _, _ => ⟨S16x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Router.lean ====
abbrev S32768x1024 : Shape := ⟨2, ![32768, 1024]⟩
abbrev S32768x384 : Shape := ⟨2, ![32768, 384]⟩
abbrev S32768x256 : Shape := ⟨2, ![32768, 256]⟩
abbrev S1024 : Shape := ⟨1, ![1024]⟩
abbrev S1024x1024 : Shape := ⟨2, ![1024, 1024]⟩
abbrev S1024x32 : Shape := ⟨2, ![1024, 32]⟩
abbrev S32 : Shape := ⟨1, ![32]⟩
abbrev S_ : Shape := ⟨0, ![]⟩
abbrev S1024x128 : Shape := ⟨2, ![1024, 128]⟩
abbrev S128 : Shape := ⟨1, ![128]⟩
abbrev S1x128 : Shape := ⟨2, ![1, 128]⟩
abbrev S1x1024 : Shape := ⟨2, ![1, 1024]⟩
abbrev S32768x128 : Shape := ⟨2, ![32768, 128]⟩
abbrev S512x1024 : Shape := ⟨2, ![512, 1024]⟩
abbrev S512x384 : Shape := ⟨2, ![512, 384]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S384x1024 : Shape := ⟨2, ![384, 1024]⟩
abbrev S256x1024 : Shape := ⟨2, ![256, 1024]⟩

abbrev nBuf : Space → Nat
  | .hbm => 31
  | .vmem => 24
  | .smem => 0
  | _ => 0

abbrev bufTy : (tb : Table) → Fin (tcTables nBuf tb) → BufTy
  | .hbm, ⟨0, _⟩ => ⟨S32768x1024, .f32⟩
  | .hbm, ⟨1, _⟩ => ⟨S32768x384, .f32⟩
  | .hbm, ⟨2, _⟩ => ⟨S32768x384, .f32⟩
  | .hbm, ⟨3, _⟩ => ⟨S32768x256, .f32⟩
  | .hbm, ⟨4, _⟩ => ⟨S1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x32, .f32⟩
  | .hbm, ⟨10, _⟩ => ⟨S32, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S1024x128, .bf16⟩
  | .hbm, ⟨15, _⟩ => ⟨S1024x128, .f32⟩
  | .hbm, ⟨16, _⟩ => ⟨S1024x128, .f32⟩
  | .hbm, ⟨17, _⟩ => ⟨S1024x128, .bf16⟩
  | .hbm, ⟨18, _⟩ => ⟨S_, .f32⟩
  | .hbm, ⟨19, _⟩ => ⟨S_, .f32⟩
  | .hbm, ⟨20, _⟩ => ⟨S128, .f32⟩
  | .hbm, ⟨21, _⟩ => ⟨S1x128, .f32⟩
  | .hbm, ⟨22, _⟩ => ⟨S1x1024, .f32⟩
  | .hbm, ⟨23, _⟩ => ⟨S1x1024, .f32⟩
  | .hbm, ⟨24, _⟩ => ⟨S1024x1024, .bf16⟩
  | .hbm, ⟨25, _⟩ => ⟨S1x1024, .f32⟩
  | .hbm, ⟨26, _⟩ => ⟨S1x1024, .f32⟩
  | .hbm, ⟨27, _⟩ => ⟨S32768x1024, .f32⟩
  | .hbm, ⟨28, _⟩ => ⟨S32768x1024, .bf16⟩
  | .hbm, ⟨29, _⟩ => ⟨S32768x128, .f32⟩
  | .hbm, ⟨30, _⟩ => ⟨S32768x128, .i32⟩
  | .local _ .vmem, ⟨0, _⟩ => ⟨S512x1024, .f32⟩
  | .local _ .vmem, ⟨1, _⟩ => ⟨S512x1024, .f32⟩
  | .local _ .vmem, ⟨2, _⟩ => ⟨S512x384, .f32⟩
  | .local _ .vmem, ⟨3, _⟩ => ⟨S512x384, .f32⟩
  | .local _ .vmem, ⟨4, _⟩ => ⟨S512x384, .f32⟩
  | .local _ .vmem, ⟨5, _⟩ => ⟨S512x384, .f32⟩
  | .local _ .vmem, ⟨6, _⟩ => ⟨S512x256, .f32⟩
  | .local _ .vmem, ⟨7, _⟩ => ⟨S512x256, .f32⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1024x128, .bf16⟩
  | .local _ .vmem, ⟨14, _⟩ => ⟨S1024x128, .bf16⟩
  | .local _ .vmem, ⟨15, _⟩ => ⟨S1x128, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S512x128, .f32⟩
  | .local _ .vmem, ⟨21, _⟩ => ⟨S512x128, .f32⟩
  | .local _ .vmem, ⟨22, _⟩ => ⟨S512x128, .i32⟩
  | .local _ .vmem, ⟨23, _⟩ => ⟨S512x128, .i32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_call1_v0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12_0 : Ref sig .tc := ⟨.hbm, 27, rfl⟩
abbrev main_v12_1 : Ref sig .tc := ⟨.hbm, 28, rfl⟩
abbrev main_v12_2 : Ref sig .tc := ⟨.hbm, 29, rfl⟩
abbrev main_v12_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .i32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== RouterRefIdeal.lean ====
abbrev S32768x1024 : Shape := ⟨2, ![32768, 1024]⟩
abbrev S32768x384 : Shape := ⟨2, ![32768, 384]⟩
abbrev S32768x256 : Shape := ⟨2, ![32768, 256]⟩
abbrev S1024 : Shape := ⟨1, ![1024]⟩
abbrev S1024x1024 : Shape := ⟨2, ![1024, 1024]⟩
abbrev S1024x32 : Shape := ⟨2, ![1024, 32]⟩
abbrev S32 : Shape := ⟨1, ![32]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x32 : Shape := ⟨2, ![32768, 32]⟩
abbrev S1x32 : Shape := ⟨2, ![1, 32]⟩
abbrev S32768x4 : Shape := ⟨2, ![32768, 4]⟩
abbrev S32768x128 : Shape := ⟨2, ![32768, 128]⟩

abbrev nBuf : Space → Nat
  | .hbm => 101
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x384, .f32⟩
  | .hbm, ⟨2, _⟩ => ⟨S32768x384, .f32⟩
  | .hbm, ⟨3, _⟩ => ⟨S32768x256, .f32⟩
  | .hbm, ⟨4, _⟩ => ⟨S1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x32, .f32⟩
  | .hbm, ⟨10, _⟩ => ⟨S32, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S_, .f32⟩
  | .hbm, ⟨21, _⟩ => ⟨S32768, .f32⟩
  | .hbm, ⟨22, _⟩ => ⟨S32768x1, .f32⟩
  | .hbm, ⟨23, _⟩ => ⟨S_, .f32⟩
  | .hbm, ⟨24, _⟩ => ⟨S32768x1, .f32⟩
  | .hbm, ⟨25, _⟩ => ⟨S32768x1, .f32⟩
  | .hbm, ⟨26, _⟩ => ⟨S32768x1024, .f32⟩
  | .hbm, ⟨27, _⟩ => ⟨S32768x1024, .f32⟩
  | .hbm, ⟨28, _⟩ => ⟨S_, .f32⟩
  | .hbm, ⟨29, _⟩ => ⟨S32768x1, .f32⟩
  | .hbm, ⟨30, _⟩ => ⟨S32768x1, .f32⟩
  | .hbm, ⟨31, _⟩ => ⟨S32768x1, .f32⟩
  | .hbm, ⟨32, _⟩ => ⟨S32768x1024, .f32⟩
  | .hbm, ⟨33, _⟩ => ⟨S32768x1024, .f32⟩
  | .hbm, ⟨34, _⟩ => ⟨S1x1024, .f32⟩
  | .hbm, ⟨35, _⟩ => ⟨S32768x1024, .f32⟩
  | .hbm, ⟨36, _⟩ => ⟨S32768x1024, .f32⟩
  | .hbm, ⟨37, _⟩ => ⟨S1x1024, .f32⟩
  | .hbm, ⟨38, _⟩ => ⟨S32768x1024, .f32⟩
  | .hbm, ⟨39, _⟩ => ⟨S32768x1024, .f32⟩
  | .hbm, ⟨40, _⟩ => ⟨S32768x1024, .f32⟩
  | .hbm, ⟨41, _⟩ => ⟨S_, .f32⟩
  | .hbm, ⟨42, _⟩ => ⟨S32768x1024, .f32⟩
  | .hbm, ⟨43, _⟩ => ⟨S32768x1024, .f32⟩
  | .hbm, ⟨44, _⟩ => ⟨S32768x1024, .f32⟩
  | .hbm, ⟨45, _⟩ => ⟨S32768x1024, .f32⟩
  | .hbm, ⟨46, _⟩ => ⟨S_, .f32⟩
  | .hbm, ⟨47, _⟩ => ⟨S32768, .f32⟩
  | .hbm, ⟨48, _⟩ => ⟨S32768x1, .f32⟩
  | .hbm, ⟨49, _⟩ => ⟨S_, .f32⟩
  | .hbm, ⟨50, _⟩ => ⟨S32768x1, .f32⟩
  | .hbm, ⟨51, _⟩ => ⟨S32768x1, .f32⟩
  | .hbm, ⟨52, _⟩ => ⟨S32768x1024, .f32⟩
  | .hbm, ⟨53, _⟩ => ⟨S32768x1024, .f32⟩
  | .hbm, ⟨54, _⟩ => ⟨S32768x1024, .f32⟩
  | .hbm, ⟨55, _⟩ => ⟨S_, .f32⟩
  | .hbm, ⟨56, _⟩ => ⟨S32768, .f32⟩
  | .hbm, ⟨57, _⟩ => ⟨S32768x1, .f32⟩
  | .hbm, ⟨58, _⟩ => ⟨S_, .f32⟩
  | .hbm, ⟨59, _⟩ => ⟨S32768x1, .f32⟩
  | .hbm, ⟨60, _⟩ => ⟨S32768x1, .f32⟩
  | .hbm, ⟨61, _⟩ => ⟨S32768x1024, .f32⟩
  | .hbm, ⟨62, _⟩ => ⟨S32768x1024, .f32⟩
  | .hbm, ⟨63, _⟩ => ⟨S_, .f32⟩
  | .hbm, ⟨64, _⟩ => ⟨S32768x1, .f32⟩
  | .hbm, ⟨65, _⟩ => ⟨S32768x1, .f32⟩
  | .hbm, ⟨66, _⟩ => ⟨S32768x1, .f32⟩
  | .hbm, ⟨67, _⟩ => ⟨S32768x1024, .f32⟩
  | .hbm, ⟨68, _⟩ => ⟨S32768x1024, .f32⟩
  | .hbm, ⟨69, _⟩ => ⟨S1x1024, .f32⟩
  | .hbm, ⟨70, _⟩ => ⟨S32768x1024, .f32⟩
  | .hbm, ⟨71, _⟩ => ⟨S32768x1024, .f32⟩
  | .hbm, ⟨72, _⟩ => ⟨S1x1024, .f32⟩
  | .hbm, ⟨73, _⟩ => ⟨S32768x1024, .f32⟩
  | .hbm, ⟨74, _⟩ => ⟨S32768x1024, .f32⟩
  | .hbm, ⟨75, _⟩ => ⟨S32768x32, .f32⟩
  | .hbm, ⟨76, _⟩ => ⟨S1x32, .f32⟩
  | .hbm, ⟨77, _⟩ => ⟨S32768x32, .f32⟩
  | .hbm, ⟨78, _⟩ => ⟨S32768x32, .f32⟩
  | .hbm, ⟨79, _⟩ => ⟨S32768x4, .f32⟩
  | .hbm, ⟨80, _⟩ => ⟨S32768x4, .i32⟩
  | .hbm, ⟨81, _⟩ => ⟨S_, .f32⟩
  | .hbm, ⟨82, _⟩ => ⟨S32768, .f32⟩
  | .hbm, ⟨83, _⟩ => ⟨S_, .f32⟩
  | .hbm, ⟨84, _⟩ => ⟨S32768, .f32⟩
  | .hbm, ⟨85, _⟩ => ⟨S32768, .f32⟩
  | .hbm, ⟨86, _⟩ => ⟨S32768x1, .f32⟩
  | .hbm, ⟨87, _⟩ => ⟨S32768x4, .f32⟩
  | .hbm, ⟨88, _⟩ => ⟨S32768x4, .f32⟩
  | .hbm, ⟨89, _⟩ => ⟨S32768x4, .f32⟩
  | .hbm, ⟨90, _⟩ => ⟨S_, .f32⟩
  | .hbm, ⟨91, _⟩ => ⟨S32768, .f32⟩
  | .hbm, ⟨92, _⟩ => ⟨S32768x1, .f32⟩
  | .hbm, ⟨93, _⟩ => ⟨S32768x4, .f32⟩
  | .hbm, ⟨94, _⟩ => ⟨S32768x4, .f32⟩
  | .hbm, ⟨95, _⟩ => ⟨S_, .i32⟩
  | .hbm, ⟨96, _⟩ => ⟨S_, .f32⟩
  | .hbm, ⟨97, _⟩ => ⟨S32768x128, .f32⟩
  | .hbm, ⟨98, _⟩ => ⟨S_, .i32⟩
  | .hbm, ⟨99, _⟩ => ⟨S_, .i32⟩
  | .hbm, ⟨100, _⟩ => ⟨S32768x128, .i32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_cst_8 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_values : Ref sig .tc := ⟨.hbm, 79, rfl⟩
abbrev main_indices : Ref sig .tc := ⟨.hbm, 80, rfl⟩
abbrev main_cst_10 : Ref sig .tc := ⟨.hbm, 81, rfl⟩
abbrev main_v57 : Ref sig .tc := ⟨.hbm, 82, rfl⟩
abbrev main_cst_11 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_12 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_c : Ref sig .tc := ⟨.hbm, 95, rfl⟩
abbrev main_call0_v0 : Ref sig .tc := ⟨.hbm, 96, rfl⟩
abbrev main_v68 : Ref sig .tc := ⟨.hbm, 97, rfl⟩
abbrev main_c_13 : Ref sig .tc := ⟨.hbm, 98, rfl⟩
abbrev main_call1_v0 : Ref sig .tc := ⟨.hbm, 99, rfl⟩
abbrev main_v69 : Ref sig .tc := ⟨.hbm, 100, rfl⟩

abbrev nD : Nat := 1
abbrev τ : Topo := Topo.v7x

variable {F : FTy → Type} [FloatOps F]
-- ==== Proof.ExpertsSpec.lean ====
/- One row of one expert, written on extended reals: the two halves of the hidden vector, the clamped gate, and the second
   product. Both programs' results are shown to be this function at every entry. -/
module

public import Idealize.ShloMosaic.PureOps.Ideal.Laws
public import Idealize.ShloMosaic.Lib.ValueIdx

@[expose] public section

noncomputable section

namespace Cert.ExpertsSpec

open Idealize.ShloMosaic

/-- A 32-bit literal as the number it names. -/
abbrev lit (b : BitVec 32) : EReal := Ideal.ofBits .f32 b

/-- Entry `h` of the hidden vector of a row `x`: the first product plus its bias. -/
def hidden (x : Fin 1024 → EReal) (w : Fin 1024 → Fin 2048 → EReal) (b : Fin 2048 → EReal) (h : Fin 2048) : EReal :=
  (∑ k : Fin 1024, x k * w k h) + b h

/-- The clamped gate: `(clip(u) + 1) · min(g, 7) · 1 / (1 + exp (−α · min(g, 7)))`. -/
def gated (g u : EReal) : EReal :=
  (min (lit 0x40E00000#32) (max (lit 0xC0E00000#32) u) + lit 0x3F800000#32) * min g (lit 0x40E00000#32)
    * Ideal.div (lit 0x3F800000#32)
      (lit 0x3F800000#32 + Ideal.exp (-(lit 0x3FD9DB23#32 * min g (lit 0x40E00000#32))))

/-- Column `j` of the first half, as a column of the hidden vector. -/
abbrev lower (j : Fin 1024) : Fin 2048 := ⟨j.val, by omega⟩
/-- Column `j` of the second half, as a column of the hidden vector. -/
abbrev upper (j : Fin 1024) : Fin 2048 := ⟨1024 + j.val, by omega⟩

/-- Entry `j` of the expert's answer to the row `x`. -/
def answer (x : Fin 1024 → EReal) (w : Fin 1024 → Fin 2048 → EReal) (b : Fin 2048 → EReal)
    (v : Fin 1024 → Fin 1024 → EReal) (c : Fin 1024 → EReal) (j : Fin 1024) : EReal :=
  (∑ h : Fin 1024, gated (hidden x w b (lower h)) (hidden x w b (upper h)) * v h j) + c j

end Cert.ExpertsSpec

end
-- ==== Proof.ExpertsPay.lean ====
/- The value one grid point of the expert call stores, read at an index. -/
module

public import proofs.«01_k».proof.Proof.Gen.ExpertsIdeal.Frame
public import proofs.«01_k».proof.Proof.ExpertsSpec
public import Idealize.ShloMosaic.Lib.Pointwise
public import Idealize.ShloMosaic.Lib.Pointwise.IndexBridge
public import Idealize.ShloMosaic.Lib.Pointwise.Contract

@[expose] public section

noncomputable section

namespace Cert.ExpertsBlock

open Idealize.ShloMosaic Idealize.ShloMosaic.TcCoe
open Cert.ExpertsIdeal Cert.ExpertsIdeal.Gen Cert.ExpertsSpec

/-- What a grid point stores, at an index: the answer of its expert blocks. -/
theorem pay (x0 : Vec Ideal S256x1024 .bf16) (x1 : Vec Ideal S1x1024x2048 .bf16) (x2 : Vec Ideal S1x1x2048 .f32)
    (x3 : Vec Ideal S1x1024x1024 .bf16) (x4 : Vec Ideal S1x1x1024 .f32) (p : Fin 256) (j : Fin 1024) :
    k0_pay1 (k0_pay2 x0 x1 x2 x3) (k0_pay3 x4) (ix2 p j)
      = answer (fun k => x0 (ix2 p k)) (fun k j => x1 (ix3 0 k j)) (fun j => x2 (ix3 0 0 j))
          (fun k j => x3 (ix3 0 k j)) (fun j => x4 (ix3 0 0 j)) j := by
  unfold_payloads
  pointwise [answer, gated, Cert.ExpertsSpec.hidden, lower, upper, Cert.ExpertsSpec.lit]
  simp only [zero_sub]

end Cert.ExpertsBlock

end
-- ==== Proof.ExpertsOk.lean ====
/- The precondition of the expert call, decoded: every entry of the table of experts is below 32. From it the side
   condition of the pipeline follows: at every grid point the weight blocks the table names lie inside their arrays, and
   each is whole rows of its array. -/
module

public import proofs.«01_k».proof.Defs
public import proofs.«01_k».proof.Proof.Gen.Experts.Frame
public import proofs.«01_k».proof.Proof.Gen.ExpertsIdeal.Frame
public import proofs.«01_k».proof.Proof.Gen.Pre_experts_in_range
public import Idealize.ShloMosaic.Lib.ReduceAll
public import Idealize.ShloMosaic.Lib.WordCmp
public import Idealize.ShloMosaic.Lib.PairWhole

@[expose] public section

noncomputable section

namespace Cert.ExpertsOk

open Idealize.ShloMosaic Idealize.ShloMosaic.TcCoe

variable {F : FTy → Type} [FloatOps F]

/-- The printed predicate, all ones, bounds every entry of the table. -/
theorem word_lt (be : IVec Pre_experts_in_range.S544 32) (x1 : FVec F Pre_experts_in_range.S139264x1024 .bf16)
    (x2 : FVec F Pre_experts_in_range.S32x1024x2048 .f32) (x3 : FVec F Pre_experts_in_range.S32x2048 .f32)
    (x4 : FVec F Pre_experts_in_range.S32x1024x1024 .f32) (x5 : FVec F Pre_experts_in_range.S32x1024 .f32)
    (h : Pre_experts_in_range.fn (F := F) be x1 x2 x3 x4 x5 = fun _ => 1#1) (y : Pre_experts_in_range.S544.Idx) :
    (be y).toNat < 32 := by
  have e := congrFun h (fun a => a.elim0)
  unfold Pre_experts_in_range.fn at e
  haveI : Subsingleton Pre_experts_in_range.S_.Idx := ⟨fun a b => funext fun k => k.elim0⟩
  have e1 := Host.reduce_andi_all _ _ _ _ _ e y
  have e2 : IntOp.andi (IntOp.cmpi .sge (be y) 0#32) (IntOp.cmpi .slt (be y) (BitVec.ofNat 32 32)) = 1#1 := e1
  rw [WordCmp.andi_sge_zero_slt_ofNat (by decide)] at e2
  by_contra hn
  rw [decide_eq_false hn] at e2
  exact absurd e2 (by decide)

end Cert.ExpertsOk

namespace Cert.ExpertsIdeal.OkProof

open Idealize.ShloMosaic Idealize.ShloMosaic.TcCoe Cert.ExpertsIdeal Cert.ExpertsIdeal.Gen

variable {F : FTy → Type} [FloatOps F]

/-- A table whose entries are below 32 satisfies the side condition of the four windows it steers. -/
theorem ok_of_lt (pf : pre0.Contents (Elt F)) (h : ∀ y : S544.Idx, (pf 0 y : BitVec 32).toNat < 32) : ok0 pf := by
  have key (i : grid0.Coords) : ∃ n : Nat, n < 32 ∧
      cc0_transform_1 Facts₀.k0_off1_inb Facts₀.numel1_S1 pf i = ![n, 0, 0]
      ∧ cc0_transform_2 Facts₀.k0_off1_inb Facts₀.numel1_S1 pf i = ![n, 0, 0]
      ∧ cc0_transform_3 Facts₀.k0_off1_inb Facts₀.numel1_S1 pf i = ![n, 0, 0]
      ∧ cc0_transform_4 Facts₀.k0_off1_inb Facts₀.numel1_S1 pf i = ![n, 0, 0] :=
    ⟨_, h _, rfl, rfl, rfl, rfl⟩
  refine ⟨fun i => ?_, fun i => ?_, fun i => ?_, fun i => ?_⟩
  · obtain ⟨n, hn, e, -, -, -⟩ := key i
    rw [e]
    refine ⟨fun a => ?_, .inr ?_⟩
    · match a with
      | ⟨0, _⟩ => show (n + 1) * 1 ≤ 32; omega
      | ⟨1, _⟩ => show (0 + 1) * 1024 ≤ 1024; omega
      | ⟨2, _⟩ => show (0 + 1) * 2048 ≤ 2048; omega
    · exact (Rect.wholeRows_unit (by decide) rfl rfl).wholeWords _
  · obtain ⟨n, hn, -, e, -, -⟩ := key i
    rw [e]
    refine ⟨fun a => ?_, .inl rfl⟩
    match a with
    | ⟨0, _⟩ => show (n + 1) * 1 ≤ 32; omega
    | ⟨1, _⟩ => show (0 + 1) * 1 ≤ 1; omega
    | ⟨2, _⟩ => show (0 + 1) * 2048 ≤ 2048; omega
  · obtain ⟨n, hn, -, -, e, -⟩ := key i
    rw [e]
    refine ⟨fun a => ?_, .inr ?_⟩
    · match a with
      | ⟨0, _⟩ => show (n + 1) * 1 ≤ 32; omega
      | ⟨1, _⟩ => show (0 + 1) * 1024 ≤ 1024; omega
      | ⟨2, _⟩ => show (0 + 1) * 1024 ≤ 1024; omega
    · exact (Rect.wholeRows_unit (by decide) rfl rfl).wholeWords _
  · obtain ⟨n, hn, -, -, -, e⟩ := key i
    rw [e]
    refine ⟨fun a => ?_, .inl rfl⟩
    match a with
    | ⟨0, _⟩ => show (n + 1) * 1 ≤ 32; omega
    | ⟨1, _⟩ => show (0 + 1) * 1 ≤ 1; omega
    | ⟨2, _⟩ => show (0 + 1) * 1024 ≤ 1024; omega

/-- At region entry the table is the first argument, so the precondition gives the side condition. -/
theorem ok_of_pre (m : (ℓ : Loc nD τ sig) → Buf (Elt Ideal) ℓ) (h : Cert.Pre_ExpertsIdeal m) : Ok m :=
  ok_of_lt _ fun y => by
    have e : tbl m 0 = m (((0 : Dev nD) : Thread nD τ).loc main_arg0) := V_main_arg0 m 0
    rw [e]
    exact ExpertsOk.word_lt _ _ _ _ _ _ (h 0) y

end Cert.ExpertsIdeal.OkProof

namespace Cert.Experts.OkProof

open Idealize.ShloMosaic Idealize.ShloMosaic.TcCoe Cert.Experts Cert.Experts.Gen

/-- The same of the program as printed: its side condition is the same proposition. -/
theorem ok_of_pre (m : (ℓ : Loc nD τ sig) → Buf (Elt Bits) ℓ) (h : Cert.Pre_Experts m) : Ok m := by
  have e : tbl m 0 = m (((0 : Dev nD) : Thread nD τ).loc main_arg0) := V_main_arg0 m 0
  refine Cert.ExpertsIdeal.OkProof.ok_of_lt (F := Bits) (tbl m) fun y => ?_
  rw [e]
  exact ExpertsOk.word_lt _ _ _ _ _ _ (h 0) y

end Cert.Experts.OkProof

end
-- ==== Proof.ExpertsBlock.lean ====
/- What each grid point of the expert call stages, at coordinates: row block `t` of the gathered rows, and the weights
   and biases of the expert the table names for block `t`. -/
module

public import proofs.«01_k».proof.Proof.ExpertsPay
public import proofs.«01_k».proof.Proof.ExpertsOk
public import Idealize.ShloMosaic.Lib.Pipeline.ValueKit

@[expose] public section

noncomputable section

namespace Cert.ExpertsBlock

open Idealize.ShloMosaic Idealize.ShloMosaic.TcCoe Idealize.SL.Sem
open Cert.ExpertsIdeal Cert.ExpertsIdeal.Gen Cert.ExpertsSpec

variable (m : (ℓ : Loc nD τ sig) → Buf (Elt Ideal) ℓ) (hO : Ok m) (c : Dev nD)

/-- The pieces a point stores, read back, are the payload of the point's blocks. -/
theorem out_eq (i : grid0.Coords) (arg2 : Memref sig .tc .vmem S256x1024 .bf16) (harg2 : arg2.IsWhole)
    (arg3 : Memref sig .tc .vmem S1x1024x2048 .bf16) (harg3 : arg3.IsWhole) (arg4 : Memref sig .tc .vmem S1x1x2048 .f32)
    (harg4 : arg4.IsWhole) (arg5 : Memref sig .tc .vmem S1x1024x1024 .bf16) (harg5 : arg5.IsWhole)
    (arg6 : Memref sig .tc .vmem S1x1x1024 .f32) (harg6 : arg6.IsWhole) (arg7 : Memref sig .tc .vmem S256x1024 .f32)
    (harg7 : arg7.IsWhole) (x0 : Vec Ideal S256x1024 .bf16) (x1 : Vec Ideal S1x1024x2048 .bf16)
    (x2 : Vec Ideal S1x1x2048 .f32) (x3 : Vec Ideal S1x1024x1024 .bf16) (x4 : Vec Ideal S1x1x1024 .f32) (xt0) :
    out0_A_5 c i arg2 harg2 arg3 harg3 arg4 harg4 arg5 harg5 arg6 harg6 arg7 harg7 x0 x1 x2 x3 x4 xt0
      = k0_pay1 (k0_pay2 x0 x1 x2 x3) (k0_pay3 x4) := by
  frame_out

/-- What the outputs' buffer holds after a point. -/
theorem outs_eq (t : Fin (cfgM m hO).N) : outsAt0 m hO c t
    = k0_pay1 (k0_pay2 (iblk m hO c 0 t) (iblk m hO c 1 t) (iblk m hO c 2 t) (iblk m hO c 3 t)) (k0_pay3 (iblk m hO c 4 t)) :=
  out_eq c (grid0.coords t) _ _ _ _ _ _ _ _ _ _ _ _ _ _ _ _ _ _

/-- The one coordinate of a point is its number. -/
theorem coord_val : ∀ t : Fin grid0.N, (grid0.coords t 0).val = t.val := by decide +kernel

/-- The table's word for point `t`. -/
def word (pf : pre0.Contents (Elt Ideal)) (t : Fin grid0.N) : Nat :=
  (pf 0 (ValueIdx.ix1 (n := 544) (grid0.coords t 0)) : BitVec 32).toNat

theorem first_eq (i : grid0.Coords) (inb : ∀ a, (![(BitVec.ofNat 32 (i 0).val).toNat] : Fin 1 → Nat) a + (![1] : Fin 1 → Nat) a ≤ S544.size a)
    (h1 : (Rect.unit (s := S544) ![(BitVec.ofNat 32 (i 0).val).toNat] ![1] inb).shape.numel = 1) :
    (Rect.unit (s := S544) ![(BitVec.ofNat 32 (i 0).val).toNat] ![1] inb).emb (Shape.Idx.first (h1.symm ▸ Nat.one_pos))
      = ValueIdx.ix1 (n := 544) (i 0) := by
  funext a
  match a with
  | ⟨0, _⟩ =>
    apply Fin.ext
    rw [Rect.emb_apply]
    have hi : (i 0).val < 544 := (i 0).isLt
    show (BitVec.ofNat 32 (i 0).val).toNat + 1 * 0 = (i 0).val
    rw [BitVec.toNat_ofNat]; omega

theorem index1 (t : Fin (cfgM m hO).N) : ((cfgM m hO).win 1).index t = ![word (tbl m) t, 0, 0] := by
  show ![_, 0, 0] = _
  unfold word
  rw [← first_eq (grid0.coords t) (Facts₀.k0_off1_inb _) Facts₀.numel1_S1]
  rfl
theorem index2 (t : Fin (cfgM m hO).N) : ((cfgM m hO).win 2).index t = ![word (tbl m) t, 0, 0] := index1 m hO t
theorem index3 (t : Fin (cfgM m hO).N) : ((cfgM m hO).win 3).index t = ![word (tbl m) t, 0, 0] := index1 m hO t
theorem index4 (t : Fin (cfgM m hO).N) : ((cfgM m hO).win 4).index t = ![word (tbl m) t, 0, 0] := index1 m hO t

theorem index0 (t : Fin (cfgM m hO).N) : ((cfgM m hO).win 0).index t = ![t.val, 0] := by
  have h : (grid0.coords t 0).val = t.val := coord_val t
  have ht : t.val < 544 := t.isLt
  show ![(BitVec.ofNat 32 (grid0.coords t 0).val).toNat, 0] = _
  rw [h, BitVec.toNat_ofNat, Nat.mod_eq_of_lt (by omega)]
theorem index5 (t : Fin (cfgM m hO).N) : ((cfgM m hO).win 5).index t = ![t.val, 0] := index0 m hO t

/-- Row `p` of block `t` as a row of the whole array. -/
abbrev row (t : Fin 544) (p : Fin 256) : Fin 139264 := ⟨t.val * 256 + p.val, by omega⟩

theorem blk0 (t : Fin (cfgM m hO).N) (p : Fin 256) (k : Fin 1024) :
    iblk m hO c 0 t (ix2 p k) = V m c main_arg1 (ValueIdx.ix2 (row t p) k) := by
  show V m c main_arg1 ((((cfgM m hO).win 0).blk t).view.emb (ix2 p k)) = _
  refine congrArg _ (funext fun a => Fin.ext ?_)
  refine (Pipeline.Window.rect_emb_val ((cfgM m hO).win 0) t (ix2 p k) a).trans ?_
  rw [index0]
  match a with
  | ⟨0, _⟩ => rfl
  | ⟨1, _⟩ => show 0 * 1024 + k.val = k.val; omega

theorem blk1 (t : Fin (cfgM m hO).N) (e : Fin 32) (he : word (tbl m) t = e.val) (k : Fin 1024) (j : Fin 2048) :
    iblk m hO c 1 t (ix3 0 k j) = V m c main_v0 (ValueIdx.ix3 e k j) := by
  show V m c main_v0 ((((cfgM m hO).win 1).blk t).view.emb (ix3 0 k j)) = _
  refine congrArg _ (funext fun a => Fin.ext ?_)
  refine (Pipeline.Window.rect_emb_val ((cfgM m hO).win 1) t (ix3 0 k j) a).trans ?_
  rw [index1, he]
  match a with
  | ⟨0, _⟩ => show e.val * 1 + 0 = e.val; omega
  | ⟨1, _⟩ => show 0 * 1024 + k.val = k.val; omega
  | ⟨2, _⟩ => show 0 * 2048 + j.val = j.val; omega

theorem blk2 (t : Fin (cfgM m hO).N) (e : Fin 32) (he : word (tbl m) t = e.val) (j : Fin 2048) :
    iblk m hO c 2 t (ix3 0 0 j) = V m c main_v1 (ValueIdx.ix3 e 0 j) := by
  show V m c main_v1 ((((cfgM m hO).win 2).blk t).view.emb (ix3 0 0 j)) = _
  refine congrArg _ (funext fun a => Fin.ext ?_)
  refine (Pipeline.Window.rect_emb_val ((cfgM m hO).win 2) t (ix3 0 0 j) a).trans ?_
  rw [index2, he]
  match a with
  | ⟨0, _⟩ => show e.val * 1 + 0 = e.val; omega
  | ⟨1, _⟩ => rfl
  | ⟨2, _⟩ => show 0 * 2048 + j.val = j.val; omega

theorem blk3 (t : Fin (cfgM m hO).N) (e : Fin 32) (he : word (tbl m) t = e.val) (k j : Fin 1024) :
    iblk m hO c 3 t (ix3 0 k j) = V m c main_v2 (ValueIdx.ix3 e k j) := by
  show V m c main_v2 ((((cfgM m hO).win 3).blk t).view.emb (ix3 0 k j)) = _
  refine congrArg _ (funext fun a => Fin.ext ?_)
  refine (Pipeline.Window.rect_emb_val ((cfgM m hO).win 3) t (ix3 0 k j) a).trans ?_
  rw [index3, he]
  match a with
  | ⟨0, _⟩ => show e.val * 1 + 0 = e.val; omega
  | ⟨1, _⟩ => show 0 * 1024 + k.val = k.val; omega
  | ⟨2, _⟩ => show 0 * 1024 + j.val = j.val; omega

theorem blk4 (t : Fin (cfgM m hO).N) (e : Fin 32) (he : word (tbl m) t = e.val) (j : Fin 1024) :
    iblk m hO c 4 t (ix3 0 0 j) = V m c main_v3 (ValueIdx.ix3 e 0 j) := by
  show V m c main_v3 ((((cfgM m hO).win 4).blk t).view.emb (ix3 0 0 j)) = _
  refine congrArg _ (funext fun a => Fin.ext ?_)
  refine (Pipeline.Window.rect_emb_val ((cfgM m hO).win 4) t (ix3 0 0 j) a).trans ?_
  rw [index4, he]
  match a with
  | ⟨0, _⟩ => show e.val * 1 + 0 = e.val; omega
  | ⟨1, _⟩ => rfl
  | ⟨2, _⟩ => show 0 * 1024 + j.val = j.val; omega

/-- The array's entry that entry (p, j) of the output block `t` is. -/
theorem emb5 (t : Fin (cfgM m hO).N) (p : Fin 256) (j : Fin 1024) :
    (((cfgM m hO).win 5).blk t).view.emb (ix2 p j) = ValueIdx.ix2 (n0 := 139264) (n1 := 1024) (row t p) j := by
  refine (funext fun a => Fin.ext ?_)
  refine (Pipeline.Window.rect_emb_val ((cfgM m hO).win 5) t (ix2 p j) a).trans ?_
  rw [index5]
  match a with
  | ⟨0, _⟩ => rfl
  | ⟨1, _⟩ => show 0 * 1024 + j.val = j.val; omega

/-! ## The host operations before the call -/

theorem V_v0 (i : S32x1024x2048.Idx) : V m c main_v0 i = m ((c.tc : Thread nD τ).loc main_arg2) i := by
  dsimp only [V, hostOps0]
  after_results
  rfl

theorem V_v2 (i : S32x1024x1024.Idx) : V m c main_v2 i = m ((c.tc : Thread nD τ).loc main_arg4) i := by
  dsimp only [V, hostOps0]
  after_results
  rfl

theorem bias2048 (y : FVec Ideal S32x2048 .f32) (e : Fin 32) (j : Fin 2048) :
    shapeCast S32x1x2048 y shapeCasts_S32x2048_S32x1x2048 (ValueIdx.ix3 e 0 j) = y (ValueIdx.ix2 e j) := by
  refine shapeCast_apply _ _ _ _ ?_
  rw [Shape.rowMajor_val_three, Shape.rowMajor_val_two]
  show e.val * 2048 + j.val = (e.val * 1 + 0) * 2048 + j.val
  omega

theorem bias1024 (y : FVec Ideal S32x1024 .f32) (e : Fin 32) (j : Fin 1024) :
    shapeCast S32x1x1024 y shapeCasts_S32x1024_S32x1x1024 (ValueIdx.ix3 e 0 j) = y (ValueIdx.ix2 e j) := by
  refine shapeCast_apply _ _ _ _ ?_
  rw [Shape.rowMajor_val_three, Shape.rowMajor_val_two]
  show e.val * 1024 + j.val = (e.val * 1 + 0) * 1024 + j.val
  omega

theorem V_v1 (e : Fin 32) (j : Fin 2048) :
    V m c main_v1 (ValueIdx.ix3 e 0 j) = m ((c.tc : Thread nD τ).loc main_arg3) (ValueIdx.ix2 e j) := by
  have h : V m c main_v1 = shapeCast S32x1x2048 (m ((c.tc : Thread nD τ).loc main_arg3) : FVec Ideal S32x2048 .f32) shapeCasts_S32x2048_S32x1x2048 := by
    dsimp only [V, hostOps0]
    after_results
    rfl
  rw [h]
  exact bias2048 _ e j

theorem V_v3 (e : Fin 32) (j : Fin 1024) :
    V m c main_v3 (ValueIdx.ix3 e 0 j) = m ((c.tc : Thread nD τ).loc main_arg5) (ValueIdx.ix2 e j) := by
  have h : V m c main_v3 = shapeCast S32x1x1024 (m ((c.tc : Thread nD τ).loc main_arg5) : FVec Ideal S32x1024 .f32) shapeCasts_S32x1024_S32x1x1024 := by
    dsimp only [V, hostOps0]
    after_results
    rfl
  rw [h]
  exact bias1024 _ e j

/-! ## The array after the run -/

/-- Block `t` of the row `r`, and its row in the block. -/
abbrev blockOf (r : Fin 139264) : Fin 544 := ⟨r.val / 256, by omega⟩
abbrev rowOf (r : Fin 139264) : Fin 256 := ⟨r.val % 256, by omega⟩

/-- The result as a function of the arguments: `e t` the expert of block `t`. -/
def whole (e : Fin 544 → Fin 32) (i : S139264x1024.Idx) : EReal :=
  answer (fun k => m ((c.tc : Thread nD τ).loc main_arg1) (ValueIdx.ix2 (i 0) k))
    (fun k j => m ((c.tc : Thread nD τ).loc main_arg2) (ValueIdx.ix3 (e (blockOf (i 0))) k j))
    (fun j => m ((c.tc : Thread nD τ).loc main_arg3) (ValueIdx.ix2 (e (blockOf (i 0))) j))
    (fun k j => m ((c.tc : Thread nD τ).loc main_arg4) (ValueIdx.ix3 (e (blockOf (i 0))) k j))
    (fun j => m ((c.tc : Thread nD τ).loc main_arg5) (ValueIdx.ix2 (e (blockOf (i 0))) j)) (i 1)

theorem answer_congr {x x' : Fin 1024 → EReal} {w w' : Fin 1024 → Fin 2048 → EReal} {b b' : Fin 2048 → EReal}
    {v v' : Fin 1024 → Fin 1024 → EReal} {d d' : Fin 1024 → EReal} (hx : ∀ k, x k = x' k) (hw : ∀ k j, w k j = w' k j)
    (hb : ∀ j, b j = b' j) (hv : ∀ k j, v k j = v' k j) (hd : ∀ j, d j = d' j) (j : Fin 1024) :
    answer x w b v d j = answer x' w' b' v' d' j := by
  rw [funext hx, funext fun k => funext (hw k), funext hb, funext fun k => funext (hv k), funext hd]

theorem point (e : Fin 544 → Fin 32) (he : ∀ t : Fin grid0.N, word (tbl m) t = (e t).val) (t : Fin (cfgM m hO).N)
    (p : Fin 256) (j : Fin 1024) :
    outsAt0 m hO c t (ix2 p j) = whole m c e (ValueIdx.ix2 (row t p) j) := by
  have hb : blockOf (row t p) = t := Fin.ext (by show (t.val * 256 + p.val) / 256 = t.val; omega)
  refine (congrFun (outs_eq m hO c t) (ix2 p j)).trans ((pay _ _ _ _ _ p j).trans ?_)
  have hE : e (blockOf (row t p)) = e t := congrArg e hb
  unfold whole
  refine answer_congr (fun k => ?_) (fun k j => ?_) (fun j => ?_) (fun k j => ?_) (fun j => ?_) j
  · exact (blk0 m hO c t p k).trans (congrFun (V_main_arg1 m c) _)
  · exact ((blk1 m hO c t (e t) (he t) k j).trans (V_v0 m c _)).trans (by rw [← hE])
  · exact ((blk2 m hO c t (e t) (he t) j).trans (V_v1 m c _ _)).trans (by rw [← hE])
  · exact ((blk3 m hO c t (e t) (he t) k j).trans (V_v2 m c _)).trans (by rw [← hE])
  · exact ((blk4 m hO c t (e t) (he t) j).trans (V_v3 m c _ _)).trans (by rw [← hE])

/-- Every entry of the array lies in an output block. -/
theorem covered (i : S139264x1024.Idx) :
    ∃ t : Fin (cfgM m hO).N, ((cfgM m hO).win 5).flush t = true ∧ i ∈ (((cfgM m hO).win 5).blk t).view.set := by
  have hr : (i 0).val < 139264 := (i 0).isLt
  have hlt : (i 0).val / 256 < (cfgM m hO).N := by show _ < 544; omega
  refine ⟨⟨(i 0).val / 256, hlt⟩, flush0_5 _ _, ?_⟩
  have h2 : (((cfgM m hO).win 5).blk ⟨(i 0).val / 256, hlt⟩).view.emb (ix2 (rowOf (i 0)) (i 1)) = i := by
    refine (emb5 m hO ⟨(i 0).val / 256, hlt⟩ (rowOf (i 0)) (i 1)).trans (funext fun a => ?_)
    match a with
    | ⟨0, _⟩ => exact Fin.ext (by show (i 0).val / 256 * 256 + (i 0).val % 256 = (i 0).val; omega)
    | ⟨1, _⟩ => rfl
  have h3 := View.emb_mem_set (((cfgM m hO).win 5).blk ⟨(i 0).val / 256, hlt⟩).view (ix2 (rowOf (i 0)) (i 1))
  rw [h2] at h3
  exact h3

/-- What a point leaves, at any index of its block. -/
theorem point' (e : Fin 544 → Fin 32) (he : ∀ t : Fin grid0.N, word (tbl m) t = (e t).val) (t : Fin (cfgM m hO).N)
    (y : S256x1024.Idx) :
    outsAt0 m hO c t y = whole m c e ((((cfgM m hO).win 5).blk t).view.emb y) := by
  rw [eq_ix2 (n0 := 256) (n1 := 1024) y]
  exact (point m hO c e he t (y 0) (y 1)).trans (congrArg (whole m c e) (emb5 m hO t (y 0) (y 1)).symm)

/-- The result array of the call. -/
theorem array_eq (e : Fin 544 → Fin 32) (he : ∀ t : Fin grid0.N, word (tbl m) t = (e t).val) :
    (dats m hO 0 c).arrAt 5 (cfgM m hO).N = whole m c e :=
  (dats m hO 0 c).arrAt_eq_of_emb 5 (whole m c e) (fun t _ y => (congrFun (after0_5 m hO c t) y).trans (point' m hO c e he t y)) (covered m hO)

end Cert.ExpertsBlock

end
-- ==== Proof.ExpertsGather.lean ====
/- A gather of whole leading slices read at an index: where the start index names slice `e` of the operand, the result's
   slice is the operand's slice `e`. -/
module

public import Idealize.ShloMosaic.Lib.StableHlo.Predicate
public import Idealize.ShloMosaic.Lib.ValueIdx

@[expose] public section

namespace Cert.ExpertsGather

open Idealize.ShloMosaic Idealize.ShloMosaic.ValueIdx

/-- Slices of a rank-three operand. -/
theorem gather_planes {α : Type} {N A B n w : Nat}
    (wf : GatherDims.WF ⟨3, ![N, A, B]⟩ ⟨2, ![n, 1]⟩ ⟨3, ![n, A, B]⟩ [1, 2] [0] [] [0] [] 1 ![1, A, B])
    (x : (⟨3, ![N, A, B]⟩ : Shape).Idx → α) (idx : IVec ⟨2, ![n, 1]⟩ w) (p : Fin n) (a : Fin A) (b : Fin B) (e : Fin N)
    (he : (idx (ix2 p 0)).toInt.toNat = e.val) :
    Host.gather (⟨[1, 2], [0], [], [], [0], 1, ![1, A, B], wf⟩ : GatherDims _ _ _) x idx (ix3 p a b) = x (ix3 e a b) := by
  set d : GatherDims ⟨3, ![N, A, B]⟩ ⟨2, ![n, 1]⟩ ⟨3, ![n, A, B]⟩ := ⟨[1, 2], [0], [], [], [0], 1, ![1, A, B], wf⟩ with hd
  have hsi : ∀ c, d.siIdx (ix3 p a b) c = ix2 p 0 := fun c => funext fun q => match q with
    | ⟨0, _⟩ => rfl
    | ⟨1, _⟩ => Fin.ext (by have : c.val < 1 := c.isLt; show c.val = 0; omega)
  unfold Host.gather
  congr 1
  funext q
  apply Fin.ext
  match q with
  | ⟨0, _⟩ =>
    have h0 : d.start (ix3 p a b) idx 0 = e.val := by
      unfold GatherDims.start
      rw [dif_pos (show (0 : Fin 3) ∈ [(0 : Fin 3)] by decide), hsi, he]
      show min e.val (N - 1) = e.val
      have := e.isLt; omega
    show d.start (ix3 p a b) idx 0 + d.batchCoord (ix3 p a b) 0 + d.offCoord (ix3 p a b) 0 = e.val
    rw [h0]; rfl
  | ⟨1, _⟩ =>
    show d.start (ix3 p a b) idx 1 + d.batchCoord (ix3 p a b) 1 + d.offCoord (ix3 p a b) 1 = a.val
    have h0 : d.start (ix3 p a b) idx 1 = 0 := rfl
    have h1 : d.batchCoord (ix3 p a b) 1 = 0 := rfl
    have h2 : d.offCoord (ix3 p a b) 1 = a.val := rfl
    omega
  | ⟨2, _⟩ =>
    show d.start (ix3 p a b) idx 2 + d.batchCoord (ix3 p a b) 2 + d.offCoord (ix3 p a b) 2 = b.val
    have h0 : d.start (ix3 p a b) idx 2 = 0 := rfl
    have h1 : d.batchCoord (ix3 p a b) 2 = 0 := rfl
    have h2 : d.offCoord (ix3 p a b) 2 = b.val := rfl
    omega

/-- Rows of a rank-two operand. -/
theorem gather_rows {α : Type} {N A n w : Nat}
    (wf : GatherDims.WF ⟨2, ![N, A]⟩ ⟨2, ![n, 1]⟩ ⟨2, ![n, A]⟩ [1] [0] [] [0] [] 1 ![1, A])
    (x : (⟨2, ![N, A]⟩ : Shape).Idx → α) (idx : IVec ⟨2, ![n, 1]⟩ w) (p : Fin n) (a : Fin A) (e : Fin N)
    (he : (idx (ix2 p 0)).toInt.toNat = e.val) :
    Host.gather (⟨[1], [0], [], [], [0], 1, ![1, A], wf⟩ : GatherDims _ _ _) x idx (ix2 p a) = x (ix2 e a) := by
  set d : GatherDims ⟨2, ![N, A]⟩ ⟨2, ![n, 1]⟩ ⟨2, ![n, A]⟩ := ⟨[1], [0], [], [], [0], 1, ![1, A], wf⟩ with hd
  have hsi : ∀ c, d.siIdx (ix2 p a) c = ix2 p 0 := fun c => funext fun q => match q with
    | ⟨0, _⟩ => rfl
    | ⟨1, _⟩ => Fin.ext (by have : c.val < 1 := c.isLt; show c.val = 0; omega)
  unfold Host.gather
  congr 1
  funext q
  apply Fin.ext
  match q with
  | ⟨0, _⟩ =>
    have h0 : d.start (ix2 p a) idx 0 = e.val := by
      unfold GatherDims.start
      rw [dif_pos (show (0 : Fin 2) ∈ [(0 : Fin 2)] by decide), hsi, he]
      show min e.val (N - 1) = e.val
      have := e.isLt; omega
    show d.start (ix2 p a) idx 0 + d.batchCoord (ix2 p a) 0 + d.offCoord (ix2 p a) 0 = e.val
    rw [h0]; rfl
  | ⟨1, _⟩ =>
    show d.start (ix2 p a) idx 1 + d.batchCoord (ix2 p a) 1 + d.offCoord (ix2 p a) 1 = a.val
    have h0 : d.start (ix2 p a) idx 1 = 0 := rfl
    have h1 : d.batchCoord (ix2 p a) 1 = 0 := rfl
    have h2 : d.offCoord (ix2 p a) 1 = a.val := rfl
    omega

end Cert.ExpertsGather
-- ==== Proof.ExpertsRefRead.lean ====
/- The expert reference at an index: entry (r, j) of its result is the answer of the expert that the table names for
   block `r / 256`, given to row `r`. -/
module

public import proofs.«01_k».proof.Proof.Gen.ExpertsRefIdeal.Read
public import proofs.«01_k».proof.Proof.ExpertsSpec
public import proofs.«01_k».proof.Proof.ExpertsGather
public import Idealize.ShloMosaic.Lib.WordCmp

@[expose] public section

noncomputable section

namespace Cert.ExpertsRefRead

open Idealize.ShloMosaic Idealize.ShloMosaic.ValueIdx Idealize.ShloMosaic.TcCoe
open Cert.ExpertsRefIdeal Cert.ExpertsRefIdeal.Gen Cert.ExpertsRefIdeal.Read Cert.ExpertsSpec

variable (x0 : (⟨S544, .i32⟩ : BufTy).Contents (Elt Ideal)) (x1 : (⟨S139264x1024, .bf16⟩ : BufTy).Contents (Elt Ideal))
  (x2 : (⟨S32x1024x2048, .f32⟩ : BufTy).Contents (Elt Ideal)) (x3 : (⟨S32x2048, .f32⟩ : BufTy).Contents (Elt Ideal))
  (x4 : (⟨S32x1024x1024, .f32⟩ : BufTy).Contents (Elt Ideal)) (x5 : (⟨S32x1024, .f32⟩ : BufTy).Contents (Elt Ideal))
  (h : ∀ y : S544.Idx, (x0 y : BitVec 32).toNat < 32)

/-- The expert of block `t`. -/
abbrev ex (x0 : (⟨S544, .i32⟩ : BufTy).Contents (Elt Ideal)) (h : ∀ y : S544.Idx, (x0 y : BitVec 32).toNat < 32)
    (t : Fin 544) : Fin 32 := ⟨(x0 (ix1 t) : BitVec 32).toNat, h _⟩

/-- A table entry below 32 is not negative: the select keeps it. -/
theorem wrap_keep (w : BitVec 32) (hw : w.toNat < 32) (v : BitVec 32) :
    Scalar.select (IntOp.cmpi .slt w 0#32) v w = w := by
  rw [WordCmp.cmpi_slt_zero, decide_eq_false (by omega)]; rfl

theorem word_nat (w : BitVec 32) (hw : w.toNat < 32) : w.toInt.toNat = w.toNat := by
  rw [BitVec.toInt_eq_toNat_of_lt (by omega)]; rfl

include h in
theorem start7 (t : Fin 544) : (val_main_v7 (F := Ideal) x0 (ix2 t 0) : BitVec 32).toInt.toNat = (ex x0 h t).val := by
  have e : val_main_v7 (F := Ideal) x0 (ix2 t 0) = x0 (ix1 t) := by
    have hi : idx_main_v7 (ix2 t 0) = ix1 t := funext fun q => match q with | ⟨0, _⟩ => rfl
    rw [val_main_v7_apply, hi, val_main_v6_apply, val_main_v3_apply, val_main_v2_apply, val_main_c_apply]
    exact wrap_keep _ (h _) _
  rw [e, word_nat _ (h _)]

theorem start15 (t : Fin 544) : (val_main_v15 (F := Ideal) x0 (ix2 t 0) : BitVec 32).toInt.toNat = (ex x0 h t).val := start7 x0 h t
theorem start42 (t : Fin 544) : (val_main_v42 (F := Ideal) x0 (ix2 t 0) : BitVec 32).toInt.toNat = (ex x0 h t).val := start7 x0 h t
theorem start50 (t : Fin 544) : (val_main_v50 (F := Ideal) x0 (ix2 t 0) : BitVec 32).toInt.toNat = (ex x0 h t).val := start7 x0 h t

theorem v8_at (t : Fin 544) (k : Fin 1024) (j : Fin 2048) :
    val_main_v8 (F := Ideal) x0 x2 (ix3 t k j) = x2 (ix3 (ex x0 h t) k j) :=
  ExpertsGather.gather_planes _ x2 _ t k j _ (start7 x0 h t)
theorem v16_at (t : Fin 544) (j : Fin 2048) :
    val_main_v16 (F := Ideal) x0 x3 (ix2 t j) = x3 (ix2 (ex x0 h t) j) :=
  ExpertsGather.gather_rows _ x3 _ t j _ (start15 x0 h t)
theorem v43_at (t : Fin 544) (k j : Fin 1024) :
    val_main_v43 (F := Ideal) x0 x4 (ix3 t k j) = x4 (ix3 (ex x0 h t) k j) :=
  ExpertsGather.gather_planes _ x4 _ t k j _ (start42 x0 h t)
theorem v51_at (t : Fin 544) (j : Fin 1024) :
    val_main_v51 (F := Ideal) x0 x5 (ix2 t j) = x5 (ix2 (ex x0 h t) j) :=
  ExpertsGather.gather_rows _ x5 _ t j _ (start50 x0 h t)

/-- Row `p` of block `t` as a row of the whole array. -/
abbrev row (t : Fin 544) (p : Fin 256) : Fin 139264 := ⟨t.val * 256 + p.val, by omega⟩

/-- The hidden entry of row `p` of block `t`. -/
theorem v19_at (t : Fin 544) (p : Fin 256) (j : Fin 2048) :
    val_main_v19 (F := Ideal) x0 x1 x2 x3 (ix3 t p j)
      = hidden (fun k => x1 (ix2 (row t p) k)) (fun k j => x2 (ix3 (ex x0 h t) k j)) (fun j => x3 (ix2 (ex x0 h t) j)) j := by
  rw [val_main_v19_apply, val_main_v9_apply, val_main_v18_apply, val_main_v17_apply]
  have e1 : ∀ k : Fin 1024, val_main_v1 (F := Ideal) x1 (lidx_main_v9 (ix3 t p j) k) = x1 (ix2 (row t p) k) := fun k => by
    rw [val_main_v1_apply]
    refine congrArg x1 (funext fun q => Fin.ext ?_)
    match q with
    | ⟨0, _⟩ => show ((t.val * 256 + p.val) * 1024 + k.val) / 1024 = t.val * 256 + p.val; omega
    | ⟨1, _⟩ => show ((t.val * 256 + p.val) * 1024 + k.val) % 1024 = k.val; omega
  have e2 : ∀ k : Fin 1024, val_main_v8 (F := Ideal) x0 x2 (ridx_main_v9 (ix3 t p j) k) = x2 (ix3 (ex x0 h t) k j) := fun k => by
    rw [← v8_at x0 x2 h]
    refine congrArg _ (funext fun q => Fin.ext ?_)
    match q with
    | ⟨0, _⟩ => rfl
    | ⟨1, _⟩ => rfl
    | ⟨2, _⟩ => rfl
  have e3 : val_main_v16 (F := Ideal) x0 x3 (idx_main_v17 (idx_main_v18 (ix3 t p j))) = x3 (ix2 (ex x0 h t) j) := by
    rw [← v16_at x0 x3 h]
    refine congrArg _ (funext fun q => Fin.ext ?_)
    match q with
    | ⟨0, _⟩ => rfl
    | ⟨1, _⟩ => rfl
  simp only [e1, e2, e3]
  rfl

/-- The gated entry of row `p` of block `t`. -/
theorem v36_at (t : Fin 544) (p : Fin 256) (j : Fin 1024) :
    val_main_v36 (F := Ideal) x0 x1 x2 x3 (ix3 t p j)
      = gated (val_main_v19 (F := Ideal) x0 x1 x2 x3 (ix3 t p (lower j))) (val_main_v19 (F := Ideal) x0 x1 x2 x3 (ix3 t p (upper j))) := by
  have e20 : val_main_v20 (F := Ideal) x0 x1 x2 x3 (ix3 t p j) = val_main_v19 (F := Ideal) x0 x1 x2 x3 (ix3 t p (lower j)) := by
    rw [val_main_v20_apply]
    refine congrArg _ (funext fun q => Fin.ext ?_)
    match q with
    | ⟨0, _⟩ => rfl
    | ⟨1, _⟩ => rfl
    | ⟨2, _⟩ => rfl
  have e23 : val_main_v23 (F := Ideal) x0 x1 x2 x3 (ix3 t p j) = val_main_v19 (F := Ideal) x0 x1 x2 x3 (ix3 t p (upper j)) := by
    rw [val_main_v23_apply]
    refine congrArg _ (funext fun q => Fin.ext ?_)
    match q with
    | ⟨0, _⟩ => rfl
    | ⟨1, _⟩ => rfl
    | ⟨2, _⟩ => rfl
  rw [← e20, ← e23]
  rw [val_main_v36_apply, val_main_v27_apply, val_main_v26_apply, val_main_v24_apply, val_main_call0_v2_apply,
    val_main_v35_apply, val_main_v33_apply, val_main_v31_apply, val_main_v30_apply, val_main_v29_apply, val_main_v22_apply,
    val_main_v21_apply, val_main_v25_apply, val_main_v28_apply, val_main_v32_apply, val_main_v34_apply,
    val_main_call0_v1_apply, val_main_call0_v4_apply]
  rfl

/-- The result at row `p` of block `t`. -/
theorem v54_at (t : Fin 544) (p : Fin 256) (j : Fin 1024) :
    val_main_v54 (F := Ideal) x0 x1 x2 x3 x4 x5 (ix3 t p j)
      = answer (fun k => x1 (ix2 (row t p) k)) (fun k j => x2 (ix3 (ex x0 h t) k j)) (fun j => x3 (ix2 (ex x0 h t) j))
          (fun k j => x4 (ix3 (ex x0 h t) k j)) (fun j => x5 (ix2 (ex x0 h t) j)) j := by
  rw [val_main_v54_apply, val_main_v44_apply, val_main_v53_apply, val_main_v52_apply]
  have e1 : ∀ k : Fin 1024, val_main_v36 (F := Ideal) x0 x1 x2 x3 (lidx_main_v44 (ix3 t p j) k)
      = gated (hidden (fun k => x1 (ix2 (row t p) k)) (fun k j => x2 (ix3 (ex x0 h t) k j)) (fun j => x3 (ix2 (ex x0 h t) j)) (lower k))
          (hidden (fun k => x1 (ix2 (row t p) k)) (fun k j => x2 (ix3 (ex x0 h t) k j)) (fun j => x3 (ix2 (ex x0 h t) j)) (upper k)) :=
    fun k => by
      rw [← v19_at x0 x1 x2 x3 h, ← v19_at x0 x1 x2 x3 h, ← v36_at]
      refine congrArg _ (funext fun q => Fin.ext ?_)
      match q with
      | ⟨0, _⟩ => rfl
      | ⟨1, _⟩ => rfl
      | ⟨2, _⟩ => rfl
  have e2 : ∀ k : Fin 1024, val_main_v43 (F := Ideal) x0 x4 (ridx_main_v44 (ix3 t p j) k) = x4 (ix3 (ex x0 h t) k j) := fun k => by
    rw [← v43_at x0 x4 h]
    refine congrArg _ (funext fun q => Fin.ext ?_)
    match q with
    | ⟨0, _⟩ => rfl
    | ⟨1, _⟩ => rfl
    | ⟨2, _⟩ => rfl
  have e3 : val_main_v51 (F := Ideal) x0 x5 (idx_main_v52 (idx_main_v53 (ix3 t p j))) = x5 (ix2 (ex x0 h t) j) := by
    rw [← v51_at x0 x5 h]
    refine congrArg _ (funext fun q => Fin.ext ?_)
    match q with
    | ⟨0, _⟩ => rfl
    | ⟨1, _⟩ => rfl
  simp only [e1, e2, e3]
  rfl

/-- The whole result at row `p` of block `t`. -/
theorem v55_at (t : Fin 544) (p : Fin 256) (j : Fin 1024) :
    val_main_v55 (F := Ideal) x0 x1 x2 x3 x4 x5 (ix2 (row t p) j)
      = answer (fun k => x1 (ix2 (row t p) k)) (fun k j => x2 (ix3 (ex x0 h t) k j)) (fun j => x3 (ix2 (ex x0 h t) j))
          (fun k j => x4 (ix3 (ex x0 h t) k j)) (fun j => x5 (ix2 (ex x0 h t) j)) j := by
  rw [val_main_v55_apply, ← v54_at x0 x1 x2 x3 x4 x5 h t p j]
  refine congrArg _ (funext fun q => Fin.ext ?_)
  match q with
  | ⟨0, _⟩ => show ((t.val * 256 + p.val) * 1024 + j.val) / 262144 = t.val; omega
  | ⟨1, _⟩ => show ((t.val * 256 + p.val) * 1024 + j.val) / 1024 % 256 = p.val; omega
  | ⟨2, _⟩ => show ((t.val * 256 + p.val) * 1024 + j.val) % 1024 = j.val; omega

end Cert.ExpertsRefRead

end
-- ==== Proof.ExpertsMain.lean ====
/- The claims about the expert call: its frames under the precondition, the reference's frame, and the equality of the
   two results. -/
module

public import proofs.«01_k».proof.Proof.ExpertsBlock
public import proofs.«01_k».proof.Proof.ExpertsRefRead
public import Idealize.ShloMosaic.Lib.Claim

@[expose] public section

noncomputable section

namespace Cert.ExpertsMain

open Idealize.ShloMosaic Idealize.ShloMosaic.TcCoe Idealize.SL.Sem

theorem frame_p : Cert.quiescent_Experts := fun m g h => Cert.Experts.Gen.frame m g (Cert.Experts.OkProof.ok_of_pre m h)

theorem frame_pi : Cert.quiescent_ExpertsIdeal :=
  fun m g h => Cert.ExpertsIdeal.Gen.frame m g (Cert.ExpertsIdeal.OkProof.ok_of_pre m h)

theorem frame_ri : Cert.quiescent_ExpertsRefIdeal := fun m g _ =>
  (θ_run Cert.ExpertsRefIdeal.defs _ _).mono (fun r h => ⟨fun c => (h c).2, sem_eq_zero_of_no_sems (by decide) r.2⟩)
    (Cert.ExpertsRefIdeal.Value.run (F := Ideal) m g)

section Value

open Cert.ExpertsIdeal Cert.ExpertsIdeal.Gen

variable (m : (ℓ : Loc nD τ sig) → Buf (Elt Ideal) ℓ) (hO : Ok m)

/-- The table's words at region entry are the first argument's. -/
theorem word_eq (t : Fin grid0.N) :
    ExpertsBlock.word (tbl m) t = (m (((0 : Dev nD).tc : Thread nD τ).loc main_arg0) (ValueIdx.ix1 (n := 544) t) : BitVec 32).toNat := by
  have e : tbl m 0 = m (((0 : Dev nD) : Thread nD τ).loc main_arg0) := V_main_arg0 m 0
  have h : (grid0.coords t 0) = t := Fin.ext (ExpertsBlock.coord_val t)
  unfold ExpertsBlock.word
  rw [e, h]

include hO in
/-- What the call ends with, and its arguments. -/
theorem run_value (g : Dev nD → PrngReg) (e : Fin 544 → Fin 32) (he : ∀ t : Fin grid0.N, ExpertsBlock.word (tbl m) t = (e t).val) :
    θ_run defs (onTc (τ := τ) (main (F := Ideal))) ⟨m, fun _ => 0, g⟩ (fun r => ∀ c : Dev nD,
      r.2.mem ((c.tc : Thread nD τ).loc main_v4) = ExpertsBlock.whole m c e
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono
    (fun r h c => ⟨((h.1.out_eq c 5).trans (ExpertsBlock.array_eq m hO c e he)), h.2 c⟩)
    (θ_run_and (run_main m g hO) (unchanged m g hO))

/-- The reference's array at this memory's arguments is the kernel's. -/
theorem ref_whole (c : Dev nD) (h : ∀ y : S544.Idx, (m ((c.tc : Thread nD τ).loc main_arg0) y : BitVec 32).toNat < 32) :
    Cert.ExpertsRefIdeal.Read.val_main_v55 (F := Ideal) (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      = ExpertsBlock.whole m c (ExpertsRefRead.ex _ h) := by
  funext i
  have hrow : ExpertsRefRead.row (ExpertsBlock.blockOf (i 0)) (ExpertsBlock.rowOf (i 0)) = i 0 :=
    Fin.ext (by show (i 0).val / 256 * 256 + (i 0).val % 256 = (i 0).val; omega)
  have hi : i = ValueIdx.ix2 (n0 := 139264) (n1 := 1024) (i 0) (i 1) := by
    funext a
    match a with
    | ⟨0, _⟩ => rfl
    | ⟨1, _⟩ => rfl
  have key := ExpertsRefRead.v55_at (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    h (ExpertsBlock.blockOf (i 0)) (ExpertsBlock.rowOf (i 0)) (i 1)
  rw [hrow] at key
  exact (congrArg _ hi).trans key

end Value

/-- The two programs' results are equal. -/
theorem algebraic : Cert.algebraic_ExpertsIdeal_ExpertsRefIdeal := by
  intro m g m' g' hpre hagree
  have hO := Cert.ExpertsIdeal.OkProof.ok_of_pre m hpre
  have hlt : ∀ y : Cert.ExpertsIdeal.S544.Idx,
      (m (((0 : Dev Cert.ExpertsIdeal.nD).tc : Thread Cert.ExpertsIdeal.nD Cert.ExpertsIdeal.τ).loc Cert.ExpertsIdeal.main_arg0) y : BitVec 32).toNat < 32 :=
    fun y => ExpertsOk.word_lt _ _ _ _ _ _ (hpre 0) y
  refine ⟨fun c => ExpertsBlock.whole m c (ExpertsRefRead.ex _ hlt), run_value m hO g _ (word_eq m), ?_⟩
  refine (θ_run Cert.ExpertsRefIdeal.defs _ _).mono (fun r h c => ⟨(h c).1.trans ?_, (h c).2⟩)
    (Cert.ExpertsRefIdeal.Value.run (F := Ideal) m' g')
  obtain rfl : c = (0 : Fin 1) := Subsingleton.elim _ _
  refine (ExpertsRefIdeal.Read.val_main_v55_eq m' _).trans ?_
  obtain ⟨h0, h1, h2, h3, h4, h5⟩ := hagree (0 : Fin 1)
  rw [h0, h1, h2, h3, h4, h5]
  exact ref_whole m 0 hlt

end Cert.ExpertsMain

end
-- ==== Proof.Norm.lean ====
/- Layer normalisation of one row of 1024 entries, written on extended reals. -/
module

public import Idealize.ShloMosaic.PureOps.Ideal.Laws
public import Idealize.ShloMosaic.Lib.ValueIdx

@[expose] public section

noncomputable section

namespace Cert.Norm

open Idealize.ShloMosaic

/-- A 32-bit literal as the number it names. -/
abbrev lit (b : BitVec 32) : EReal := Ideal.ofBits .f32 b

/-- The mean of a row: its sum divided by 1024. -/
def mean (x : Fin 1024 → EReal) : EReal := Ideal.div (∑ k : Fin 1024, x k) (lit 0x44800000#32)

/-- The mean of the squared distances from the mean. -/
def spread (x : Fin 1024 → EReal) : EReal :=
  Ideal.div (∑ k : Fin 1024, (x k - mean x) * (x k - mean x)) (lit 0x44800000#32)

/-- The row, normalised, scaled by `g` and shifted by `b`. -/
def normed (x g b : Fin 1024 → EReal) (j : Fin 1024) : EReal :=
  (x j - mean x) * Ideal.rsqrt (spread x + lit 0x3727C5AC#32) * g j + b j

theorem normed_congr {x x' g g' b b' : Fin 1024 → EReal} (hx : ∀ k, x k = x' k) (hg : ∀ k, g k = g' k)
    (hb : ∀ k, b k = b' k) (j : Fin 1024) : normed x g b j = normed x' g' b' j := by
  rw [funext hx, funext hg, funext hb]

/-- A row `h`, times the residual factor, plus four rows weighted by `w`. -/
def mixed (h : Fin 1024 → EReal) (y : Fin 4 → Fin 1024 → EReal) (w : Fin 4 → EReal) (j : Fin 1024) : EReal :=
  lit 0x3F9837F0#32 * h j + ∑ k : Fin 4, y k j * w k

theorem mixed_congr {h h' : Fin 1024 → EReal} {y y' : Fin 4 → Fin 1024 → EReal} {w w' : Fin 4 → EReal}
    (hh : ∀ k, h k = h' k) (hy : ∀ a k, y a k = y' a k) (hw : ∀ a, w a = w' a) (j : Fin 1024) :
    mixed h y w j = mixed h' y' w' j := by
  rw [funext hh, funext fun a => funext (hy a), funext hw]

/-- The four weighted rows added one after another. -/
theorem mixed_seq (h : Fin 1024 → EReal) (y : Fin 4 → Fin 1024 → EReal) (w : Fin 4 → EReal) (j : Fin 1024) :
    mixed h y w j = lit 0x3F9837F0#32 * h j + w 0 * y 0 j + w 1 * y 1 j + w 2 * y 2 j + w 3 * y 3 j := by
  unfold mixed
  rw [Fin.sum_univ_four, mul_comm (y 0 j), mul_comm (y 1 j), mul_comm (y 2 j), mul_comm (y 3 j)]
  simp only [add_assoc]

/-- Column `k` of the four columns of weights, among 128. -/
abbrev lane4 (k : Fin 4) : Fin 128 := ⟨k.val, by omega⟩

end Cert.Norm

end
-- ==== Proof.InProjPay.lean ====
/- The values one grid point of the input projection stores, read at an index. -/
module

public import proofs.«01_k».proof.Proof.Gen.InProjIdeal.Frame
public import proofs.«01_k».proof.Proof.Norm
public import Idealize.ShloMosaic.Lib.Pointwise
public import Idealize.ShloMosaic.Lib.Pointwise.IndexBridge
public import Idealize.ShloMosaic.Lib.Pointwise.Contract
public import Idealize.ShloMosaic.Lib.Pipeline.ValueKit

@[expose] public section

noncomputable section

namespace Cert.InProjBlock

open Idealize.ShloMosaic Idealize.ShloMosaic.TcCoe
open Cert.InProjIdeal Cert.InProjIdeal.Gen Cert.Norm

/-- The normalised rows a grid point multiplies. -/
theorem pay_norm (x0 : Vec Ideal S512x1024 .f32) (x1 x2 : Vec Ideal S1x1024 .f32) (p : Fin 512) (k : Fin 1024) :
    k0_pay4 x0 x1 x2 (ix2 p k) = normed (fun k => x0 (ix2 p k)) (fun k => x1 (ix2 0 k)) (fun k => x2 (ix2 0 k)) k := by
  unfold_payloads
  pointwise [normed, spread, mean, Cert.Norm.lit]

theorem pay384a (v : FVec Ideal S512x1024 .bf16) (w : Vec Ideal S1024x384 .bf16) (p : Fin 512) (j : Fin 384) :
    k0_pay1 v w (ix2 p j) = ∑ k : Fin 1024, v (ix2 p k) * w (ix2 k j) := by
  unfold_payloads
  pointwise

theorem pay384b (v : FVec Ideal S512x1024 .bf16) (w : Vec Ideal S1024x384 .bf16) (p : Fin 512) (j : Fin 384) :
    k0_pay2 v w (ix2 p j) = ∑ k : Fin 1024, v (ix2 p k) * w (ix2 k j) := pay384a v w p j

theorem pay256 (v : FVec Ideal S512x1024 .bf16) (w : Vec Ideal S1024x256 .bf16) (p : Fin 512) (j : Fin 256) :
    k0_pay3 v w (ix2 p j) = ∑ k : Fin 1024, v (ix2 p k) * w (ix2 k j) := by
  unfold_payloads
  pointwise

theorem pay1408 (x0 : Vec Ideal S512x1024 .f32) (x1 x2 : Vec Ideal S1x1024 .f32) (w : Vec Ideal S1024x1408 .bf16) (p : Fin 512) (j : Fin 1408) :
    k0_pay5 x0 x1 x2 w (ix2 p j) = ∑ k : Fin 1024, k0_pay4 x0 x1 x2 (ix2 p k) * w (ix2 k j) := by
  unfold k0_pay5
  generalize k0_pay4 x0 x1 x2 = v
  pointwise

theorem pay384c (x0 : Vec Ideal S512x1024 .f32) (x1 x2 : Vec Ideal S1x1024 .f32) (w : Vec Ideal S1024x384 .bf16) (p : Fin 512) (j : Fin 384) :
    k0_pay6 x0 x1 x2 w (ix2 p j) = ∑ k : Fin 1024, k0_pay4 x0 x1 x2 (ix2 p k) * w (ix2 k j) := pay384a (k0_pay4 x0 x1 x2) w p j

/-- Column `j` of the part of the columns that starts at `o`. -/
abbrev col (o : Nat) {n : Nat} (h : o + n ≤ 2816) (j : Fin n) : Fin 2816 := ⟨o + j.val, by omega⟩

/-- One entry of the normalised row times the matrix. -/
def entry (x g b : Fin 1024 → EReal) (w : Fin 1024 → EReal) : EReal := ∑ k : Fin 1024, normed x g b k * w k

theorem entry_congr {x x' g g' b b' w w' : Fin 1024 → EReal} (hx : ∀ k, x k = x' k) (hg : ∀ k, g k = g' k)
    (hb : ∀ k, b k = b' k) (hw : ∀ k, w k = w' k) : entry x g b w = entry x' g' b' w' := by
  rw [funext hx, funext hg, funext hb, funext hw]

variable (x0 : Vec Ideal S512x1024 .f32) (x1 x2 : Vec Ideal S1x1024 .f32) (x3 : Vec Ideal S1024x2816 .bf16) (p : Fin 512)

theorem block4 (j : Fin 1408) : out0_4 x0 x1 x2 x3 (ix2 p j)
    = entry (fun k => x0 (ix2 p k)) (fun k => x1 (ix2 0 k)) (fun k => x2 (ix2 0 k)) (fun k => x3 (ix2 k (col 0 (by omega) j))) := by
  have h : out0_4 x0 x1 x2 x3 = k0_pay5 x0 x1 x2 (View.ld x3 r0_2) := by frame_out
  refine (congrFun h _).trans ((pay1408 _ _ _ _ p j).trans (Finset.sum_congr rfl fun k _ => ?_))
  refine congrArg₂ _ (pay_norm x0 x1 x2 p k) (congrArg x3 (funext fun q => Fin.ext (match q with
      | ⟨0, _⟩ => by show 0 + 1 * k.val = k.val; omega | ⟨1, _⟩ => by show 0 + 1 * j.val = 0 + j.val; omega)))

theorem block5 (j : Fin 384) : out0_5 x0 x1 x2 x3 (ix2 p j)
    = entry (fun k => x0 (ix2 p k)) (fun k => x1 (ix2 0 k)) (fun k => x2 (ix2 0 k)) (fun k => x3 (ix2 k (col 1408 (by omega) j))) := by
  have h : out0_5 x0 x1 x2 x3 = k0_pay6 x0 x1 x2 (View.ld x3 r0_4) := by frame_out
  refine (congrFun h _).trans ((pay384c _ _ _ _ p j).trans (Finset.sum_congr rfl fun k _ => ?_))
  refine congrArg₂ _ (pay_norm x0 x1 x2 p k) (congrArg x3 (funext fun q => Fin.ext (match q with
      | ⟨0, _⟩ => by show 0 + 1 * k.val = k.val; omega | ⟨1, _⟩ => by show 1408 + 1 * j.val = 1408 + j.val; omega)))

theorem rows_eq : k0_pay7 x0 x1 x2 x3 = k0_pay4 x0 x1 x2 := by
  unfold k0_pay7
  frame_out

theorem block6 (j : Fin 384) : out0_6 x0 x1 x2 x3 (ix2 p j)
    = entry (fun k => x0 (ix2 p k)) (fun k => x1 (ix2 0 k)) (fun k => x2 (ix2 0 k)) (fun k => x3 (ix2 k (col 1792 (by omega) j))) := by
  have h : out0_6 x0 x1 x2 x3 = k0_pay1 (k0_pay4 x0 x1 x2) (View.ld x3 r0_6) := by rw [← rows_eq x0 x1 x2 x3]; frame_out
  refine (congrFun h _).trans ((pay384a _ _ p j).trans (Finset.sum_congr rfl fun k _ => ?_))
  refine congrArg₂ _ (pay_norm x0 x1 x2 p k) (congrArg x3 (funext fun q => Fin.ext (match q with
      | ⟨0, _⟩ => by show 0 + 1 * k.val = k.val; omega | ⟨1, _⟩ => by show 1792 + 1 * j.val = 1792 + j.val; omega)))

theorem block7 (j : Fin 384) : out0_7 x0 x1 x2 x3 (ix2 p j)
    = entry (fun k => x0 (ix2 p k)) (fun k => x1 (ix2 0 k)) (fun k => x2 (ix2 0 k)) (fun k => x3 (ix2 k (col 2176 (by omega) j))) := by
  have h : out0_7 x0 x1 x2 x3 = k0_pay2 (k0_pay4 x0 x1 x2) (View.ld x3 r0_7) := by rw [← rows_eq x0 x1 x2 x3]; frame_out
  refine (congrFun h _).trans ((pay384b _ _ p j).trans (Finset.sum_congr rfl fun k _ => ?_))
  refine congrArg₂ _ (pay_norm x0 x1 x2 p k) (congrArg x3 (funext fun q => Fin.ext (match q with
      | ⟨0, _⟩ => by show 0 + 1 * k.val = k.val; omega | ⟨1, _⟩ => by show 2176 + 1 * j.val = 2176 + j.val; omega)))

theorem block8 (j : Fin 256) : out0_8 x0 x1 x2 x3 (ix2 p j)
    = entry (fun k => x0 (ix2 p k)) (fun k => x1 (ix2 0 k)) (fun k => x2 (ix2 0 k)) (fun k => x3 (ix2 k (col 2560 (by omega) j))) := by
  have h : out0_8 x0 x1 x2 x3 = k0_pay3 (k0_pay4 x0 x1 x2) (View.ld x3 r0_8) := by rw [← rows_eq x0 x1 x2 x3]; frame_out
  refine (congrFun h _).trans ((pay256 _ _ p j).trans (Finset.sum_congr rfl fun k _ => ?_))
  refine congrArg₂ _ (pay_norm x0 x1 x2 p k) (congrArg x3 (funext fun q => Fin.ext (match q with
      | ⟨0, _⟩ => by show 0 + 1 * k.val = k.val; omega | ⟨1, _⟩ => by show 2560 + 1 * j.val = 2560 + j.val; omega)))

end Cert.InProjBlock

end
-- ==== Proof.InProjCols.lean ====
/- The projection's matrix with 64 columns of zeros put in, read at a column. -/
module

public import proofs.«01_k».proof.Proof.InProjPay

@[expose] public section

noncomputable section

namespace Cert.InProjBlock

open Idealize.ShloMosaic Idealize.ShloMosaic.TcCoe Idealize.SL.Sem
open Cert.InProjIdeal Cert.InProjIdeal.Gen Cert.Norm

/-- Column `j` of the padded matrix, at row `k`. -/
def padded (w : FVec Ideal S1024x2752 .f32) (k : Fin 1024) (j : Fin 2816) : EReal :=
  if h : j.val < 1344 then w (ix2 k ⟨j.val, by omega⟩) else if h2 : j.val < 1408 then 0 else w (ix2 k ⟨j.val - 64, by omega⟩)

variable (m : (ℓ : Loc nD τ sig) → Buf (Elt Ideal) ℓ) (c : Dev nD)

/-- The three parts side by side, read at a column. -/
theorem parts_at (w : FVec Ideal S1024x2752 .f32) (k : Fin 1024) (j : Fin 2816) :
    (truncf .bf16 (concatenate S1024x2816 1 [⟨S1024x1344, extractStridedSlice S1024x1344 ![0, 0] w slices_S1024x2752_S1024x1344_0_0⟩,
      ⟨S1024x64, broadcastInDim S1024x64 ![] bcast_S_S1024x64 (constant (F := Ideal) S_ .f32 0x00000000#32)⟩,
      ⟨S1024x1408, extractStridedSlice S1024x1408 ![0, 1344] w slices_S1024x2752_S1024x1408_0_1344⟩]
      concatenates_S1024x1344_S1024x64_S1024x1408_S1024x2816_d1) bitsLt_bf16_f32 : FVec Ideal S1024x2816 .bf16) (ix2 k j) = padded w k j := by
  pointwise [padded]
  by_cases h : j.val < 1344
  · rw [dif_pos h, dif_pos h]
  · rw [dif_neg h, dif_neg h]
    by_cases h2 : j.val < 1408
    · rw [dif_pos (show j.val - 1344 < 64 by omega), dif_pos h2]
    · rw [dif_neg (show ¬ j.val - 1344 < 64 by omega), dif_neg h2]
      exact congrArg (fun q => w (ix2 k q)) (Fin.ext (by show 1344 + (j.val - 1344 - 64) = j.val - 64; omega))

theorem V_v4 (k : Fin 1024) (j : Fin 2816) : V m c main_v4 (ValueIdx.ix2 k j) = padded (m ((c.tc : Thread nD τ).loc main_arg3)) k j := by
  refine (congrFun ?_ _).trans (parts_at (m ((c.tc : Thread nD τ).loc main_arg3)) k j)
  dsimp only [V, hostOps0]
  after_results
  rfl

/-- A vector as one row. -/
theorem as_row (y : FVec Ideal S1024 .f32) (k : Fin 1024) :
    shapeCast S1x1024 y shapeCasts_S1024_S1x1024 (ValueIdx.ix2 0 k) = y (ValueIdx.ix1 k) := by
  refine shapeCast_apply _ _ _ _ ?_
  rw [Shape.rowMajor_val_two, Shape.rowMajor_val_one]
  show k.val = 0 * 1024 + k.val
  omega

theorem V_v5 (k : Fin 1024) : V m c main_v5 (ValueIdx.ix2 0 k) = m ((c.tc : Thread nD τ).loc main_arg1) (ValueIdx.ix1 k) := by
  have h : V m c main_v5 = shapeCast S1x1024 (m ((c.tc : Thread nD τ).loc main_arg1) : FVec Ideal S1024 .f32) shapeCasts_S1024_S1x1024 := by
    dsimp only [V, hostOps0]
    after_results
    rfl
  rw [h]
  exact as_row _ k

theorem V_v6 (k : Fin 1024) : V m c main_v6 (ValueIdx.ix2 0 k) = m ((c.tc : Thread nD τ).loc main_arg2) (ValueIdx.ix1 k) := by
  have h : V m c main_v6 = shapeCast S1x1024 (m ((c.tc : Thread nD τ).loc main_arg2) : FVec Ideal S1024 .f32) shapeCasts_S1024_S1x1024 := by
    dsimp only [V, hostOps0]
    after_results
    rfl
  rw [h]
  exact as_row _ k

end Cert.InProjBlock

end
-- ==== Proof.InProjBlock.lean ====
/- The five arrays the projection call leaves: at every entry the normalised row times a column of the padded matrix. -/
module

public import proofs.«01_k».proof.Proof.InProjCols

@[expose] public section

noncomputable section

namespace Cert.InProjBlock

open Idealize.ShloMosaic Idealize.ShloMosaic.TcCoe Idealize.SL.Sem
open Cert.InProjIdeal Cert.InProjIdeal.Gen Cert.Norm

variable (m : (ℓ : Loc nD τ sig) → Buf (Elt Ideal) ℓ) (c : Dev nD)

theorem index0 : ∀ t : Fin cfg0.N, (cfg0.win 0).index t = ![t.val, 0] :=
  (by decide +kernel : ∀ t : Fin grid0.N, win0_0.index t = ![t.val, 0])
theorem index1 : ∀ t : Fin cfg0.N, (cfg0.win 1).index t = ![0, 0] :=
  (by decide +kernel : ∀ t : Fin grid0.N, win0_1.index t = ![0, 0])
theorem index2 : ∀ t : Fin cfg0.N, (cfg0.win 2).index t = ![0, 0] :=
  (by decide +kernel : ∀ t : Fin grid0.N, win0_2.index t = ![0, 0])
theorem index3 : ∀ t : Fin cfg0.N, (cfg0.win 3).index t = ![0, 0] :=
  (by decide +kernel : ∀ t : Fin grid0.N, win0_3.index t = ![0, 0])
theorem index4 : ∀ t : Fin cfg0.N, (cfg0.win 4).index t = ![t.val, 0] :=
  (by decide +kernel : ∀ t : Fin grid0.N, win0_4.index t = ![t.val, 0])
theorem index5 : ∀ t : Fin cfg0.N, (cfg0.win 5).index t = ![t.val, 0] :=
  (by decide +kernel : ∀ t : Fin grid0.N, win0_5.index t = ![t.val, 0])
theorem index6 : ∀ t : Fin cfg0.N, (cfg0.win 6).index t = ![t.val, 0] :=
  (by decide +kernel : ∀ t : Fin grid0.N, win0_6.index t = ![t.val, 0])
theorem index7 : ∀ t : Fin cfg0.N, (cfg0.win 7).index t = ![t.val, 0] :=
  (by decide +kernel : ∀ t : Fin grid0.N, win0_7.index t = ![t.val, 0])
theorem index8 : ∀ t : Fin cfg0.N, (cfg0.win 8).index t = ![t.val, 0] :=
  (by decide +kernel : ∀ t : Fin grid0.N, win0_8.index t = ![t.val, 0])

/-- Row `p` of block `t` as a row of the whole array. -/
abbrev row (t : Fin 64) (p : Fin 512) : Fin 32768 := ⟨t.val * 512 + p.val, by omega⟩

theorem blk0 (t : Fin cfg0.N) (p : Fin 512) (k : Fin 1024) :
    iblk m c 0 t (ix2 p k) = V m c main_arg0 (ValueIdx.ix2 (row t p) k) := by
  show V m c main_arg0 (((cfg0.win 0).blk t).view.emb (ix2 p k)) = _
  refine congrArg _ (funext fun a => Fin.ext ?_)
  refine (Pipeline.Window.rect_emb_val (cfg0.win 0) t (ix2 p k) a).trans ?_
  rw [index0]
  match a with
  | ⟨0, _⟩ => rfl
  | ⟨1, _⟩ => show 0 * 1024 + k.val = k.val; omega

theorem blk1 (t : Fin cfg0.N) (k : Fin 1024) : iblk m c 1 t (ix2 0 k) = V m c main_v5 (ValueIdx.ix2 0 k) := by
  show V m c main_v5 (((cfg0.win 1).blk t).view.emb (ix2 0 k)) = _
  refine congrArg _ (funext fun a => Fin.ext ?_)
  refine (Pipeline.Window.rect_emb_val (cfg0.win 1) t (ix2 0 k) a).trans ?_
  rw [index1]
  match a with
  | ⟨0, _⟩ => rfl
  | ⟨1, _⟩ => show 0 * 1024 + k.val = k.val; omega

theorem blk2 (t : Fin cfg0.N) (k : Fin 1024) : iblk m c 2 t (ix2 0 k) = V m c main_v6 (ValueIdx.ix2 0 k) := by
  show V m c main_v6 (((cfg0.win 2).blk t).view.emb (ix2 0 k)) = _
  refine congrArg _ (funext fun a => Fin.ext ?_)
  refine (Pipeline.Window.rect_emb_val (cfg0.win 2) t (ix2 0 k) a).trans ?_
  rw [index2]
  match a with
  | ⟨0, _⟩ => rfl
  | ⟨1, _⟩ => show 0 * 1024 + k.val = k.val; omega

theorem blk3 (t : Fin cfg0.N) (k : Fin 1024) (j : Fin 2816) : iblk m c 3 t (ix2 k j) = V m c main_v4 (ValueIdx.ix2 k j) := by
  show V m c main_v4 (((cfg0.win 3).blk t).view.emb (ix2 k j)) = _
  refine congrArg _ (funext fun a => Fin.ext ?_)
  refine (Pipeline.Window.rect_emb_val (cfg0.win 3) t (ix2 k j) a).trans ?_
  rw [index3]
  match a with
  | ⟨0, _⟩ => show 0 * 1024 + k.val = k.val; omega
  | ⟨1, _⟩ => show 0 * 2816 + j.val = j.val; omega

/-- The entry at row `r` and column `j` of the padded projection. -/
def value (r : Fin 32768) (j : Fin 2816) : EReal :=
  entry (fun k => m ((c.tc : Thread nD τ).loc main_arg0) (ValueIdx.ix2 r k))
    (fun k => m ((c.tc : Thread nD τ).loc main_arg1) (ValueIdx.ix1 k))
    (fun k => m ((c.tc : Thread nD τ).loc main_arg2) (ValueIdx.ix1 k))
    (fun k => padded (m ((c.tc : Thread nD τ).loc main_arg3)) k j)

/-- What a block's entry of the padded projection is. -/
theorem entry_value (t : Fin cfg0.N) (p : Fin 512) (j : Fin 2816) :
    entry (fun k => iblk m c 0 t (ix2 p k)) (fun k => iblk m c 1 t (ix2 0 k)) (fun k => iblk m c 2 t (ix2 0 k))
      (fun k => iblk m c 3 t (ix2 k j)) = value m c (row t p) j :=
  entry_congr (fun k => (blk0 m c t p k).trans (congrFun (V_main_arg0 m c) _)) (fun k => (blk1 m c t k).trans (V_v5 m c k))
    (fun k => (blk2 m c t k).trans (V_v6 m c k)) (fun k => (blk3 m c t k j).trans (V_v4 m c k j))

/-- The columns from 0 on, 1408 of them. -/
def whole4 (i : S32768x1408.Idx) : EReal := value m c (i 0) (col (n := 1408) 0 (by omega) (i 1))

theorem emb4 (t : Fin cfg0.N) (p : Fin 512) (j : Fin 1408) :
    ((cfg0.win 4).blk t).view.emb (ix2 p j) = ValueIdx.ix2 (n0 := 32768) (n1 := 1408) (row t p) j := by
  refine (funext fun a => Fin.ext ?_)
  refine (Pipeline.Window.rect_emb_val (cfg0.win 4) t (ix2 p j) a).trans ?_
  rw [index4]
  match a with
  | ⟨0, _⟩ => rfl
  | ⟨1, _⟩ => show 0 * 1408 + j.val = j.val; omega

theorem at4 (t : Fin cfg0.N) (p : Fin 512) (j : Fin 1408) :
    out0_4 (iblk m c 0 t) (iblk m c 1 t) (iblk m c 2 t) (iblk m c 3 t) (ix2 p j) = whole4 m c (ValueIdx.ix2 (row t p) j) := by
  refine (block4 _ _ _ _ p j).trans ?_
  exact entry_value m c t p _

theorem point4 (t : Fin cfg0.N) (y : S512x1408.Idx) :
    out0_4 (iblk m c 0 t) (iblk m c 1 t) (iblk m c 2 t) (iblk m c 3 t) y = whole4 m c (((cfg0.win 4).blk t).view.emb y) := by
  rw [eq_ix2 (n0 := 512) (n1 := 1408) y]
  exact (at4 m c t (y 0) (y 1)).trans (congrArg (whole4 m c) (emb4 t (y 0) (y 1)).symm)

theorem covered4 (i : S32768x1408.Idx) :
    ∃ t : Fin cfg0.N, (cfg0.win 4).flush t = true ∧ i ∈ ((cfg0.win 4).blk t).view.set := by
  have hr : (i 0).val < 32768 := (i 0).isLt
  have hlt : (i 0).val / 512 < cfg0.N := by show _ < 64; omega
  refine ⟨⟨(i 0).val / 512, hlt⟩, flush0_4 _, ?_⟩
  have h2 : ((cfg0.win 4).blk ⟨(i 0).val / 512, hlt⟩).view.emb (ix2 ⟨(i 0).val % 512, by omega⟩ (i 1)) = i := by
    refine (emb4 ⟨(i 0).val / 512, hlt⟩ ⟨(i 0).val % 512, by omega⟩ (i 1)).trans (funext fun a => ?_)
    match a with
    | ⟨0, _⟩ => exact Fin.ext (by show (i 0).val / 512 * 512 + (i 0).val % 512 = (i 0).val; omega)
    | ⟨1, _⟩ => rfl
  have h3 := View.emb_mem_set ((cfg0.win 4).blk ⟨(i 0).val / 512, hlt⟩).view (ix2 ⟨(i 0).val % 512, by omega⟩ (i 1))
  rw [h2] at h3
  exact h3

theorem array4_eq : (dats m 0 c).arrAt 4 cfg0.N = whole4 m c :=
  (dats m 0 c).arrAt_eq_of_emb 4 (whole4 m c) (fun t _ y => (congrFun (after0_4 m c t) y).trans (point4 m c t y)) covered4

/-- The columns from 1408 on, 384 of them. -/
def whole5 (i : S32768x384.Idx) : EReal := value m c (i 0) (col (n := 384) 1408 (by omega) (i 1))

theorem emb5 (t : Fin cfg0.N) (p : Fin 512) (j : Fin 384) :
    ((cfg0.win 5).blk t).view.emb (ix2 p j) = ValueIdx.ix2 (n0 := 32768) (n1 := 384) (row t p) j := by
  refine (funext fun a => Fin.ext ?_)
  refine (Pipeline.Window.rect_emb_val (cfg0.win 5) t (ix2 p j) a).trans ?_
  rw [index5]
  match a with
  | ⟨0, _⟩ => rfl
  | ⟨1, _⟩ => show 0 * 384 + j.val = j.val; omega

theorem at5 (t : Fin cfg0.N) (p : Fin 512) (j : Fin 384) :
    out0_5 (iblk m c 0 t) (iblk m c 1 t) (iblk m c 2 t) (iblk m c 3 t) (ix2 p j) = whole5 m c (ValueIdx.ix2 (row t p) j) := by
  refine (block5 _ _ _ _ p j).trans ?_
  exact entry_value m c t p _

theorem point5 (t : Fin cfg0.N) (y : S512x384.Idx) :
    out0_5 (iblk m c 0 t) (iblk m c 1 t) (iblk m c 2 t) (iblk m c 3 t) y = whole5 m c (((cfg0.win 5).blk t).view.emb y) := by
  rw [eq_ix2 (n0 := 512) (n1 := 384) y]
  exact (at5 m c t (y 0) (y 1)).trans (congrArg (whole5 m c) (emb5 t (y 0) (y 1)).symm)

theorem covered5 (i : S32768x384.Idx) :
    ∃ t : Fin cfg0.N, (cfg0.win 5).flush t = true ∧ i ∈ ((cfg0.win 5).blk t).view.set := by
  have hr : (i 0).val < 32768 := (i 0).isLt
  have hlt : (i 0).val / 512 < cfg0.N := by show _ < 64; omega
  refine ⟨⟨(i 0).val / 512, hlt⟩, flush0_5 _, ?_⟩
  have h2 : ((cfg0.win 5).blk ⟨(i 0).val / 512, hlt⟩).view.emb (ix2 ⟨(i 0).val % 512, by omega⟩ (i 1)) = i := by
    refine (emb5 ⟨(i 0).val / 512, hlt⟩ ⟨(i 0).val % 512, by omega⟩ (i 1)).trans (funext fun a => ?_)
    match a with
    | ⟨0, _⟩ => exact Fin.ext (by show (i 0).val / 512 * 512 + (i 0).val % 512 = (i 0).val; omega)
    | ⟨1, _⟩ => rfl
  have h3 := View.emb_mem_set ((cfg0.win 5).blk ⟨(i 0).val / 512, hlt⟩).view (ix2 ⟨(i 0).val % 512, by omega⟩ (i 1))
  rw [h2] at h3
  exact h3

theorem array5_eq : (dats m 0 c).arrAt 5 cfg0.N = whole5 m c :=
  (dats m 0 c).arrAt_eq_of_emb 5 (whole5 m c) (fun t _ y => (congrFun (after0_5 m c t) y).trans (point5 m c t y)) covered5

/-- The columns from 1792 on, 384 of them. -/
def whole6 (i : S32768x384.Idx) : EReal := value m c (i 0) (col (n := 384) 1792 (by omega) (i 1))

theorem emb6 (t : Fin cfg0.N) (p : Fin 512) (j : Fin 384) :
    ((cfg0.win 6).blk t).view.emb (ix2 p j) = ValueIdx.ix2 (n0 := 32768) (n1 := 384) (row t p) j := by
  refine (funext fun a => Fin.ext ?_)
  refine (Pipeline.Window.rect_emb_val (cfg0.win 6) t (ix2 p j) a).trans ?_
  rw [index6]
  match a with
  | ⟨0, _⟩ => rfl
  | ⟨1, _⟩ => show 0 * 384 + j.val = j.val; omega

theorem at6 (t : Fin cfg0.N) (p : Fin 512) (j : Fin 384) :
    out0_6 (iblk m c 0 t) (iblk m c 1 t) (iblk m c 2 t) (iblk m c 3 t) (ix2 p j) = whole6 m c (ValueIdx.ix2 (row t p) j) := by
  refine (block6 _ _ _ _ p j).trans ?_
  exact entry_value m c t p _

theorem point6 (t : Fin cfg0.N) (y : S512x384.Idx) :
    out0_6 (iblk m c 0 t) (iblk m c 1 t) (iblk m c 2 t) (iblk m c 3 t) y = whole6 m c (((cfg0.win 6).blk t).view.emb y) := by
  rw [eq_ix2 (n0 := 512) (n1 := 384) y]
  exact (at6 m c t (y 0) (y 1)).trans (congrArg (whole6 m c) (emb6 t (y 0) (y 1)).symm)

theorem covered6 (i : S32768x384.Idx) :
    ∃ t : Fin cfg0.N, (cfg0.win 6).flush t = true ∧ i ∈ ((cfg0.win 6).blk t).view.set := by
  have hr : (i 0).val < 32768 := (i 0).isLt
  have hlt : (i 0).val / 512 < cfg0.N := by show _ < 64; omega
  refine ⟨⟨(i 0).val / 512, hlt⟩, flush0_6 _, ?_⟩
  have h2 : ((cfg0.win 6).blk ⟨(i 0).val / 512, hlt⟩).view.emb (ix2 ⟨(i 0).val % 512, by omega⟩ (i 1)) = i := by
    refine (emb6 ⟨(i 0).val / 512, hlt⟩ ⟨(i 0).val % 512, by omega⟩ (i 1)).trans (funext fun a => ?_)
    match a with
    | ⟨0, _⟩ => exact Fin.ext (by show (i 0).val / 512 * 512 + (i 0).val % 512 = (i 0).val; omega)
    | ⟨1, _⟩ => rfl
  have h3 := View.emb_mem_set ((cfg0.win 6).blk ⟨(i 0).val / 512, hlt⟩).view (ix2 ⟨(i 0).val % 512, by omega⟩ (i 1))
  rw [h2] at h3
  exact h3

theorem array6_eq : (dats m 0 c).arrAt 6 cfg0.N = whole6 m c :=
  (dats m 0 c).arrAt_eq_of_emb 6 (whole6 m c) (fun t _ y => (congrFun (after0_6 m c t) y).trans (point6 m c t y)) covered6

/-- The columns from 2176 on, 384 of them. -/
def whole7 (i : S32768x384.Idx) : EReal := value m c (i 0) (col (n := 384) 2176 (by omega) (i 1))

theorem emb7 (t : Fin cfg0.N) (p : Fin 512) (j : Fin 384) :
    ((cfg0.win 7).blk t).view.emb (ix2 p j) = ValueIdx.ix2 (n0 := 32768) (n1 := 384) (row t p) j := by
  refine (funext fun a => Fin.ext ?_)
  refine (Pipeline.Window.rect_emb_val (cfg0.win 7) t (ix2 p j) a).trans ?_
  rw [index7]
  match a with
  | ⟨0, _⟩ => rfl
  | ⟨1, _⟩ => show 0 * 384 + j.val = j.val; omega

theorem at7 (t : Fin cfg0.N) (p : Fin 512) (j : Fin 384) :
    out0_7 (iblk m c 0 t) (iblk m c 1 t) (iblk m c 2 t) (iblk m c 3 t) (ix2 p j) = whole7 m c (ValueIdx.ix2 (row t p) j) := by
  refine (block7 _ _ _ _ p j).trans ?_
  exact entry_value m c t p _

theorem point7 (t : Fin cfg0.N) (y : S512x384.Idx) :
    out0_7 (iblk m c 0 t) (iblk m c 1 t) (iblk m c 2 t) (iblk m c 3 t) y = whole7 m c (((cfg0.win 7).blk t).view.emb y) := by
  rw [eq_ix2 (n0 := 512) (n1 := 384) y]
  exact (at7 m c t (y 0) (y 1)).trans (congrArg (whole7 m c) (emb7 t (y 0) (y 1)).symm)

theorem covered7 (i : S32768x384.Idx) :
    ∃ t : Fin cfg0.N, (cfg0.win 7).flush t = true ∧ i ∈ ((cfg0.win 7).blk t).view.set := by
  have hr : (i 0).val < 32768 := (i 0).isLt
  have hlt : (i 0).val / 512 < cfg0.N := by show _ < 64; omega
  refine ⟨⟨(i 0).val / 512, hlt⟩, flush0_7 _, ?_⟩
  have h2 : ((cfg0.win 7).blk ⟨(i 0).val / 512, hlt⟩).view.emb (ix2 ⟨(i 0).val % 512, by omega⟩ (i 1)) = i := by
    refine (emb7 ⟨(i 0).val / 512, hlt⟩ ⟨(i 0).val % 512, by omega⟩ (i 1)).trans (funext fun a => ?_)
    match a with
    | ⟨0, _⟩ => exact Fin.ext (by show (i 0).val / 512 * 512 + (i 0).val % 512 = (i 0).val; omega)
    | ⟨1, _⟩ => rfl
  have h3 := View.emb_mem_set ((cfg0.win 7).blk ⟨(i 0).val / 512, hlt⟩).view (ix2 ⟨(i 0).val % 512, by omega⟩ (i 1))
  rw [h2] at h3
  exact h3

theorem array7_eq : (dats m 0 c).arrAt 7 cfg0.N = whole7 m c :=
  (dats m 0 c).arrAt_eq_of_emb 7 (whole7 m c) (fun t _ y => (congrFun (after0_7 m c t) y).trans (point7 m c t y)) covered7

/-- The columns from 2560 on, 256 of them. -/
def whole8 (i : S32768x256.Idx) : EReal := value m c (i 0) (col (n := 256) 2560 (by omega) (i 1))

theorem emb8 (t : Fin cfg0.N) (p : Fin 512) (j : Fin 256) :
    ((cfg0.win 8).blk t).view.emb (ix2 p j) = ValueIdx.ix2 (n0 := 32768) (n1 := 256) (row t p) j := by
  refine (funext fun a => Fin.ext ?_)
  refine (Pipeline.Window.rect_emb_val (cfg0.win 8) t (ix2 p j) a).trans ?_
  rw [index8]
  match a with
  | ⟨0, _⟩ => rfl
  | ⟨1, _⟩ => show 0 * 256 + j.val = j.val; omega

theorem at8 (t : Fin cfg0.N) (p : Fin 512) (j : Fin 256) :
    out0_8 (iblk m c 0 t) (iblk m c 1 t) (iblk m c 2 t) (iblk m c 3 t) (ix2 p j) = whole8 m c (ValueIdx.ix2 (row t p) j) := by
  refine (block8 _ _ _ _ p j).trans ?_
  exact entry_value m c t p _

theorem point8 (t : Fin cfg0.N) (y : S512x256.Idx) :
    out0_8 (iblk m c 0 t) (iblk m c 1 t) (iblk m c 2 t) (iblk m c 3 t) y = whole8 m c (((cfg0.win 8).blk t).view.emb y) := by
  rw [eq_ix2 (n0 := 512) (n1 := 256) y]
  exact (at8 m c t (y 0) (y 1)).trans (congrArg (whole8 m c) (emb8 t (y 0) (y 1)).symm)

theorem covered8 (i : S32768x256.Idx) :
    ∃ t : Fin cfg0.N, (cfg0.win 8).flush t = true ∧ i ∈ ((cfg0.win 8).blk t).view.set := by
  have hr : (i 0).val < 32768 := (i 0).isLt
  have hlt : (i 0).val / 512 < cfg0.N := by show _ < 64; omega
  refine ⟨⟨(i 0).val / 512, hlt⟩, flush0_8 _, ?_⟩
  have h2 : ((cfg0.win 8).blk ⟨(i 0).val / 512, hlt⟩).view.emb (ix2 ⟨(i 0).val % 512, by omega⟩ (i 1)) = i := by
    refine (emb8 ⟨(i 0).val / 512, hlt⟩ ⟨(i 0).val % 512, by omega⟩ (i 1)).trans (funext fun a => ?_)
    match a with
    | ⟨0, _⟩ => exact Fin.ext (by show (i 0).val / 512 * 512 + (i 0).val % 512 = (i 0).val; omega)
    | ⟨1, _⟩ => rfl
  have h3 := View.emb_mem_set ((cfg0.win 8).blk ⟨(i 0).val / 512, hlt⟩).view (ix2 ⟨(i 0).val % 512, by omega⟩ (i 1))
  rw [h2] at h3
  exact h3

theorem array8_eq : (dats m 0 c).arrAt 8 cfg0.N = whole8 m c :=
  (dats m 0 c).arrAt_eq_of_emb 8 (whole8 m c) (fun t _ y => (congrFun (after0_8 m c t) y).trans (point8 m c t y)) covered8

end Cert.InProjBlock

end
-- ==== Proof.InProjRead.lean ====
/- The reference of the projection call, read at an entry. -/
module

public import proofs.«01_k».proof.Proof.Gen.InProjRefIdeal.Run
public import proofs.«01_k».proof.Proof.Gen.InProjRefIdeal.Read
public import proofs.«01_k».proof.Proof.InProjCols

@[expose] public section

noncomputable section

namespace Cert.InProjRead

open Idealize.ShloMosaic Cert.InProjRefIdeal Cert.InProjRefIdeal.Read Cert.Norm Cert.InProjBlock

variable (x0 : (⟨S32768x1024, .f32⟩ : BufTy).Contents (Elt Ideal)) (x1 x2 : (⟨S1024, .f32⟩ : BufTy).Contents (Elt Ideal))
  (x3 : (⟨S1024x2752, .f32⟩ : BufTy).Contents (Elt Ideal))

/-- The whole product. -/
theorem product_at (r : Fin 32768) (j : Fin 2752) :
    val_main_v24 (F := Ideal) x0 x1 x2 x3 (ix2 r j)
      = entry (fun k => x0 (ix2 r k)) (fun k => x1 (ix1 k)) (fun k => x2 (ix1 k)) (fun k => x3 (ix2 k j)) := by
  unfold val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1 val_main_cst_2 val_main_cst_3
  pointwise [entry, normed, mean, spread, Cert.Norm.lit]

/-- The product with the padded matrix, at a column. -/
def value (r : Fin 32768) (j : Fin 2816) : EReal :=
  entry (fun k => x0 (ix2 r k)) (fun k => x1 (ix1 k)) (fun k => x2 (ix1 k)) (fun k => padded x3 k j)

theorem value_low (r : Fin 32768) (j : Fin 2816) (h : j.val < 1344) :
    val_main_v24 (F := Ideal) x0 x1 x2 x3 (ix2 r ⟨j.val, by omega⟩) = value x0 x1 x2 x3 r j :=
  (product_at x0 x1 x2 x3 r _).trans (entry_congr (fun _ => rfl) (fun _ => rfl) (fun _ => rfl)
    (fun k => (dif_pos h : padded x3 k j = _).symm))

theorem value_mid (r : Fin 32768) (j : Fin 2816) (h : ¬ j.val < 1344) (h2 : j.val < 1408) : value x0 x1 x2 x3 r j = 0 := by
  have e : ∀ k, padded x3 k j = 0 := fun k => (dif_neg h).trans (dif_pos h2)
  unfold value entry
  exact Finset.sum_eq_zero fun k _ => (congrArg (_ * ·) (e k)).trans (mul_zero _)

theorem value_high (r : Fin 32768) (j : Fin 2816) (h : ¬ j.val < 1408) :
    val_main_v24 (F := Ideal) x0 x1 x2 x3 (ix2 r ⟨j.val - 64, by omega⟩) = value x0 x1 x2 x3 r j :=
  (product_at x0 x1 x2 x3 r _).trans (entry_congr (fun _ => rfl) (fun _ => rfl) (fun _ => rfl)
    (fun k => ((dif_neg (by omega)).trans (dif_neg h) : padded x3 k j = _).symm))

theorem result4_at (r : Fin 32768) (j : Fin 1408) :
    val_main_v26 (F := Ideal) x0 x1 x2 x3 (ix2 r j) = value x0 x1 x2 x3 r (col 0 (by omega) j) := by
  have e : val_main_v26 (F := Ideal) x0 x1 x2 x3 (ix2 r j)
      = if h : j.val < 1344 then val_main_v24 (F := Ideal) x0 x1 x2 x3 (ix2 r ⟨j.val, by omega⟩) else 0 := by
    unfold val_main_v26 val_main_v25 val_main_call0_v0 val_main_c
    generalize val_main_v24 (F := Ideal) x0 x1 x2 x3 = y
    pointwise
    have z : FloatOps.sitofp (F := Ideal) .f32 (0#32) = (0 : EReal) := by
      show (((0#32 : BitVec 32).toInt : ℝ) : EReal) = 0
      simp
    rw [z]
  refine e.trans ?_
  have hc : (col 0 (by omega) j : Fin 2816).val = j.val := by show 0 + j.val = j.val; omega
  by_cases h : j.val < 1344
  · rw [dif_pos h]
    refine Eq.trans ?_ (value_low x0 x1 x2 x3 r (col 0 (by omega) j) (by omega))
    exact congrArg (fun q => val_main_v24 (F := Ideal) x0 x1 x2 x3 (ix2 r q)) (Fin.ext hc.symm)
  · rw [dif_neg h]
    exact (value_mid x0 x1 x2 x3 r _ (by omega) (by omega)).symm

theorem result5_at (r : Fin 32768) (j : Fin 384) :
    val_main_v27 (F := Ideal) x0 x1 x2 x3 (ix2 r j) = value x0 x1 x2 x3 r (col 1408 (by omega) j) := by
  have e : val_main_v27 (F := Ideal) x0 x1 x2 x3 (ix2 r j)
      = val_main_v24 (F := Ideal) x0 x1 x2 x3 (ix2 r ⟨1344 + j.val, by omega⟩) := by
    unfold val_main_v27
    generalize val_main_v24 (F := Ideal) x0 x1 x2 x3 = y
    pointwise
  refine e.trans (Eq.trans ?_ (value_high x0 x1 x2 x3 r (col 1408 (by omega) j) (by show ¬ 1408 + j.val < 1408; omega)))
  exact congrArg (fun q => val_main_v24 (F := Ideal) x0 x1 x2 x3 (ix2 r q)) (Fin.ext (by show 1344 + j.val = 1408 + j.val - 64; omega))

theorem result6_at (r : Fin 32768) (j : Fin 384) :
    val_main_v28 (F := Ideal) x0 x1 x2 x3 (ix2 r j) = value x0 x1 x2 x3 r (col 1792 (by omega) j) := by
  have e : val_main_v28 (F := Ideal) x0 x1 x2 x3 (ix2 r j)
      = val_main_v24 (F := Ideal) x0 x1 x2 x3 (ix2 r ⟨1728 + j.val, by omega⟩) := by
    unfold val_main_v28
    generalize val_main_v24 (F := Ideal) x0 x1 x2 x3 = y
    pointwise
  refine e.trans (Eq.trans ?_ (value_high x0 x1 x2 x3 r (col 1792 (by omega) j) (by show ¬ 1792 + j.val < 1408; omega)))
  exact congrArg (fun q => val_main_v24 (F := Ideal) x0 x1 x2 x3 (ix2 r q)) (Fin.ext (by show 1728 + j.val = 1792 + j.val - 64; omega))

theorem result7_at (r : Fin 32768) (j : Fin 384) :
    val_main_v29 (F := Ideal) x0 x1 x2 x3 (ix2 r j) = value x0 x1 x2 x3 r (col 2176 (by omega) j) := by
  have e : val_main_v29 (F := Ideal) x0 x1 x2 x3 (ix2 r j)
      = val_main_v24 (F := Ideal) x0 x1 x2 x3 (ix2 r ⟨2112 + j.val, by omega⟩) := by
    unfold val_main_v29
    generalize val_main_v24 (F := Ideal) x0 x1 x2 x3 = y
    pointwise
  refine e.trans (Eq.trans ?_ (value_high x0 x1 x2 x3 r (col 2176 (by omega) j) (by show ¬ 2176 + j.val < 1408; omega)))
  exact congrArg (fun q => val_main_v24 (F := Ideal) x0 x1 x2 x3 (ix2 r q)) (Fin.ext (by show 2112 + j.val = 2176 + j.val - 64; omega))

theorem result8_at (r : Fin 32768) (j : Fin 256) :
    val_main_v30 (F := Ideal) x0 x1 x2 x3 (ix2 r j) = value x0 x1 x2 x3 r (col 2560 (by omega) j) := by
  have e : val_main_v30 (F := Ideal) x0 x1 x2 x3 (ix2 r j)
      = val_main_v24 (F := Ideal) x0 x1 x2 x3 (ix2 r ⟨2496 + j.val, by omega⟩) := by
    unfold val_main_v30
    generalize val_main_v24 (F := Ideal) x0 x1 x2 x3 = y
    pointwise
  refine e.trans (Eq.trans ?_ (value_high x0 x1 x2 x3 r (col 2560 (by omega) j) (by show ¬ 2560 + j.val < 1408; omega)))
  exact congrArg (fun q => val_main_v24 (F := Ideal) x0 x1 x2 x3 (ix2 r q)) (Fin.ext (by show 2496 + j.val = 2560 + j.val - 64; omega))

end Cert.InProjRead

end
-- ==== Proof.InProjMain.lean ====
/- The claims about the projection call: its frames, the reference's frame, and the equality of the five results. -/
module

public import proofs.«01_k».proof.Proof.Gen.InProj.Frame
public import proofs.«01_k».proof.Proof.Gen.InProjIdeal.Value
public import proofs.«01_k».proof.Proof.InProjBlock
public import proofs.«01_k».proof.Proof.InProjRead
public import proofs.«01_k».proof.Defs
public import Idealize.ShloMosaic.Lib.Claim

@[expose] public section

noncomputable section

namespace Cert.InProjMain

open Idealize.ShloMosaic Idealize.ShloMosaic.TcCoe Idealize.SL.Sem

theorem frame_p : Cert.quiescent_InProj := fun m g _ => Cert.InProj.Gen.frame m g

theorem frame_pi : Cert.quiescent_InProjIdeal := fun m g _ => Cert.InProjIdeal.Gen.frame m g

theorem frame_ri : Cert.quiescent_InProjRefIdeal := fun m g _ =>
  (θ_run Cert.InProjRefIdeal.defs _ _).mono (fun r h => ⟨fun c => (h c).2.2.2.2.2, sem_eq_zero_of_no_sems (by decide) r.2⟩)
    (Cert.InProjRefIdeal.Value.run (F := Ideal) m g)

section Value

open Cert.InProjIdeal Cert.InProjIdeal.Gen

variable (m : (ℓ : Loc nD τ sig) → Buf (Elt Ideal) ℓ)

theorem ref_whole4 (c : Dev nD) :
    Cert.InProjRefIdeal.Read.val_main_v26 (F := Ideal) (m ((c.tc : Thread nD τ).loc main_arg0)) (m ((c.tc : Thread nD τ).loc main_arg1))
      (m ((c.tc : Thread nD τ).loc main_arg2)) (m ((c.tc : Thread nD τ).loc main_arg3)) = InProjBlock.whole4 m c := by
  funext i
  have hi : i = ValueIdx.ix2 (n0 := 32768) (n1 := 1408) (i 0) (i 1) := by
    funext a
    match a with
    | ⟨0, _⟩ => rfl
    | ⟨1, _⟩ => rfl
  exact (congrArg _ hi).trans (InProjRead.result4_at (m ((c.tc : Thread nD τ).loc main_arg0)) (m ((c.tc : Thread nD τ).loc main_arg1))
    (m ((c.tc : Thread nD τ).loc main_arg2)) (m ((c.tc : Thread nD τ).loc main_arg3)) (i 0) (i 1))

theorem ref_whole5 (c : Dev nD) :
    Cert.InProjRefIdeal.Read.val_main_v27 (F := Ideal) (m ((c.tc : Thread nD τ).loc main_arg0)) (m ((c.tc : Thread nD τ).loc main_arg1))
      (m ((c.tc : Thread nD τ).loc main_arg2)) (m ((c.tc : Thread nD τ).loc main_arg3)) = InProjBlock.whole5 m c := by
  funext i
  have hi : i = ValueIdx.ix2 (n0 := 32768) (n1 := 384) (i 0) (i 1) := by
    funext a
    match a with
    | ⟨0, _⟩ => rfl
    | ⟨1, _⟩ => rfl
  exact (congrArg _ hi).trans (InProjRead.result5_at (m ((c.tc : Thread nD τ).loc main_arg0)) (m ((c.tc : Thread nD τ).loc main_arg1))
    (m ((c.tc : Thread nD τ).loc main_arg2)) (m ((c.tc : Thread nD τ).loc main_arg3)) (i 0) (i 1))

theorem ref_whole6 (c : Dev nD) :
    Cert.InProjRefIdeal.Read.val_main_v28 (F := Ideal) (m ((c.tc : Thread nD τ).loc main_arg0)) (m ((c.tc : Thread nD τ).loc main_arg1))
      (m ((c.tc : Thread nD τ).loc main_arg2)) (m ((c.tc : Thread nD τ).loc main_arg3)) = InProjBlock.whole6 m c := by
  funext i
  have hi : i = ValueIdx.ix2 (n0 := 32768) (n1 := 384) (i 0) (i 1) := by
    funext a
    match a with
    | ⟨0, _⟩ => rfl
    | ⟨1, _⟩ => rfl
  exact (congrArg _ hi).trans (InProjRead.result6_at (m ((c.tc : Thread nD τ).loc main_arg0)) (m ((c.tc : Thread nD τ).loc main_arg1))
    (m ((c.tc : Thread nD τ).loc main_arg2)) (m ((c.tc : Thread nD τ).loc main_arg3)) (i 0) (i 1))

theorem ref_whole7 (c : Dev nD) :
    Cert.InProjRefIdeal.Read.val_main_v29 (F := Ideal) (m ((c.tc : Thread nD τ).loc main_arg0)) (m ((c.tc : Thread nD τ).loc main_arg1))
      (m ((c.tc : Thread nD τ).loc main_arg2)) (m ((c.tc : Thread nD τ).loc main_arg3)) = InProjBlock.whole7 m c := by
  funext i
  have hi : i = ValueIdx.ix2 (n0 := 32768) (n1 := 384) (i 0) (i 1) := by
    funext a
    match a with
    | ⟨0, _⟩ => rfl
    | ⟨1, _⟩ => rfl
  exact (congrArg _ hi).trans (InProjRead.result7_at (m ((c.tc : Thread nD τ).loc main_arg0)) (m ((c.tc : Thread nD τ).loc main_arg1))
    (m ((c.tc : Thread nD τ).loc main_arg2)) (m ((c.tc : Thread nD τ).loc main_arg3)) (i 0) (i 1))

theorem ref_whole8 (c : Dev nD) :
    Cert.InProjRefIdeal.Read.val_main_v30 (F := Ideal) (m ((c.tc : Thread nD τ).loc main_arg0)) (m ((c.tc : Thread nD τ).loc main_arg1))
      (m ((c.tc : Thread nD τ).loc main_arg2)) (m ((c.tc : Thread nD τ).loc main_arg3)) = InProjBlock.whole8 m c := by
  funext i
  have hi : i = ValueIdx.ix2 (n0 := 32768) (n1 := 256) (i 0) (i 1) := by
    funext a
    match a with
    | ⟨0, _⟩ => rfl
    | ⟨1, _⟩ => rfl
  exact (congrArg _ hi).trans (InProjRead.result8_at (m ((c.tc : Thread nD τ).loc main_arg0)) (m ((c.tc : Thread nD τ).loc main_arg1))
    (m ((c.tc : Thread nD τ).loc main_arg2)) (m ((c.tc : Thread nD τ).loc main_arg3)) (i 0) (i 1))

end Value

/-- The two programs' results are equal. -/
theorem algebraic : Cert.algebraic_InProjIdeal_InProjRefIdeal := by
  intro m g m' g' _ hagree
  refine ⟨fun c => InProjBlock.whole4 m c, fun c => InProjBlock.whole5 m c, fun c => InProjBlock.whole6 m c,
    fun c => InProjBlock.whole7 m c, fun c => InProjBlock.whole8 m c,
    (θ_run Cert.InProjIdeal.defs _ _).mono (fun r h c => ⟨(h c).1.trans (InProjBlock.array4_eq m c), (h c).2.1.trans (InProjBlock.array5_eq m c), (h c).2.2.1.trans (InProjBlock.array6_eq m c), (h c).2.2.2.1.trans (InProjBlock.array7_eq m c), (h c).2.2.2.2.1.trans (InProjBlock.array8_eq m c), (h c).2.2.2.2.2⟩)
      (Cert.InProjIdeal.Value.run_blocks m g), ?_⟩
  refine (θ_run Cert.InProjRefIdeal.defs _ _).mono (fun r h c => ⟨(h c).1.trans ?r4, (h c).2.1.trans ?r5, (h c).2.2.1.trans ?r6, (h c).2.2.2.1.trans ?r7, (h c).2.2.2.2.1.trans ?r8, (h c).2.2.2.2.2⟩)
    (Cert.InProjRefIdeal.Value.run (F := Ideal) m' g')
  case r4 =>
    obtain rfl : c = (0 : Fin 1) := Subsingleton.elim _ _
    refine (InProjRefIdeal.Read.val_main_v26_eq _ _ _ _).trans ?_
    obtain ⟨h0, h1, h2, h3⟩ := hagree (0 : Fin 1)
    rw [h0, h1, h2, h3]
    exact ref_whole4 m 0
  case r5 =>
    obtain rfl : c = (0 : Fin 1) := Subsingleton.elim _ _
    refine (InProjRefIdeal.Read.val_main_v27_eq _ _ _ _).trans ?_
    obtain ⟨h0, h1, h2, h3⟩ := hagree (0 : Fin 1)
    rw [h0, h1, h2, h3]
    exact ref_whole5 m 0
  case r6 =>
    obtain rfl : c = (0 : Fin 1) := Subsingleton.elim _ _
    refine (InProjRefIdeal.Read.val_main_v28_eq _ _ _ _).trans ?_
    obtain ⟨h0, h1, h2, h3⟩ := hagree (0 : Fin 1)
    rw [h0, h1, h2, h3]
    exact ref_whole6 m 0
  case r7 =>
    obtain rfl : c = (0 : Fin 1) := Subsingleton.elim _ _
    refine (InProjRefIdeal.Read.val_main_v29_eq _ _ _ _).trans ?_
    obtain ⟨h0, h1, h2, h3⟩ := hagree (0 : Fin 1)
    rw [h0, h1, h2, h3]
    exact ref_whole7 m 0
  case r8 =>
    obtain rfl : c = (0 : Fin 1) := Subsingleton.elim _ _
    refine (InProjRefIdeal.Read.val_main_v30_eq _ _ _ _).trans ?_
    obtain ⟨h0, h1, h2, h3⟩ := hagree (0 : Fin 1)
    rw [h0, h1, h2, h3]
    exact ref_whole8 m 0

end Cert.InProjMain

end
-- ==== Proof.CombinePay.lean ====
/- The value one grid point of the combining call stores, read at an index. -/
module

public import proofs.«01_k».proof.Proof.Gen.CombineIdeal.Frame
public import proofs.«01_k».proof.Proof.Norm
public import Idealize.ShloMosaic.Lib.Pointwise
public import Idealize.ShloMosaic.Lib.Pointwise.IndexBridge
public import Idealize.ShloMosaic.Lib.Pointwise.Contract
public import Idealize.ShloMosaic.Lib.Pipeline.ValueKit

@[expose] public section

noncomputable section

namespace Cert.CombineBlock

open Idealize.ShloMosaic Idealize.ShloMosaic.TcCoe
open Cert.CombineIdeal Cert.CombineIdeal.Gen Cert.Norm

/-- The weighted sum a grid point normalises. -/
theorem pay_mixed (x0 : Vec Ideal S512x1024 .f32) (x2 : Vec Ideal S512x128 .f32) (y : Fin 4 → Vec Ideal S1x512x1024 .f32)
    (p : Fin 512) (j : Fin 1024) :
    k0_pay2 x0 x2 (y 0) (y 1) (y 2) (y 3) (ix2 p j)
      = mixed (fun k => x0 (ix2 p k)) (fun a k => y a (ix3 0 p k)) (fun a => x2 (ix2 p (lane4 a))) j := by
  rw [mixed_seq]
  unfold_payloads
  pointwise
  rfl

/-- What a grid point stores, at an index: the normalised sum. -/
theorem pay (v : Vec Ideal S512x1024 .f32) (x3 x4 : Vec Ideal S1x1024 .f32) (p : Fin 512) (j : Fin 1024) :
    k0_pay1 v (k0_pay3 x3) (k0_pay4 x4)
      (divf (shapeCast S512x1 (multiReduction .add [1] S512 v 0x00000000#32 reduces_S512x1024_S512 (.inl rfl) rfl) shapeCasts_S512_S512x1)
        (broadcast S512x1 (Scalar.ofBits .f32 0x44800000#32))) (ix2 p j)
      = normed (fun k => v (ix2 p k)) (fun k => x3 (ix2 0 k)) (fun k => x4 (ix2 0 k)) j := by
  unfold_payloads
  pointwise [normed, spread, mean, Cert.Norm.lit]

/-- Slab `a` of four. -/
theorem slab (x1 : Vec Ideal S4x512x1024 .f32) (p : Fin 512) (k : Fin 1024) :
    ∀ a : Fin 4, (![View.ld x1 r0_2, View.ld x1 r0_3, View.ld x1 r0_4, View.ld x1 r0_5] a : Vec Ideal S1x512x1024 .f32) (ix3 0 p k)
      = x1 (ix3 a p k) := by
  intro a
  match a with
  | ⟨0, _⟩ => exact congrArg x1 (funext fun q => Fin.ext (match q with
      | ⟨0, _⟩ => rfl | ⟨1, _⟩ => by show 0 + 1 * p.val = p.val; omega | ⟨2, _⟩ => by show 0 + 1 * k.val = k.val; omega))
  | ⟨1, _⟩ => exact congrArg x1 (funext fun q => Fin.ext (match q with
      | ⟨0, _⟩ => rfl | ⟨1, _⟩ => by show 0 + 1 * p.val = p.val; omega | ⟨2, _⟩ => by show 0 + 1 * k.val = k.val; omega))
  | ⟨2, _⟩ => exact congrArg x1 (funext fun q => Fin.ext (match q with
      | ⟨0, _⟩ => rfl | ⟨1, _⟩ => by show 0 + 1 * p.val = p.val; omega | ⟨2, _⟩ => by show 0 + 1 * k.val = k.val; omega))
  | ⟨3, _⟩ => exact congrArg x1 (funext fun q => Fin.ext (match q with
      | ⟨0, _⟩ => rfl | ⟨1, _⟩ => by show 0 + 1 * p.val = p.val; omega | ⟨2, _⟩ => by show 0 + 1 * k.val = k.val; omega))

/-- The block a grid point leaves, as a function of its input blocks. -/
theorem block (x0 : Vec Ideal S512x1024 .f32) (x1 : Vec Ideal S4x512x1024 .f32) (x2 : Vec Ideal S512x128 .f32)
    (x3 x4 : Vec Ideal S1x1024 .f32) (p : Fin 512) (j : Fin 1024) :
    out0_5 x0 x1 x2 x3 x4 (ix2 p j)
      = normed (mixed (fun k => x0 (ix2 p k)) (fun a k => x1 (ix3 a p k)) (fun a => x2 (ix2 p (lane4 a))))
          (fun k => x3 (ix2 0 k)) (fun k => x4 (ix2 0 k)) j := by
  have h : out0_5 x0 x1 x2 x3 x4 = k0_pay1 (k0_pay2 x0 x2 (View.ld x1 r0_2) (View.ld x1 r0_3) (View.ld x1 r0_4) (View.ld x1 r0_5))
      (k0_pay3 x3) (k0_pay4 x4) (k0_pay5 x0 x2 (View.ld x1 r0_2) (View.ld x1 r0_3) (View.ld x1 r0_4) (View.ld x1 r0_5)) := by
    frame_out
  refine (congrFun h _).trans ((pay _ x3 x4 p j).trans (normed_congr (fun k => ?_) (fun _ => rfl) (fun _ => rfl) j))
  refine (pay_mixed x0 x2 ![View.ld x1 r0_2, View.ld x1 r0_3, View.ld x1 r0_4, View.ld x1 r0_5] p k).trans ?_
  exact mixed_congr (fun _ => rfl) (fun a k => slab x1 p k a) (fun _ => rfl) k

end Cert.CombineBlock

end
-- ==== Proof.CombineBlock.lean ====
/- The array the combining call leaves: at every entry the normalised weighted sum of its arguments' rows. -/
module

public import proofs.«01_k».proof.Proof.CombinePay

@[expose] public section

noncomputable section

namespace Cert.CombineBlock

open Idealize.ShloMosaic Idealize.ShloMosaic.TcCoe Idealize.SL.Sem
open Cert.CombineIdeal Cert.CombineIdeal.Gen Cert.Norm

variable (m : (ℓ : Loc nD τ sig) → Buf (Elt Ideal) ℓ) (c : Dev nD)

/-- The block indices of the windows that move with the point. -/
theorem index0 : ∀ t : Fin cfg0.N, (cfg0.win 0).index t = ![t.val, 0] :=
  (by decide +kernel : ∀ t : Fin grid0.N, win0_0.index t = ![t.val, 0])
theorem index1 : ∀ t : Fin cfg0.N, (cfg0.win 1).index t = ![0, t.val, 0] :=
  (by decide +kernel : ∀ t : Fin grid0.N, win0_1.index t = ![0, t.val, 0])
theorem index2 : ∀ t : Fin cfg0.N, (cfg0.win 2).index t = ![t.val, 0] :=
  (by decide +kernel : ∀ t : Fin grid0.N, win0_2.index t = ![t.val, 0])
theorem index3 : ∀ t : Fin cfg0.N, (cfg0.win 3).index t = ![0, 0] :=
  (by decide +kernel : ∀ t : Fin grid0.N, win0_3.index t = ![0, 0])
theorem index4 : ∀ t : Fin cfg0.N, (cfg0.win 4).index t = ![0, 0] :=
  (by decide +kernel : ∀ t : Fin grid0.N, win0_4.index t = ![0, 0])
theorem index5 : ∀ t : Fin cfg0.N, (cfg0.win 5).index t = ![t.val, 0] :=
  (by decide +kernel : ∀ t : Fin grid0.N, win0_5.index t = ![t.val, 0])

/-- Row `p` of block `t` as a row of the whole array. -/
abbrev row (t : Fin 64) (p : Fin 512) : Fin 32768 := ⟨t.val * 512 + p.val, by omega⟩

theorem blk0 (t : Fin cfg0.N) (p : Fin 512) (k : Fin 1024) :
    iblk m c 0 t (ix2 p k) = V m c main_arg0 (ValueIdx.ix2 (row t p) k) := by
  show V m c main_arg0 (((cfg0.win 0).blk t).view.emb (ix2 p k)) = _
  refine congrArg _ (funext fun a => Fin.ext ?_)
  refine (Pipeline.Window.rect_emb_val (cfg0.win 0) t (ix2 p k) a).trans ?_
  rw [index0]
  match a with
  | ⟨0, _⟩ => rfl
  | ⟨1, _⟩ => show 0 * 1024 + k.val = k.val; omega

theorem blk1 (t : Fin cfg0.N) (a : Fin 4) (p : Fin 512) (k : Fin 1024) :
    iblk m c 1 t (ix3 a p k) = V m c main_arg1 (ValueIdx.ix3 a (row t p) k) := by
  show V m c main_arg1 (((cfg0.win 1).blk t).view.emb (ix3 a p k)) = _
  refine congrArg _ (funext fun q => Fin.ext ?_)
  refine (Pipeline.Window.rect_emb_val (cfg0.win 1) t (ix3 a p k) q).trans ?_
  rw [index1]
  match q with
  | ⟨0, _⟩ => show 0 * 4 + a.val = a.val; omega
  | ⟨1, _⟩ => rfl
  | ⟨2, _⟩ => show 0 * 1024 + k.val = k.val; omega

theorem blk2 (t : Fin cfg0.N) (p : Fin 512) (k : Fin 128) :
    iblk m c 2 t (ix2 p k) = V m c main_arg2 (ValueIdx.ix2 (row t p) k) := by
  show V m c main_arg2 (((cfg0.win 2).blk t).view.emb (ix2 p k)) = _
  refine congrArg _ (funext fun a => Fin.ext ?_)
  refine (Pipeline.Window.rect_emb_val (cfg0.win 2) t (ix2 p k) a).trans ?_
  rw [index2]
  match a with
  | ⟨0, _⟩ => rfl
  | ⟨1, _⟩ => show 0 * 128 + k.val = k.val; omega

theorem blk3 (t : Fin cfg0.N) (k : Fin 1024) : iblk m c 3 t (ix2 0 k) = V m c main_v0 (ValueIdx.ix2 0 k) := by
  show V m c main_v0 (((cfg0.win 3).blk t).view.emb (ix2 0 k)) = _
  refine congrArg _ (funext fun a => Fin.ext ?_)
  refine (Pipeline.Window.rect_emb_val (cfg0.win 3) t (ix2 0 k) a).trans ?_
  rw [index3]
  match a with
  | ⟨0, _⟩ => rfl
  | ⟨1, _⟩ => show 0 * 1024 + k.val = k.val; omega

theorem blk4 (t : Fin cfg0.N) (k : Fin 1024) : iblk m c 4 t (ix2 0 k) = V m c main_v1 (ValueIdx.ix2 0 k) := by
  show V m c main_v1 (((cfg0.win 4).blk t).view.emb (ix2 0 k)) = _
  refine congrArg _ (funext fun a => Fin.ext ?_)
  refine (Pipeline.Window.rect_emb_val (cfg0.win 4) t (ix2 0 k) a).trans ?_
  rw [index4]
  match a with
  | ⟨0, _⟩ => rfl
  | ⟨1, _⟩ => show 0 * 1024 + k.val = k.val; omega

theorem emb5 (t : Fin cfg0.N) (p : Fin 512) (j : Fin 1024) :
    ((cfg0.win 5).blk t).view.emb (ix2 p j) = ValueIdx.ix2 (n0 := 32768) (n1 := 1024) (row t p) j := by
  refine (funext fun a => Fin.ext ?_)
  refine (Pipeline.Window.rect_emb_val (cfg0.win 5) t (ix2 p j) a).trans ?_
  rw [index5]
  match a with
  | ⟨0, _⟩ => rfl
  | ⟨1, _⟩ => show 0 * 1024 + j.val = j.val; omega

/-- A vector as one row. -/
theorem as_row (y : FVec Ideal S1024 .f32) (k : Fin 1024) :
    shapeCast S1x1024 y shapeCasts_S1024_S1x1024 (ValueIdx.ix2 0 k) = y (ValueIdx.ix1 k) := by
  refine shapeCast_apply _ _ _ _ ?_
  rw [Shape.rowMajor_val_two, Shape.rowMajor_val_one]
  show k.val = 0 * 1024 + k.val
  omega

theorem V_v0 (k : Fin 1024) : V m c main_v0 (ValueIdx.ix2 0 k) = m ((c.tc : Thread nD τ).loc main_arg3) (ValueIdx.ix1 k) := by
  have h : V m c main_v0 = shapeCast S1x1024 (m ((c.tc : Thread nD τ).loc main_arg3) : FVec Ideal S1024 .f32) shapeCasts_S1024_S1x1024 := by
    dsimp only [V, hostOps0]
    after_results
    rfl
  rw [h]
  exact as_row _ k

theorem V_v1 (k : Fin 1024) : V m c main_v1 (ValueIdx.ix2 0 k) = m ((c.tc : Thread nD τ).loc main_arg4) (ValueIdx.ix1 k) := by
  have h : V m c main_v1 = shapeCast S1x1024 (m ((c.tc : Thread nD τ).loc main_arg4) : FVec Ideal S1024 .f32) shapeCasts_S1024_S1x1024 := by
    dsimp only [V, hostOps0]
    after_results
    rfl
  rw [h]
  exact as_row _ k

/-- The result as a function of the arguments. -/
def whole (i : S32768x1024.Idx) : EReal :=
  normed (mixed (fun k => m ((c.tc : Thread nD τ).loc main_arg0) (ValueIdx.ix2 (i 0) k))
      (fun a k => m ((c.tc : Thread nD τ).loc main_arg1) (ValueIdx.ix3 a (i 0) k))
      (fun a => m ((c.tc : Thread nD τ).loc main_arg2) (ValueIdx.ix2 (i 0) (lane4 a))))
    (fun k => m ((c.tc : Thread nD τ).loc main_arg3) (ValueIdx.ix1 k))
    (fun k => m ((c.tc : Thread nD τ).loc main_arg4) (ValueIdx.ix1 k)) (i 1)

theorem point (t : Fin cfg0.N) (p : Fin 512) (j : Fin 1024) :
    out0_5 (iblk m c 0 t) (iblk m c 1 t) (iblk m c 2 t) (iblk m c 3 t) (iblk m c 4 t) (ix2 p j)
      = whole m c (ValueIdx.ix2 (row t p) j) := by
  refine (block _ _ _ _ _ p j).trans (normed_congr (fun k => mixed_congr (fun k => ?_) (fun a k => ?_) (fun a => ?_) k)
    (fun k => ?_) (fun k => ?_) j)
  · exact (blk0 m c t p k).trans (congrFun (V_main_arg0 m c) _)
  · exact (blk1 m c t a p k).trans (congrFun (V_main_arg1 m c) _)
  · exact (blk2 m c t p (lane4 a)).trans (congrFun (V_main_arg2 m c) _)
  · exact (blk3 m c t k).trans (V_v0 m c k)
  · exact (blk4 m c t k).trans (V_v1 m c k)

theorem point' (t : Fin cfg0.N) (y : S512x1024.Idx) :
    out0_5 (iblk m c 0 t) (iblk m c 1 t) (iblk m c 2 t) (iblk m c 3 t) (iblk m c 4 t) y
      = whole m c (((cfg0.win 5).blk t).view.emb y) := by
  rw [eq_ix2 (n0 := 512) (n1 := 1024) y]
  exact (point m c t (y 0) (y 1)).trans (congrArg (whole m c) (emb5 t (y 0) (y 1)).symm)

/-- Every entry of the array lies in an output block. -/
theorem covered (i : S32768x1024.Idx) :
    ∃ t : Fin cfg0.N, (cfg0.win 5).flush t = true ∧ i ∈ ((cfg0.win 5).blk t).view.set := by
  have hr : (i 0).val < 32768 := (i 0).isLt
  have hlt : (i 0).val / 512 < cfg0.N := by show _ < 64; omega
  refine ⟨⟨(i 0).val / 512, hlt⟩, flush0_5 _, ?_⟩
  have h2 : ((cfg0.win 5).blk ⟨(i 0).val / 512, hlt⟩).view.emb (ix2 ⟨(i 0).val % 512, by omega⟩ (i 1)) = i := by
    refine (emb5 ⟨(i 0).val / 512, hlt⟩ ⟨(i 0).val % 512, by omega⟩ (i 1)).trans (funext fun a => ?_)
    match a with
    | ⟨0, _⟩ => exact Fin.ext (by show (i 0).val / 512 * 512 + (i 0).val % 512 = (i 0).val; omega)
    | ⟨1, _⟩ => rfl
  have h3 := View.emb_mem_set ((cfg0.win 5).blk ⟨(i 0).val / 512, hlt⟩).view (ix2 ⟨(i 0).val % 512, by omega⟩ (i 1))
  rw [h2] at h3
  exact h3

/-- The result array of the call. -/
theorem array_eq : (dats m 0 c).arrAt 5 cfg0.N = whole m c :=
  (dats m 0 c).arrAt_eq_of_emb 5 (whole m c) (fun t _ y => (congrFun (after0_5 m c t) y).trans (point' m c t y)) covered

end Cert.CombineBlock

end
-- ==== Proof.CombineRead.lean ====
/- The reference of the combining call, read at an entry. -/
module

public import proofs.«01_k».proof.Proof.Gen.CombineRefIdeal.Run
public import proofs.«01_k».proof.Proof.Gen.CombineRefIdeal.Read
public import proofs.«01_k».proof.Proof.Norm
public import Idealize.ShloMosaic.Lib.Pointwise
public import Idealize.ShloMosaic.Lib.Pointwise.IndexBridge
public import Idealize.ShloMosaic.Lib.Pointwise.Contract

@[expose] public section

noncomputable section

namespace Cert.CombineRead

open Idealize.ShloMosaic Cert.CombineRefIdeal Cert.CombineRefIdeal.Read Cert.Norm

variable (x0 : (⟨S32768x1024, .f32⟩ : BufTy).Contents (Elt Ideal)) (x1 : (⟨S4x32768x1024, .f32⟩ : BufTy).Contents (Elt Ideal))
  (x2 : (⟨S32768x128, .f32⟩ : BufTy).Contents (Elt Ideal)) (x3 x4 : (⟨S1024, .f32⟩ : BufTy).Contents (Elt Ideal))

theorem sum_at (r : Fin 32768) (j : Fin 1024) :
    val_main_v4 (F := Ideal) x0 x1 x2 (ix2 r j)
      = mixed (fun k => x0 (ix2 r k)) (fun a k => x1 (ix3 a r k)) (fun a => x2 (ix2 r (lane4 a))) j := by
  unfold val_main_v4 val_main_v3 val_main_v2 val_main_cst val_main_v1 val_main_v0
  pointwise [mixed, Cert.Norm.lit]

/-- The reference's result at an entry. -/
theorem result_at (r : Fin 32768) (j : Fin 1024) :
    val_main_v28 (F := Ideal) x0 x1 x2 x3 x4 (ix2 r j)
      = normed (mixed (fun k => x0 (ix2 r k)) (fun a k => x1 (ix3 a r k)) (fun a => x2 (ix2 r (lane4 a))))
          (fun k => x3 (ix1 k)) (fun k => x4 (ix1 k)) j := by
  rw [← funext fun j => sum_at x0 x1 x2 r j]
  unfold val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_cst_0 val_main_cst_1 val_main_cst_2 val_main_cst_3 val_main_cst_4
  generalize val_main_v4 (F := Ideal) x0 x1 x2 = y
  pointwise [normed, mean, spread, Cert.Norm.lit]

end Cert.CombineRead

end
-- ==== Proof.CombineMain.lean ====
/- The claims about the combining call: its frames, the reference's frame, and the equality of the two results. -/
module

public import proofs.«01_k».proof.Proof.Gen.Combine.Frame
public import proofs.«01_k».proof.Proof.Gen.CombineIdeal.Value
public import proofs.«01_k».proof.Proof.CombineBlock
public import proofs.«01_k».proof.Proof.CombineRead
public import proofs.«01_k».proof.Defs
public import Idealize.ShloMosaic.Lib.Claim

@[expose] public section

noncomputable section

namespace Cert.CombineMain

open Idealize.ShloMosaic Idealize.ShloMosaic.TcCoe Idealize.SL.Sem

theorem frame_p : Cert.quiescent_Combine := fun m g _ => Cert.Combine.Gen.frame m g

theorem frame_pi : Cert.quiescent_CombineIdeal := fun m g _ => Cert.CombineIdeal.Gen.frame m g

theorem frame_ri : Cert.quiescent_CombineRefIdeal := fun m g _ =>
  (θ_run Cert.CombineRefIdeal.defs _ _).mono (fun r h => ⟨fun c => (h c).2, sem_eq_zero_of_no_sems (by decide) r.2⟩)
    (Cert.CombineRefIdeal.Value.run (F := Ideal) m g)

section Value

open Cert.CombineIdeal Cert.CombineIdeal.Gen

variable (m : (ℓ : Loc nD τ sig) → Buf (Elt Ideal) ℓ)

/-- The reference's array at this memory's arguments is the kernel's. -/
theorem ref_whole (c : Dev nD) :
    Cert.CombineRefIdeal.Read.val_main_v28 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      = CombineBlock.whole m c := by
  funext i
  have hi : i = ValueIdx.ix2 (n0 := 32768) (n1 := 1024) (i 0) (i 1) := by
    funext a
    match a with
    | ⟨0, _⟩ => rfl
    | ⟨1, _⟩ => rfl
  exact (congrArg _ hi).trans (CombineRead.result_at (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) (i 0) (i 1))

end Value

/-- The two programs' results are equal. -/
theorem algebraic : Cert.algebraic_CombineIdeal_CombineRefIdeal := by
  intro m g m' g' _ hagree
  refine ⟨fun c => CombineBlock.whole m c,
    (θ_run Cert.CombineIdeal.defs _ _).mono (fun r h c => ⟨(h c).1.trans (CombineBlock.array_eq m c), (h c).2⟩)
      (Cert.CombineIdeal.Value.run_blocks m g), ?_⟩
  refine (θ_run Cert.CombineRefIdeal.defs _ _).mono (fun r h c => ⟨(h c).1.trans ?_, (h c).2⟩)
    (Cert.CombineRefIdeal.Value.run (F := Ideal) m' g')
  obtain rfl : c = (0 : Fin 1) := Subsingleton.elim _ _
  refine (CombineRefIdeal.Read.val_main_v28_eq _ _ _ _ _).trans ?_
  obtain ⟨h0, h1, h2, h3, h4⟩ := hagree (0 : Fin 1)
  rw [h0, h1, h2, h3, h4]
  exact ref_whole m 0

end Cert.CombineMain

end
-- ==== Proof.OutProjPay.lean ====
/- The values one grid point of the output projection stores in the first two results, read at an index. -/
module

public import proofs.«01_k».proof.Proof.Gen.OutProjIdeal.Frame
public import proofs.«01_k».proof.Proof.Norm
public import Idealize.ShloMosaic.Lib.Pointwise
public import Idealize.ShloMosaic.Lib.Pointwise.IndexBridge
public import Idealize.ShloMosaic.Lib.Pointwise.Contract
public import Idealize.ShloMosaic.Lib.Pipeline.ValueKit

@[expose] public section

noncomputable section

namespace Cert.OutProjBlock

open Idealize.ShloMosaic Idealize.ShloMosaic.TcCoe
open Cert.OutProjIdeal Cert.OutProjIdeal.Gen Cert.Norm

/-- Three rows side by side, times one column of the matrix: the parts' products added. -/
def three (a : Fin 384 → EReal) (b : Fin 384 → EReal) (c : Fin 256 → EReal) (w : Fin 1024 → EReal) : EReal :=
  (∑ k : Fin 384, a k * w ⟨k.val, by omega⟩) + (∑ k : Fin 384, b k * w ⟨384 + k.val, by omega⟩)
    + ∑ k : Fin 256, c k * w ⟨768 + k.val, by omega⟩

/-- The row before its second normalisation. -/
def mixRow (x g b : Fin 1024 → EReal) (yr ya : Fin 384 → EReal) (ym : Fin 256 → EReal) (w : Fin 1024 → Fin 1024 → EReal)
    (j : Fin 1024) : EReal :=
  lit 0x3F9837F0#32 * normed x g b j + three yr ya ym (fun k => w k j)

/-- The row after the second normalisation. -/
def hidden (x g b : Fin 1024 → EReal) (yr ya : Fin 384 → EReal) (ym : Fin 256 → EReal) (w : Fin 1024 → Fin 1024 → EReal)
    (g1 b1 : Fin 1024 → EReal) (j : Fin 1024) : EReal := normed (mixRow x g b yr ya ym w) g1 b1 j

theorem hidden_congr {x x' g g' b b' : Fin 1024 → EReal} {yr yr' ya ya' : Fin 384 → EReal} {ym ym' : Fin 256 → EReal}
    {w w' : Fin 1024 → Fin 1024 → EReal} {g1 g1' b1 b1' : Fin 1024 → EReal} (hx : ∀ k, x k = x' k) (hg : ∀ k, g k = g' k)
    (hb : ∀ k, b k = b' k) (hr : ∀ k, yr k = yr' k) (ha : ∀ k, ya k = ya' k) (hm : ∀ k, ym k = ym' k)
    (hw : ∀ k j, w k j = w' k j) (hg1 : ∀ k, g1 k = g1' k) (hb1 : ∀ k, b1 k = b1' k) (j : Fin 1024) :
    hidden x g b yr ya ym w g1 b1 j = hidden x' g' b' yr' ya' ym' w' g1' b1' j := by
  rw [funext hx, funext hg, funext hb, funext hr, funext ha, funext hm, funext fun k => funext (hw k), funext hg1, funext hb1]

theorem pay_first (x0 : Vec Ideal S512x1024 .f32) (x4 x5 : Vec Ideal S1x1024 .f32) (p : Fin 512) (k : Fin 1024) :
    k0_pay3 x0 x4 x5 (ix2 p k) = normed (fun k => x0 (ix2 p k)) (fun k => x4 (ix2 0 k)) (fun k => x5 (ix2 0 k)) k := by
  unfold_payloads
  pointwise [normed, spread, mean, Cert.Norm.lit]

theorem pay_two (x1 : Vec Ideal S512x384 .f32) (w1 : Vec Ideal S384x1024 .bf16) (x2 : Vec Ideal S512x384 .f32)
    (w2 : Vec Ideal S384x1024 .bf16) (p : Fin 512) (j : Fin 1024) :
    k0_pay4 x1 w1 x2 w2 (ix2 p j) = (∑ k : Fin 384, x1 (ix2 p k) * w1 (ix2 k j)) + ∑ k : Fin 384, x2 (ix2 p k) * w2 (ix2 k j) := by
  unfold_payloads
  pointwise

theorem pay_last (h m : FVec Ideal S512x1024 .f32) (x3 : Vec Ideal S512x256 .f32) (w3 : Vec Ideal S256x1024 .bf16)
    (x7 x8 : Vec Ideal S1x1024 .f32) (p : Fin 512) (j : Fin 1024) :
    k0_pay5 h m x3 w3 x7 x8 (ix2 p j)
      = normed (fun j => lit 0x3F9837F0#32 * h (ix2 p j) + (m (ix2 p j) + ∑ k : Fin 256, x3 (ix2 p k) * w3 (ix2 k j)))
          (fun k => x7 (ix2 0 k)) (fun k => x8 (ix2 0 k)) j := by
  unfold_payloads
  pointwise [normed, spread, mean, Cert.Norm.lit]

theorem pay_cast (h m : FVec Ideal S512x1024 .f32) (x3 : Vec Ideal S512x256 .f32) (w3 : Vec Ideal S256x1024 .bf16)
    (x7 x8 : Vec Ideal S1x1024 .f32) (p : Fin 512) (j : Fin 1024) :
    k0_pay6 h m x3 w3 x7 x8 (ix2 p j) = k0_pay5 h m x3 w3 x7 x8 (ix2 p j) := rfl

variable (x0 : Vec Ideal S512x1024 .f32) (x1 x2 : Vec Ideal S512x384 .f32) (x3 : Vec Ideal S512x256 .f32)
  (x4 x5 : Vec Ideal S1x1024 .f32) (x6 : Vec Ideal S1024x1024 .bf16) (x7 x8 : Vec Ideal S1x1024 .f32)
  (x9 x10 : Vec Ideal S1024x128 .bf16) (x11 : Vec Ideal S1x128 .f32)

/-- The row a grid point's two normalisations leave. -/
theorem rows_at (p : Fin 512) (j : Fin 1024) :
    k0_pay5 (k0_pay3 x0 x4 x5) (k0_pay4 x1 (View.ld x6 r0_3) x2 (View.ld x6 r0_4)) x3 (View.ld x6 r0_6) x7 x8 (ix2 p j)
      = hidden (fun k => x0 (ix2 p k)) (fun k => x4 (ix2 0 k)) (fun k => x5 (ix2 0 k)) (fun k => x1 (ix2 p k)) (fun k => x2 (ix2 p k))
          (fun k => x3 (ix2 p k)) (fun k j => x6 (ix2 k j)) (fun k => x7 (ix2 0 k)) (fun k => x8 (ix2 0 k)) j := by
  refine (pay_last _ _ _ _ _ _ p j).trans (normed_congr (fun q => ?_) (fun _ => rfl) (fun _ => rfl) j)
  refine congrArg₂ _ (congrArg _ (pay_first x0 x4 x5 p q)) (congrArg₂ _ ((pay_two _ _ _ _ p q).trans (congrArg₂ _ ?_ ?_)) ?_)
  · exact Finset.sum_congr rfl fun k _ => congrArg (_ * ·) (congrArg x6 (funext fun a => Fin.ext (match a with
      | ⟨0, _⟩ => by show 0 + 1 * k.val = k.val; omega | ⟨1, _⟩ => by show 0 + 1 * q.val = q.val; omega)))
  · exact Finset.sum_congr rfl fun k _ => congrArg (_ * ·) (congrArg x6 (funext fun a => Fin.ext (match a with
      | ⟨0, _⟩ => by show 384 + 1 * k.val = 384 + k.val; omega | ⟨1, _⟩ => by show 0 + 1 * q.val = q.val; omega)))
  · exact Finset.sum_congr rfl fun k _ => congrArg (_ * ·) (congrArg x6 (funext fun a => Fin.ext (match a with
      | ⟨0, _⟩ => by show 768 + 1 * k.val = 768 + k.val; omega | ⟨1, _⟩ => by show 0 + 1 * q.val = q.val; omega)))

theorem first_eq : k0_pay29 x0 x1 x2 x3 x4 x5 x6 x7 x8 x9 x10 x11 = k0_pay3 x0 x4 x5 := by
  unfold k0_pay29
  frame_out

theorem two_eq : k0_pay30 x0 x1 x2 x3 x4 x5 x6 x7 x8 x9 x10 x11 = k0_pay4 x1 (View.ld x6 r0_3) x2 (View.ld x6 r0_4) := by
  unfold k0_pay30
  frame_out

theorem out12_eq : out0_12 x0 x1 x2 x3 x4 x5 x6 x7 x8 x9 x10 x11
    = k0_pay5 (k0_pay3 x0 x4 x5) (k0_pay4 x1 (View.ld x6 r0_3) x2 (View.ld x6 r0_4)) x3 (View.ld x6 r0_6) x7 x8 := by
  rw [← first_eq x0 x1 x2 x3 x4 x5 x6 x7 x8 x9 x10 x11, ← two_eq x0 x1 x2 x3 x4 x5 x6 x7 x8 x9 x10 x11]
  frame_out

theorem out13_eq : out0_13 x0 x1 x2 x3 x4 x5 x6 x7 x8 x9 x10 x11
    = k0_pay6 (k0_pay3 x0 x4 x5) (k0_pay4 x1 (View.ld x6 r0_3) x2 (View.ld x6 r0_4)) x3 (View.ld x6 r0_6) x7 x8 := by
  rw [← first_eq x0 x1 x2 x3 x4 x5 x6 x7 x8 x9 x10 x11, ← two_eq x0 x1 x2 x3 x4 x5 x6 x7 x8 x9 x10 x11]
  frame_out

/-- The row of one grid point, in both results. -/
theorem block12 (p : Fin 512) (j : Fin 1024) : out0_12 x0 x1 x2 x3 x4 x5 x6 x7 x8 x9 x10 x11 (ix2 p j)
    = hidden (fun k => x0 (ix2 p k)) (fun k => x4 (ix2 0 k)) (fun k => x5 (ix2 0 k)) (fun k => x1 (ix2 p k)) (fun k => x2 (ix2 p k))
          (fun k => x3 (ix2 p k)) (fun k j => x6 (ix2 k j)) (fun k => x7 (ix2 0 k)) (fun k => x8 (ix2 0 k)) j :=
  (congrFun (out12_eq x0 x1 x2 x3 x4 x5 x6 x7 x8 x9 x10 x11) _).trans (rows_at x0 x1 x2 x3 x4 x5 x6 x7 x8 p j)

theorem block13 (p : Fin 512) (j : Fin 1024) : out0_13 x0 x1 x2 x3 x4 x5 x6 x7 x8 x9 x10 x11 (ix2 p j)
    = hidden (fun k => x0 (ix2 p k)) (fun k => x4 (ix2 0 k)) (fun k => x5 (ix2 0 k)) (fun k => x1 (ix2 p k)) (fun k => x2 (ix2 p k))
          (fun k => x3 (ix2 p k)) (fun k j => x6 (ix2 k j)) (fun k => x7 (ix2 0 k)) (fun k => x8 (ix2 0 k)) j :=
  (congrFun (out13_eq x0 x1 x2 x3 x4 x5 x6 x7 x8 x9 x10 x11) _).trans
    ((pay_cast _ _ _ _ _ _ p j).trans (rows_at x0 x1 x2 x3 x4 x5 x6 x7 x8 p j))

end Cert.OutProjBlock

end
-- ==== Proof.OutProjBlock.lean ====
/- The arrays the output projection leaves in its first two results: at every entry the row after its two normalisations. -/
module

public import proofs.«01_k».proof.Proof.OutProjPay

@[expose] public section

noncomputable section

namespace Cert.OutProjBlock

open Idealize.ShloMosaic Idealize.ShloMosaic.TcCoe Idealize.SL.Sem
open Cert.OutProjIdeal Cert.OutProjIdeal.Gen Cert.Norm

variable (m : (ℓ : Loc nD τ sig) → Buf (Elt Ideal) ℓ) (c : Dev nD)

theorem index0 : ∀ t : Fin cfg0.N, (cfg0.win 0).index t = ![t.val, 0] :=
  (by decide +kernel : ∀ t : Fin grid0.N, win0_0.index t = ![t.val, 0])
theorem index1 : ∀ t : Fin cfg0.N, (cfg0.win 1).index t = ![t.val, 0] :=
  (by decide +kernel : ∀ t : Fin grid0.N, win0_1.index t = ![t.val, 0])
theorem index2 : ∀ t : Fin cfg0.N, (cfg0.win 2).index t = ![t.val, 0] :=
  (by decide +kernel : ∀ t : Fin grid0.N, win0_2.index t = ![t.val, 0])
theorem index3 : ∀ t : Fin cfg0.N, (cfg0.win 3).index t = ![t.val, 0] :=
  (by decide +kernel : ∀ t : Fin grid0.N, win0_3.index t = ![t.val, 0])
theorem index4 : ∀ t : Fin cfg0.N, (cfg0.win 4).index t = ![0, 0] :=
  (by decide +kernel : ∀ t : Fin grid0.N, win0_4.index t = ![0, 0])
theorem index5 : ∀ t : Fin cfg0.N, (cfg0.win 5).index t = ![0, 0] :=
  (by decide +kernel : ∀ t : Fin grid0.N, win0_5.index t = ![0, 0])
theorem index6 : ∀ t : Fin cfg0.N, (cfg0.win 6).index t = ![0, 0] :=
  (by decide +kernel : ∀ t : Fin grid0.N, win0_6.index t = ![0, 0])
theorem index7 : ∀ t : Fin cfg0.N, (cfg0.win 7).index t = ![0, 0] :=
  (by decide +kernel : ∀ t : Fin grid0.N, win0_7.index t = ![0, 0])
theorem index8 : ∀ t : Fin cfg0.N, (cfg0.win 8).index t = ![0, 0] :=
  (by decide +kernel : ∀ t : Fin grid0.N, win0_8.index t = ![0, 0])
theorem index12 : ∀ t : Fin cfg0.N, (cfg0.win 12).index t = ![t.val, 0] :=
  (by decide +kernel : ∀ t : Fin grid0.N, win0_12.index t = ![t.val, 0])
theorem index13 : ∀ t : Fin cfg0.N, (cfg0.win 13).index t = ![t.val, 0] :=
  (by decide +kernel : ∀ t : Fin grid0.N, win0_13.index t = ![t.val, 0])

/-- Row `p` of block `t` as a row of the whole array. -/
abbrev row (t : Fin 64) (p : Fin 512) : Fin 32768 := ⟨t.val * 512 + p.val, by omega⟩

theorem blk0 (t : Fin cfg0.N) (p : Fin 512) (k : Fin 1024) :
    iblk m c 0 t (ix2 p k) = V m c main_arg0 (ValueIdx.ix2 (row t p) k) := by
  show V m c main_arg0 (((cfg0.win 0).blk t).view.emb (ix2 p k)) = _
  refine congrArg _ (funext fun a => Fin.ext ?_)
  refine (Pipeline.Window.rect_emb_val (cfg0.win 0) t (ix2 p k) a).trans ?_
  rw [index0]
  match a with
  | ⟨0, _⟩ => rfl
  | ⟨1, _⟩ => show 0 * 1024 + k.val = k.val; omega

theorem blk1 (t : Fin cfg0.N) (p : Fin 512) (k : Fin 384) :
    iblk m c 1 t (ix2 p k) = V m c main_arg1 (ValueIdx.ix2 (row t p) k) := by
  show V m c main_arg1 (((cfg0.win 1).blk t).view.emb (ix2 p k)) = _
  refine congrArg _ (funext fun a => Fin.ext ?_)
  refine (Pipeline.Window.rect_emb_val (cfg0.win 1) t (ix2 p k) a).trans ?_
  rw [index1]
  match a with
  | ⟨0, _⟩ => rfl
  | ⟨1, _⟩ => show 0 * 384 + k.val = k.val; omega

theorem blk2 (t : Fin cfg0.N) (p : Fin 512) (k : Fin 384) :
    iblk m c 2 t (ix2 p k) = V m c main_arg2 (ValueIdx.ix2 (row t p) k) := by
  show V m c main_arg2 (((cfg0.win 2).blk t).view.emb (ix2 p k)) = _
  refine congrArg _ (funext fun a => Fin.ext ?_)
  refine (Pipeline.Window.rect_emb_val (cfg0.win 2) t (ix2 p k) a).trans ?_
  rw [index2]
  match a with
  | ⟨0, _⟩ => rfl
  | ⟨1, _⟩ => show 0 * 384 + k.val = k.val; omega

theorem blk3 (t : Fin cfg0.N) (p : Fin 512) (k : Fin 256) :
    iblk m c 3 t (ix2 p k) = V m c main_arg3 (ValueIdx.ix2 (row t p) k) := by
  show V m c main_arg3 (((cfg0.win 3).blk t).view.emb (ix2 p k)) = _
  refine congrArg _ (funext fun a => Fin.ext ?_)
  refine (Pipeline.Window.rect_emb_val (cfg0.win 3) t (ix2 p k) a).trans ?_
  rw [index3]
  match a with
  | ⟨0, _⟩ => rfl
  | ⟨1, _⟩ => show 0 * 256 + k.val = k.val; omega

theorem blk4 (t : Fin cfg0.N) (k : Fin 1024) : iblk m c 4 t (ix2 0 k) = V m c main_v7 (ValueIdx.ix2 0 k) := by
  show V m c main_v7 (((cfg0.win 4).blk t).view.emb (ix2 0 k)) = _
  refine congrArg _ (funext fun a => Fin.ext ?_)
  refine (Pipeline.Window.rect_emb_val (cfg0.win 4) t (ix2 0 k) a).trans ?_
  rw [index4]
  match a with
  | ⟨0, _⟩ => rfl
  | ⟨1, _⟩ => show 0 * 1024 + k.val = k.val; omega

theorem blk5 (t : Fin cfg0.N) (k : Fin 1024) : iblk m c 5 t (ix2 0 k) = V m c main_v8 (ValueIdx.ix2 0 k) := by
  show V m c main_v8 (((cfg0.win 5).blk t).view.emb (ix2 0 k)) = _
  refine congrArg _ (funext fun a => Fin.ext ?_)
  refine (Pipeline.Window.rect_emb_val (cfg0.win 5) t (ix2 0 k) a).trans ?_
  rw [index5]
  match a with
  | ⟨0, _⟩ => rfl
  | ⟨1, _⟩ => show 0 * 1024 + k.val = k.val; omega

theorem blk7 (t : Fin cfg0.N) (k : Fin 1024) : iblk m c 7 t (ix2 0 k) = V m c main_v10 (ValueIdx.ix2 0 k) := by
  show V m c main_v10 (((cfg0.win 7).blk t).view.emb (ix2 0 k)) = _
  refine congrArg _ (funext fun a => Fin.ext ?_)
  refine (Pipeline.Window.rect_emb_val (cfg0.win 7) t (ix2 0 k) a).trans ?_
  rw [index7]
  match a with
  | ⟨0, _⟩ => rfl
  | ⟨1, _⟩ => show 0 * 1024 + k.val = k.val; omega

theorem blk8 (t : Fin cfg0.N) (k : Fin 1024) : iblk m c 8 t (ix2 0 k) = V m c main_v11 (ValueIdx.ix2 0 k) := by
  show V m c main_v11 (((cfg0.win 8).blk t).view.emb (ix2 0 k)) = _
  refine congrArg _ (funext fun a => Fin.ext ?_)
  refine (Pipeline.Window.rect_emb_val (cfg0.win 8) t (ix2 0 k) a).trans ?_
  rw [index8]
  match a with
  | ⟨0, _⟩ => rfl
  | ⟨1, _⟩ => show 0 * 1024 + k.val = k.val; omega

theorem blk6 (t : Fin cfg0.N) (k j : Fin 1024) : iblk m c 6 t (ix2 k j) = V m c main_v9 (ValueIdx.ix2 k j) := by
  show V m c main_v9 (((cfg0.win 6).blk t).view.emb (ix2 k j)) = _
  refine congrArg _ (funext fun a => Fin.ext ?_)
  refine (Pipeline.Window.rect_emb_val (cfg0.win 6) t (ix2 k j) a).trans ?_
  rw [index6]
  match a with
  | ⟨0, _⟩ => show 0 * 1024 + k.val = k.val; omega
  | ⟨1, _⟩ => show 0 * 1024 + j.val = j.val; omega

/-- A vector as one row. -/
theorem as_row (y : FVec Ideal S1024 .f32) (k : Fin 1024) :
    shapeCast S1x1024 y shapeCasts_S1024_S1x1024 (ValueIdx.ix2 0 k) = y (ValueIdx.ix1 k) := by
  refine shapeCast_apply _ _ _ _ ?_
  rw [Shape.rowMajor_val_two, Shape.rowMajor_val_one]
  show k.val = 0 * 1024 + k.val
  omega

theorem V_v7 (k : Fin 1024) : V m c main_v7 (ValueIdx.ix2 0 k) = m ((c.tc : Thread nD τ).loc main_arg4) (ValueIdx.ix1 k) := by
  have h : V m c main_v7 = shapeCast S1x1024 (m ((c.tc : Thread nD τ).loc main_arg4) : FVec Ideal S1024 .f32) shapeCasts_S1024_S1x1024 := by
    simp only [V, hostOps0, hostOps0_1, hostOps0_2, hostOps0_3, hostOps0_4, List.flatten_cons, List.flatten_nil, List.append_nil,
      List.cons_append, List.nil_append, StableHlo.TRef.unary, StableHlo.TRef.binary]
    after_results
    rfl
  rw [h]
  exact as_row _ k

theorem V_v8 (k : Fin 1024) : V m c main_v8 (ValueIdx.ix2 0 k) = m ((c.tc : Thread nD τ).loc main_arg5) (ValueIdx.ix1 k) := by
  have h : V m c main_v8 = shapeCast S1x1024 (m ((c.tc : Thread nD τ).loc main_arg5) : FVec Ideal S1024 .f32) shapeCasts_S1024_S1x1024 := by
    simp only [V, hostOps0, hostOps0_1, hostOps0_2, hostOps0_3, hostOps0_4, List.flatten_cons, List.flatten_nil, List.append_nil,
      List.cons_append, List.nil_append, StableHlo.TRef.unary, StableHlo.TRef.binary]
    after_results
    rfl
  rw [h]
  exact as_row _ k

theorem V_v10 (k : Fin 1024) : V m c main_v10 (ValueIdx.ix2 0 k) = m ((c.tc : Thread nD τ).loc main_arg7) (ValueIdx.ix1 k) := by
  have h : V m c main_v10 = shapeCast S1x1024 (m ((c.tc : Thread nD τ).loc main_arg7) : FVec Ideal S1024 .f32) shapeCasts_S1024_S1x1024 := by
    simp only [V, hostOps0, hostOps0_1, hostOps0_2, hostOps0_3, hostOps0_4, List.flatten_cons, List.flatten_nil, List.append_nil,
      List.cons_append, List.nil_append, StableHlo.TRef.unary, StableHlo.TRef.binary]
    after_results
    rfl
  rw [h]
  exact as_row _ k

theorem V_v11 (k : Fin 1024) : V m c main_v11 (ValueIdx.ix2 0 k) = m ((c.tc : Thread nD τ).loc main_arg8) (ValueIdx.ix1 k) := by
  have h : V m c main_v11 = shapeCast S1x1024 (m ((c.tc : Thread nD τ).loc main_arg8) : FVec Ideal S1024 .f32) shapeCasts_S1024_S1x1024 := by
    simp only [V, hostOps0, hostOps0_1, hostOps0_2, hostOps0_3, hostOps0_4, List.flatten_cons, List.flatten_nil, List.append_nil,
      List.cons_append, List.nil_append, StableHlo.TRef.unary, StableHlo.TRef.binary]
    after_results
    rfl
  rw [h]
  exact as_row _ k

theorem V_v9 (k j : Fin 1024) : V m c main_v9 (ValueIdx.ix2 k j) = m ((c.tc : Thread nD τ).loc main_arg6) (ValueIdx.ix2 k j) := by
  have h : V m c main_v9 = (truncf .bf16 (m ((c.tc : Thread nD τ).loc main_arg6) : FVec Ideal S1024x1024 .f32) bitsLt_bf16_f32 : FVec Ideal S1024x1024 .bf16) := by
    simp only [V, hostOps0, hostOps0_1, hostOps0_2, hostOps0_3, hostOps0_4, List.flatten_cons, List.flatten_nil, List.append_nil,
      List.cons_append, List.nil_append, StableHlo.TRef.unary, StableHlo.TRef.binary]
    after_results
  rw [h]
  rfl

/-- Row `r` after its two normalisations. -/
def value (r : Fin 32768) (j : Fin 1024) : EReal :=
  hidden (fun k => m ((c.tc : Thread nD τ).loc main_arg0) (ValueIdx.ix2 r k))
    (fun k => m ((c.tc : Thread nD τ).loc main_arg4) (ValueIdx.ix1 k)) (fun k => m ((c.tc : Thread nD τ).loc main_arg5) (ValueIdx.ix1 k))
    (fun k => m ((c.tc : Thread nD τ).loc main_arg1) (ValueIdx.ix2 r k)) (fun k => m ((c.tc : Thread nD τ).loc main_arg2) (ValueIdx.ix2 r k))
    (fun k => m ((c.tc : Thread nD τ).loc main_arg3) (ValueIdx.ix2 r k)) (fun k j => m ((c.tc : Thread nD τ).loc main_arg6) (ValueIdx.ix2 k j))
    (fun k => m ((c.tc : Thread nD τ).loc main_arg7) (ValueIdx.ix1 k)) (fun k => m ((c.tc : Thread nD τ).loc main_arg8) (ValueIdx.ix1 k)) j

theorem hidden_value (t : Fin cfg0.N) (p : Fin 512) (j : Fin 1024) :
    hidden (fun k => iblk m c 0 t (ix2 p k)) (fun k => iblk m c 4 t (ix2 0 k)) (fun k => iblk m c 5 t (ix2 0 k))
      (fun k => iblk m c 1 t (ix2 p k)) (fun k => iblk m c 2 t (ix2 p k)) (fun k => iblk m c 3 t (ix2 p k))
      (fun k j => iblk m c 6 t (ix2 k j)) (fun k => iblk m c 7 t (ix2 0 k)) (fun k => iblk m c 8 t (ix2 0 k)) j
      = value m c (row t p) j :=
  hidden_congr (fun k => (blk0 m c t p k).trans (congrFun (V_main_arg0 m c) _)) (fun k => (blk4 m c t k).trans (V_v7 m c k))
    (fun k => (blk5 m c t k).trans (V_v8 m c k)) (fun k => (blk1 m c t p k).trans (congrFun (V_main_arg1 m c) _))
    (fun k => (blk2 m c t p k).trans (congrFun (V_main_arg2 m c) _)) (fun k => (blk3 m c t p k).trans (congrFun (V_main_arg3 m c) _))
    (fun k j => (blk6 m c t k j).trans (V_v9 m c k j)) (fun k => (blk7 m c t k).trans (V_v10 m c k))
    (fun k => (blk8 m c t k).trans (V_v11 m c k)) j

/-- The first two results, which hold the same numbers. -/
def whole (i : S32768x1024.Idx) : EReal := value m c (i 0) (i 1)

theorem emb12 (t : Fin cfg0.N) (p : Fin 512) (j : Fin 1024) :
    ((cfg0.win 12).blk t).view.emb (ix2 p j) = ValueIdx.ix2 (n0 := 32768) (n1 := 1024) (row t p) j := by
  refine (funext fun a => Fin.ext ?_)
  refine (Pipeline.Window.rect_emb_val (cfg0.win 12) t (ix2 p j) a).trans ?_
  rw [index12]
  match a with
  | ⟨0, _⟩ => rfl
  | ⟨1, _⟩ => show 0 * 1024 + j.val = j.val; omega

theorem at12 (t : Fin cfg0.N) (p : Fin 512) (j : Fin 1024) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 p j)
      = whole m c (ValueIdx.ix2 (row t p) j) := by
  refine (block12 _ _ _ _ _ _ _ _ _ _ _ _ p j).trans ?_
  exact hidden_value m c t p j

theorem point12 (t : Fin cfg0.N) (y : S512x1024.Idx) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y
      = whole m c (((cfg0.win 12).blk t).view.emb y) := by
  rw [eq_ix2 (n0 := 512) (n1 := 1024) y]
  exact (at12 m c t (y 0) (y 1)).trans (congrArg (whole m c) (emb12 t (y 0) (y 1)).symm)

theorem covered12 (i : S32768x1024.Idx) :
    ∃ t : Fin cfg0.N, (cfg0.win 12).flush t = true ∧ i ∈ ((cfg0.win 12).blk t).view.set := by
  have hr : (i 0).val < 32768 := (i 0).isLt
  have hlt : (i 0).val / 512 < cfg0.N := by show _ < 64; omega
  refine ⟨⟨(i 0).val / 512, hlt⟩, flush0_12 _, ?_⟩
  have h2 : ((cfg0.win 12).blk ⟨(i 0).val / 512, hlt⟩).view.emb (ix2 ⟨(i 0).val % 512, by omega⟩ (i 1)) = i := by
    refine (emb12 ⟨(i 0).val / 512, hlt⟩ ⟨(i 0).val % 512, by omega⟩ (i 1)).trans (funext fun a => ?_)
    match a with
    | ⟨0, _⟩ => exact Fin.ext (by show (i 0).val / 512 * 512 + (i 0).val % 512 = (i 0).val; omega)
    | ⟨1, _⟩ => rfl
  have h3 := View.emb_mem_set ((cfg0.win 12).blk ⟨(i 0).val / 512, hlt⟩).view (ix2 ⟨(i 0).val % 512, by omega⟩ (i 1))
  rw [h2] at h3
  exact h3

theorem array12_eq : (dats m 0 c).arrAt 12 cfg0.N = whole m c :=
  (dats m 0 c).arrAt_eq_of_emb 12 (whole m c) (fun t _ y => (congrFun (after0_12 m c t) y).trans (point12 m c t y)) covered12

theorem emb13 (t : Fin cfg0.N) (p : Fin 512) (j : Fin 1024) :
    ((cfg0.win 13).blk t).view.emb (ix2 p j) = ValueIdx.ix2 (n0 := 32768) (n1 := 1024) (row t p) j := by
  refine (funext fun a => Fin.ext ?_)
  refine (Pipeline.Window.rect_emb_val (cfg0.win 13) t (ix2 p j) a).trans ?_
  rw [index13]
  match a with
  | ⟨0, _⟩ => rfl
  | ⟨1, _⟩ => show 0 * 1024 + j.val = j.val; omega

theorem at13 (t : Fin cfg0.N) (p : Fin 512) (j : Fin 1024) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 p j)
      = whole m c (ValueIdx.ix2 (row t p) j) := by
  refine (block13 _ _ _ _ _ _ _ _ _ _ _ _ p j).trans ?_
  exact hidden_value m c t p j

theorem point13 (t : Fin cfg0.N) (y : S512x1024.Idx) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y
      = whole m c (((cfg0.win 13).blk t).view.emb y) := by
  rw [eq_ix2 (n0 := 512) (n1 := 1024) y]
  exact (at13 m c t (y 0) (y 1)).trans (congrArg (whole m c) (emb13 t (y 0) (y 1)).symm)

theorem covered13 (i : S32768x1024.Idx) :
    ∃ t : Fin cfg0.N, (cfg0.win 13).flush t = true ∧ i ∈ ((cfg0.win 13).blk t).view.set := by
  have hr : (i 0).val < 32768 := (i 0).isLt
  have hlt : (i 0).val / 512 < cfg0.N := by show _ < 64; omega
  refine ⟨⟨(i 0).val / 512, hlt⟩, flush0_13 _, ?_⟩
  have h2 : ((cfg0.win 13).blk ⟨(i 0).val / 512, hlt⟩).view.emb (ix2 ⟨(i 0).val % 512, by omega⟩ (i 1)) = i := by
    refine (emb13 ⟨(i 0).val / 512, hlt⟩ ⟨(i 0).val % 512, by omega⟩ (i 1)).trans (funext fun a => ?_)
    match a with
    | ⟨0, _⟩ => exact Fin.ext (by show (i 0).val / 512 * 512 + (i 0).val % 512 = (i 0).val; omega)
    | ⟨1, _⟩ => rfl
  have h3 := View.emb_mem_set ((cfg0.win 13).blk ⟨(i 0).val / 512, hlt⟩).view (ix2 ⟨(i 0).val % 512, by omega⟩ (i 1))
  rw [h2] at h3
  exact h3

theorem array13_eq : (dats m 0 c).arrAt 13 cfg0.N = whole m c :=
  (dats m 0 c).arrAt_eq_of_emb 13 (whole m c) (fun t _ y => (congrFun (after0_13 m c t) y).trans (point13 m c t y)) covered13

end Cert.OutProjBlock

end
-- ==== Proof.OutProjRead.lean ====
/- The reference of the output projection, read at an entry. -/
module

public import proofs.«01_k».proof.Proof.Gen.OutProjRefIdeal.Run
public import proofs.«01_k».proof.Proof.Gen.OutProjRefIdeal.Read
public import proofs.«01_k».proof.Proof.OutProjPay

@[expose] public section

noncomputable section

namespace Cert.OutProjRead

open Idealize.ShloMosaic Cert.OutProjRefIdeal Cert.OutProjRefIdeal.Read Cert.Norm Cert.OutProjBlock

/-- A sum over 1024 as the sums over its first 384, its next 384 and its last 256. -/
theorem sum_parts (f : Fin 1024 → EReal) : ∑ k : Fin 1024, f k
    = (∑ k : Fin 384, f ⟨k.val, by omega⟩) + (∑ k : Fin 384, f ⟨384 + k.val, by omega⟩) + ∑ k : Fin 256, f ⟨768 + k.val, by omega⟩ := by
  have h := Fin.sum_univ_add (a := 768) (b := 256) f
  have h2 := Fin.sum_univ_add (a := 384) (b := 384) (fun k : Fin 768 => f (Fin.castAdd 256 k))
  exact h.trans (congrArg (· + _) h2)

/-- The row of a side-by-side array. -/
def beside (a b : Fin 384 → EReal) (c : Fin 256 → EReal) (k : Fin 1024) : EReal :=
  if h : k.val < 384 then a ⟨k.val, h⟩ else if h2 : k.val - 384 < 384 then b ⟨k.val - 384, h2⟩ else c ⟨k.val - 384 - 384, by omega⟩

theorem beside_sum (a b : Fin 384 → EReal) (c : Fin 256 → EReal) (w : Fin 1024 → EReal) :
    ∑ k : Fin 1024, beside a b c k * w k = three a b c w := by
  rw [sum_parts]
  unfold three beside
  refine congrArg₂ _ (congrArg₂ _ ?_ ?_) ?_
  · exact Finset.sum_congr rfl fun k _ => congrArg (· * _) (dif_pos k.isLt)
  · refine Finset.sum_congr rfl fun k _ => congrArg (· * _) ?_
    have e : (384 + k.val) - 384 = k.val := by omega
    rw [dif_neg (show ¬ 384 + k.val < 384 by omega), dif_pos (show 384 + k.val - 384 < 384 by omega)]
    exact congrArg b (Fin.ext e)
  · refine Finset.sum_congr rfl fun k _ => congrArg (· * _) ?_
    have e : (768 + k.val) - 384 - 384 = k.val := by omega
    rw [dif_neg (show ¬ 768 + k.val < 384 by omega), dif_neg (show ¬ 768 + k.val - 384 < 384 by omega)]
    exact congrArg c (Fin.ext e)

variable (x0 : (⟨S32768x1024, .f32⟩ : BufTy).Contents (Elt Ideal)) (x1 x2 : (⟨S32768x384, .f32⟩ : BufTy).Contents (Elt Ideal))
  (x3 : (⟨S32768x256, .f32⟩ : BufTy).Contents (Elt Ideal)) (x4 x5 : (⟨S1024, .f32⟩ : BufTy).Contents (Elt Ideal))
  (x6 : (⟨S1024x1024, .f32⟩ : BufTy).Contents (Elt Ideal)) (x7 x8 : (⟨S1024, .f32⟩ : BufTy).Contents (Elt Ideal))

theorem first_at (r : Fin 32768) (j : Fin 1024) : val_main_v23 (F := Ideal) x0 x4 x5 (ix2 r j)
    = normed (fun k => x0 (ix2 r k)) (fun k => x4 (ix1 k)) (fun k => x5 (ix1 k)) j := by
  unfold val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1 val_main_cst_2 val_main_cst_3
  pointwise [normed, mean, spread, Cert.Norm.lit]

theorem beside_at (r : Fin 32768) (k : Fin 1024) : val_main_v24 (F := Ideal) x1 x2 x3 (ix2 r k)
    = beside (fun k => x1 (ix2 r k)) (fun k => x2 (ix2 r k)) (fun k => x3 (ix2 r k)) k := by
  unfold val_main_v24
  pointwise [beside]

theorem product_at (r : Fin 32768) (j : Fin 1024) : val_main_v27 (F := Ideal) x1 x2 x3 x6 (ix2 r j)
    = three (fun k => x1 (ix2 r k)) (fun k => x2 (ix2 r k)) (fun k => x3 (ix2 r k)) (fun k => x6 (ix2 k j)) := by
  have e : val_main_v27 (F := Ideal) x1 x2 x3 x6 (ix2 r j) = ∑ k : Fin 1024, val_main_v24 (F := Ideal) x1 x2 x3 (ix2 r k) * x6 (ix2 k j) := by
    unfold val_main_v27
    generalize val_main_v24 (F := Ideal) x1 x2 x3 = y
    pointwise
  refine e.trans (Eq.trans (Finset.sum_congr rfl fun k _ => congrArg (· * _) (beside_at x1 x2 x3 r k)) ?_)
  exact beside_sum _ _ _ (fun k => x6 (ix2 k j))

theorem mix_at (r : Fin 32768) (j : Fin 1024) : val_main_v28 (F := Ideal) x0 x1 x2 x3 x4 x5 x6 (ix2 r j)
    = mixRow (fun k => x0 (ix2 r k)) (fun k => x4 (ix1 k)) (fun k => x5 (ix1 k)) (fun k => x1 (ix2 r k)) (fun k => x2 (ix2 r k))
        (fun k => x3 (ix2 r k)) (fun k j => x6 (ix2 k j)) j := by
  have e : val_main_v28 (F := Ideal) x0 x1 x2 x3 x4 x5 x6 (ix2 r j)
      = lit 0x3F9837F0#32 * val_main_v23 (F := Ideal) x0 x4 x5 (ix2 r j) + val_main_v27 (F := Ideal) x1 x2 x3 x6 (ix2 r j) := by
    unfold val_main_v28 val_main_v26 val_main_v25 val_main_cst_4
    generalize val_main_v23 (F := Ideal) x0 x4 x5 = y
    generalize val_main_v27 (F := Ideal) x1 x2 x3 x6 = z
    pointwise [Cert.Norm.lit]
  exact e.trans (congrArg₂ _ (congrArg _ (first_at x0 x4 x5 r j)) (product_at x1 x2 x3 x6 r j))

/-- The reference's first result at an entry. -/
theorem result_at (r : Fin 32768) (j : Fin 1024) : val_main_v52 (F := Ideal) x0 x1 x2 x3 x4 x5 x6 x7 x8 (ix2 r j)
    = hidden (fun k => x0 (ix2 r k)) (fun k => x4 (ix1 k)) (fun k => x5 (ix1 k)) (fun k => x1 (ix2 r k)) (fun k => x2 (ix2 r k))
        (fun k => x3 (ix2 r k)) (fun k j => x6 (ix2 k j)) (fun k => x7 (ix1 k)) (fun k => x8 (ix1 k)) j := by
  have e : val_main_v52 (F := Ideal) x0 x1 x2 x3 x4 x5 x6 x7 x8 (ix2 r j)
      = normed (fun k => val_main_v28 (F := Ideal) x0 x1 x2 x3 x4 x5 x6 (ix2 r k)) (fun k => x7 (ix1 k)) (fun k => x8 (ix1 k)) j := by
    unfold val_main_v52 val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30 val_main_v29 val_main_cst_5 val_main_cst_6 val_main_cst_7 val_main_cst_8 val_main_cst_9
    generalize val_main_v28 (F := Ideal) x0 x1 x2 x3 x4 x5 x6 = y
    pointwise [normed, mean, spread, Cert.Norm.lit]
  exact e.trans (normed_congr (fun k => mix_at x0 x1 x2 x3 x4 x5 x6 r k) (fun _ => rfl) (fun _ => rfl) j)

/-- The second result is the first, cast. -/
theorem cast_at (r : Fin 32768) (j : Fin 1024) : val_main_v53 (F := Ideal) x0 x1 x2 x3 x4 x5 x6 x7 x8 (ix2 r j)
    = val_main_v52 (F := Ideal) x0 x1 x2 x3 x4 x5 x6 x7 x8 (ix2 r j) := by
  unfold val_main_v53
  rfl

end Cert.OutProjRead

end
-- ==== Proof.OutProjMain.lean ====
/- The claims about the output projection: its frames, the reference's frame, and the equality of the two pairs of results. -/
module

public import proofs.«01_k».proof.Proof.Gen.OutProj.Frame
public import proofs.«01_k».proof.Proof.OutProjBlock
public import proofs.«01_k».proof.Proof.OutProjRead
public import proofs.«01_k».proof.Defs
public import Idealize.ShloMosaic.Lib.Claim

@[expose] public section

noncomputable section

namespace Cert.OutProjMain

open Idealize.ShloMosaic Idealize.ShloMosaic.TcCoe Idealize.SL.Sem

theorem frame_p : Cert.quiescent_OutProj := fun m g _ => Cert.OutProj.Gen.frame m g

theorem frame_pi : Cert.quiescent_OutProjIdeal := fun m g _ => Cert.OutProjIdeal.Gen.frame m g

theorem frame_ri : Cert.quiescent_OutProjRefIdeal := fun m g _ =>
  (θ_run Cert.OutProjRefIdeal.defs _ _).mono (fun r h => ⟨fun c => (h c).2.2, sem_eq_zero_of_no_sems (by decide) r.2⟩)
    (Cert.OutProjRefIdeal.Value.run (F := Ideal) m g)

section Value

open Cert.OutProjIdeal Cert.OutProjIdeal.Gen

variable (m : (ℓ : Loc nD τ sig) → Buf (Elt Ideal) ℓ)

/-- What the call ends with in its two results, and its arguments. -/
theorem run_value (g : Dev nD → PrngReg) :
    θ_run defs (onTc (τ := τ) (main (F := Ideal))) ⟨m, fun _ => 0, g⟩ (fun r => ∀ c : Dev nD,
      r.2.mem ((c.tc : Thread nD τ).loc main_v12_0) = OutProjBlock.whole m c
      ∧ r.2.mem ((c.tc : Thread nD τ).loc main_v12_1) = OutProjBlock.whole m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono
    (fun r h c => ⟨((h.1 c).1 12).trans (OutProjBlock.array12_eq m c), ((h.1 c).1 13).trans (OutProjBlock.array13_eq m c), h.2 c⟩)
    (θ_run_and (run_main m g) (unchanged m g))

/-- The reference's first array at this memory's arguments is the kernel's. -/
theorem ref_first (c : Dev nD) :
    Cert.OutProjRefIdeal.Read.val_main_v52 (F := Ideal) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) = OutProjBlock.whole m c := by
  funext i
  have hi : i = ValueIdx.ix2 (n0 := 32768) (n1 := 1024) (i 0) (i 1) := by
    funext a
    match a with
    | ⟨0, _⟩ => rfl
    | ⟨1, _⟩ => rfl
  exact (congrArg _ hi).trans (OutProjRead.result_at (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) (i 0) (i 1))

/-- So is its second. -/
theorem ref_second (c : Dev nD) :
    Cert.OutProjRefIdeal.Read.val_main_v53 (F := Ideal) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) = OutProjBlock.whole m c := by
  refine Eq.trans (funext fun i => ?_) (ref_first m c)
  have hi : i = ValueIdx.ix2 (n0 := 32768) (n1 := 1024) (i 0) (i 1) := by
    funext a
    match a with
    | ⟨0, _⟩ => rfl
    | ⟨1, _⟩ => rfl
  rw [hi]
  exact OutProjRead.cast_at (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) (i 0) (i 1)

end Value

/-- The two programs' results are equal. -/
theorem algebraic : Cert.algebraic_OutProjIdeal_OutProjRefIdeal := by
  intro m g m' g' _ hagree
  refine ⟨fun c => OutProjBlock.whole m c, fun c => OutProjBlock.whole m c, run_value m g, ?_⟩
  refine (θ_run Cert.OutProjRefIdeal.defs _ _).mono (fun r h c => ⟨(h c).1.trans ?_, (h c).2.1.trans ?_, (h c).2.2⟩)
    (Cert.OutProjRefIdeal.Value.run (F := Ideal) m' g')
  · obtain rfl : c = (0 : Fin 1) := Subsingleton.elim _ _
    refine (OutProjRefIdeal.Read.val_main_v52_eq m' _).trans ?_
    obtain ⟨h0, h1, h2, h3, h4, h5, h6, h7, h8, _⟩ := hagree (0 : Fin 1)
    rw [h0, h1, h2, h3, h4, h5, h6, h7, h8]
    exact ref_first m 0
  · obtain rfl : c = (0 : Fin 1) := Subsingleton.elim _ _
    refine (OutProjRefIdeal.Read.val_main_v53_eq m' _).trans ?_
    obtain ⟨h0, h1, h2, h3, h4, h5, h6, h7, h8, _⟩ := hagree (0 : Fin 1)
    rw [h0, h1, h2, h3, h4, h5, h6, h7, h8]
    exact ref_second m 0

end Cert.OutProjMain

end
-- ==== Proof.MemAttPay.lean ====
/- The values the memory attention stores, read at an index. -/
module

public import proofs.«01_k».proof.Proof.Gen.MemAttIdeal.Frame
public import proofs.«01_k».proof.Proof.Norm
public import Idealize.ShloMosaic.Lib.Pointwise
public import Idealize.ShloMosaic.Lib.Pointwise.IndexBridge
public import Idealize.ShloMosaic.Lib.Pointwise.Contract
public import Idealize.ShloMosaic.Lib.Pipeline.ValueKit

@[expose] public section

noncomputable section

namespace Cert.MemAttPay

open Idealize.ShloMosaic Idealize.ShloMosaic.TcCoe
open Cert.MemAttIdeal Cert.MemAttIdeal.Gen Cert.Norm

/-- Whether lane `j` lies from `lo` to below `hi`, as the one-bit word the kernel compares to. -/
def lane (lo hi : BitVec 32) (j : Fin 256) : BitVec 1 :=
  IntOp.andi (IntOp.cmpi .sge (BitVec.ofNat 32 j.val) lo) (IntOp.cmpi .slt (BitVec.ofNat 32 j.val) hi)

/-- The score of a query row against memory row `x`, over the lanes from `lo` to below `hi`. -/
def score (lo hi : BitVec 32) (q : Fin 256 → EReal) (k : Fin 256 → Fin 256 → EReal) (x : Fin 256) : EReal :=
  ∑ j : Fin 256, Scalar.select (lane lo hi j) (q j * k x j) 0

/-- The greatest of the scores, found from −∞ up. -/
def top (s : Fin 256 → EReal) : EReal := Finset.fold max (lit 0xFF800000#32) s Finset.univ

/-- The softmax of the scores `s` applied to `v`: the weighted sum divided by the weights' sum. -/
def attend (s v : Fin 256 → EReal) : EReal :=
  Ideal.div (∑ x : Fin 256, Ideal.exp (s x - top s) * v x) (∑ x : Fin 256, Ideal.exp (s x - top s))

/-- The first head's result, zero outside its lanes. -/
theorem pay_head0 (a : Vec Ideal S1x512x256 .f32) (k v : Vec Ideal S256x256 .bf16) (p : Fin 512) (j : Fin 256) :
    k0_pay4 a k v (ix2 p j)
      = Scalar.select (lane 0#32 64#32 j)
          (attend (score 0#32 64#32 (fun j => a (ix3 0 p j) * lit 0x3E000000#32) (fun x j => k (ix2 x j))) (fun x => v (ix2 x j))) 0 := by
  unfold_payloads
  pointwise [attend, score, top, lane, Cert.Norm.lit]

/-- The scaled query. -/
theorem pay_query (a : Vec Ideal S1x512x256 .f32) (p : Fin 512) (j : Fin 256) :
    k0_pay3 a (ix2 p j) = a (ix3 0 p j) * lit 0x3E000000#32 := by
  unfold_payloads
  pointwise [Cert.Norm.lit]

/-- The second head's result inside its lanes, what was there before outside. -/
theorem pay_head1 (q : FVec Ideal S512x256 .f32) (k v : Vec Ideal S256x256 .bf16) (o : FVec Ideal S512x256 .f32) (p : Fin 512)
    (j : Fin 256) :
    k0_pay6 q (iota .tc S1x256 32 [1] iota_S1x256_d1_w32) k v o k0_pay5 (ix2 p j)
      = Scalar.select (lane 64#32 128#32 j)
          (attend (score 64#32 128#32 (fun j => q (ix2 p j)) (fun x j => k (ix2 x j))) (fun x => v (ix2 x j))) (o (ix2 p j)) := by
  unfold_payloads
  pointwise [attend, score, top, lane, Cert.Norm.lit]

/-- The third head's result. -/
theorem pay_head2 (q : FVec Ideal S512x256 .f32) (k v : Vec Ideal S256x256 .bf16) (p : Fin 512) (j : Fin 256) :
    k0_pay8 q (iota .tc S1x256 32 [1] iota_S1x256_d1_w32) k v (ix2 p j)
      = attend (score 128#32 192#32 (fun j => q (ix2 p j)) (fun x j => k (ix2 x j))) (fun x => v (ix2 x j)) := by
  unfold_payloads
  pointwise [attend, score, top, lane, Cert.Norm.lit]

theorem pay_lane2 (p : Fin 512) (j : Fin 256) :
    k0_pay9 (iota .tc S1x256 32 [1] iota_S1x256_d1_w32) (ix2 p j) = lane 128#32 192#32 j := by
  unfold_payloads
  pointwise [lane]

/-- The fourth head's result inside its lanes, outside the third's inside that one's lanes, outside what was there before. -/
theorem pay_head3 (q : FVec Ideal S512x256 .f32) (k v : Vec Ideal S256x256 .bf16) (o h : FVec Ideal S512x256 .f32)
    (c : IVec S512x256 1) (p : Fin 512) (j : Fin 256) :
    k0_pay1 q (iota .tc S1x256 32 [1] iota_S1x256_d1_w32) k v o h c (ix3 0 p j)
      = Scalar.select (lane 192#32 256#32 j)
          (attend (score 192#32 256#32 (fun j => q (ix2 p j)) (fun x j => k (ix2 x j))) (fun x => v (ix2 x j)))
          (Scalar.select (c (ix2 p j)) (h (ix2 p j)) (o (ix2 p j))) := by
  unfold_payloads
  pointwise [attend, score, top, lane, Cert.Norm.lit]

/-- The memory's keys and values. -/
theorem pay_kv (a : Vec Ideal S1x256x1024 .f32) (w : Vec Ideal S1024x512 .bf16) (r : Fin 256) (o : Fin 512) :
    k0_pay2 a w (ix2 r o) = ∑ x : Fin 1024, a (ix3 0 r x) * w (ix2 x o) := by
  unfold_payloads
  pointwise

/-- A lane lies in a head's range exactly when its block of 64 is the head's. -/
theorem lane_iff : ∀ j : Fin 256,
    lane 0#32 64#32 j = (if j.val / 64 = 0 then 1#1 else 0#1) ∧ lane 64#32 128#32 j = (if j.val / 64 = 1 then 1#1 else 0#1)
      ∧ lane 128#32 192#32 j = (if j.val / 64 = 2 then 1#1 else 0#1)
      ∧ lane 192#32 256#32 j = (if j.val / 64 = 3 then 1#1 else 0#1) := by
  unfold lane
  decide +kernel

/-- The score of head `h`, over its own 64 lanes. -/
def headScore (h : ℕ) (q : Fin 256 → EReal) (k : Fin 256 → Fin 256 → EReal) (x : Fin 256) : EReal :=
  ∑ j : Fin 256, if j.val / 64 = h then q j * k x j else 0

theorem score_of {lo hi : BitVec 32} {h : ℕ} (hl : ∀ j : Fin 256, lane lo hi j = if j.val / 64 = h then 1#1 else 0#1)
    (q : Fin 256 → EReal) (k : Fin 256 → Fin 256 → EReal) : score lo hi q k = headScore h q k := by
  funext x
  unfold score headScore
  refine Finset.sum_congr rfl fun j _ => ?_
  rw [hl j]
  by_cases e : j.val / 64 = h
  · rw [if_pos e, if_pos e]; rfl
  · rw [if_neg e, if_neg e]; rfl

/-- What one grid point stores at row `p`, lane `j`: the head holding the lane, attending over the memory. -/
theorem pay_all (a : Vec Ideal S1x512x256 .f32) (k v : Vec Ideal S256x256 .bf16) (p : Fin 512) (j : Fin 256) :
    k0_pay1 (k0_pay3 a) (iota .tc S1x256 32 [1] iota_S1x256_d1_w32) k v
        (k0_pay6 (k0_pay3 a) (iota .tc S1x256 32 [1] iota_S1x256_d1_w32) k v (k0_pay4 a k v) k0_pay5)
        (k0_pay8 (k0_pay3 a) (iota .tc S1x256 32 [1] iota_S1x256_d1_w32) k v)
        (k0_pay9 (iota .tc S1x256 32 [1] iota_S1x256_d1_w32)) (ix3 0 p j)
      = attend (headScore (j.val / 64) (fun j => a (ix3 0 p j) * lit 0x3E000000#32) (fun x j => k (ix2 x j))) (fun x => v (ix2 x j)) := by
  rw [pay_head3, pay_head2, pay_head1, pay_head0, pay_lane2]
  simp only [pay_query]
  rw [score_of (fun j => (lane_iff j).1), score_of (fun j => (lane_iff j).2.1), score_of (fun j => (lane_iff j).2.2.1),
    score_of (fun j => (lane_iff j).2.2.2), (lane_iff j).1, (lane_iff j).2.1, (lane_iff j).2.2.1, (lane_iff j).2.2.2]
  have hj : j.val / 64 < 4 := by omega
  generalize j.val / 64 = h at hj ⊢
  interval_cases h <;> rfl

end Cert.MemAttPay

end
-- ==== Proof.MemAttBlock.lean ====
/- The array the memory attention leaves: at every entry the lane's head, attending over the batch's memory. -/
module

public import proofs.«01_k».proof.Proof.MemAttPay
public import Idealize.ShloMosaic.Lib.Pipeline.ValueKit.Held

@[expose] public section

noncomputable section

namespace Cert.MemAttBlock

open Idealize.ShloMosaic Idealize.ShloMosaic.TcCoe Idealize.SL.Sem
open Cert.MemAttIdeal Cert.MemAttIdeal.Gen Cert.Norm Cert.MemAttPay

theorem hz2 : (![0, 0] : Fin 2 → Nat) = fun _ => 0 := funext fun a => by fin_cases a <;> rfl
theorem hz3 : (![0, 0, 0] : Fin 3 → Nat) = fun _ => 0 := funext fun a => by fin_cases a <;> rfl

/-- The first 256 columns of the carried keys and values. -/
def keys (s : Vec Ideal S256x512 .bf16) : Vec Ideal S256x256 .bf16 :=
  View.ld s (Rect.unit ![0, 0] ![256, 256] inb_S256x512_S256x256_0_0)

/-- The last 256 columns. -/
def vals (s : Vec Ideal S256x512 .bf16) : Vec Ideal S256x256 .bf16 :=
  View.ld s (Rect.unit ![0, 256] ![256, 256] inb_S256x512_S256x256_0_256)

theorem keys_at (s : Vec Ideal S256x512 .bf16) (x j : Fin 256) : keys s (ix2 x j) = s (ix2 x ⟨j.val, by omega⟩) := by
  refine View.ld_unit_apply_of s _ _ _ _ _ fun a => ?_
  match a with
  | ⟨0, _⟩ => show x.val = 0 + x.val; omega
  | ⟨1, _⟩ => show j.val = 0 + j.val; omega

theorem vals_at (s : Vec Ideal S256x512 .bf16) (x j : Fin 256) : vals s (ix2 x j) = s (ix2 x ⟨256 + j.val, by omega⟩) := by
  refine View.ld_unit_apply_of s _ _ _ _ _ fun a => ?_
  match a with
  | ⟨0, _⟩ => show x.val = 0 + x.val; omega
  | ⟨1, _⟩ => rfl

/-- What a point stores, from its query block and the carried keys and values. -/
def stored (a : Vec Ideal S1x512x256 .f32) (s : Vec Ideal S256x512 .bf16) : Vec Ideal S1x512x256 .f32 :=
  k0_pay1 (k0_pay3 a) (iota .tc S1x256 32 [1] iota_S1x256_d1_w32) (keys s) (vals s)
    (k0_pay6 (k0_pay3 a) (iota .tc S1x256 32 [1] iota_S1x256_d1_w32) (keys s) (vals s) (k0_pay4 a (keys s) (vals s)) k0_pay5)
    (k0_pay8 (k0_pay3 a) (iota .tc S1x256 32 [1] iota_S1x256_d1_w32) (keys s) (vals s))
    (k0_pay9 (iota .tc S1x256 32 [1] iota_S1x256_d1_w32))

theorem stored_at (a : Vec Ideal S1x512x256 .f32) (s : Vec Ideal S256x512 .bf16) (p : Fin 512) (j : Fin 256) :
    stored a s (ix3 0 p j)
      = attend (headScore (j.val / 64) (fun j => a (ix3 0 p j) * lit 0x3E000000#32) (fun x j => s (ix2 x ⟨j.val, by omega⟩)))
          (fun x => s (ix2 x ⟨256 + j.val, by omega⟩)) := by
  refine (pay_all a (keys s) (vals s) p j).trans ?_
  simp only [keys_at, vals_at]

theorem scratch_A (c : Dev nD) (i : grid0.Coords) (a2 : Memref sig .tc .vmem S1x512x256 .f32) (h2 : a2.IsWhole)
    (a3 : Memref sig .tc .vmem S1x256x1024 .f32) (h3 : a3.IsWhole) (a4 : Memref sig .tc .vmem S1024x512 .bf16) (h4 : a4.IsWhole)
    (a5 : Memref sig .tc .vmem S1x512x256 .f32) (h5 : a5.IsWhole) (a6 : Memref sig .tc .vmem S256x512 .bf16) (h6 : a6.IsWhole)
    (hc : cond0_0 i) (x0 : Vec Ideal S1x512x256 .f32) (x1 : Vec Ideal S1x256x1024 .f32) (x2 : Vec Ideal S1024x512 .bf16) :
    sout0_A_0 c i a2 h2 a3 h3 a4 h4 a5 h5 a6 h6 hc x0 x1 x2 = k0_pay2 x1 x2 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero (S := S256x512) hz2]
  simp only [View.readAt_eq_ld, h3.read_unread, h4.read_unread, View.ld_unit_zero (S := S1x256x1024) hz3,
    View.ld_unit_zero (S := S1024x512) hz2, shapeCast_self]

theorem out_B (c : Dev nD) (i : grid0.Coords) (a2 : Memref sig .tc .vmem S1x512x256 .f32) (h2 : a2.IsWhole)
    (a3 : Memref sig .tc .vmem S1x256x1024 .f32) (h3 : a3.IsWhole) (a4 : Memref sig .tc .vmem S1024x512 .bf16) (h4 : a4.IsWhole)
    (a5 : Memref sig .tc .vmem S1x512x256 .f32) (h5 : a5.IsWhole) (a6 : Memref sig .tc .vmem S256x512 .bf16) (h6 : a6.IsWhole)
    (hc : ¬cond0_0 i) (x0 : Vec Ideal S1x512x256 .f32) (x1 : Vec Ideal S1x256x1024 .f32) (x2 : Vec Ideal S1024x512 .bf16)
    (xs : Vec Ideal S256x512 .bf16) :
    out0_B_3 c i a2 h2 a3 h3 a4 h4 a5 h5 a6 h6 hc x0 x1 x2 xs = stored x0 xs := by
  unfold out0_B_3
  rw [View.read_writes_eq_canon _ _ _ (cover0_B_3 c i a2 h2 a3 h3 a4 h4 a5 h5 a6 h6 hc x0 x1 x2 xs)]
  unfold kernelRun0_B
  dsimp only
  sl_unfold_words
  rw [View.canon_unit_zero (S := S1x512x256) hz3]
  simp only [View.readAt_eq_ld, h2.read_unread, h6.read_unread, View.ld_unit_zero (S := S1x512x256) hz3]
  rfl

/-- Loading columns of what one whole store left reads the stored value's columns. -/
theorem load_stored (a6 : Memref sig .tc .vmem S256x512 .bf16) (w : Vec Ideal S256x512 .bf16) (r : Rect S256x512) :
    a6.view.readCov (Val := Elt Ideal) [⟨Rect.unit ![0, 0] ![256, 512] inb_S256x512_S256x512_0_0, w⟩] r.toLoadRect = View.ld w r := by
  rw [View.readCov_eq_canon', View.canon_unit_zero (S := S256x512) hz2]

theorem out_A (c : Dev nD) (i : grid0.Coords) (a2 : Memref sig .tc .vmem S1x512x256 .f32) (h2 : a2.IsWhole)
    (a3 : Memref sig .tc .vmem S1x256x1024 .f32) (h3 : a3.IsWhole) (a4 : Memref sig .tc .vmem S1024x512 .bf16) (h4 : a4.IsWhole)
    (a5 : Memref sig .tc .vmem S1x512x256 .f32) (h5 : a5.IsWhole) (a6 : Memref sig .tc .vmem S256x512 .bf16) (h6 : a6.IsWhole)
    (hc : cond0_0 i) (x0 : Vec Ideal S1x512x256 .f32) (x1 : Vec Ideal S1x256x1024 .f32) (x2 : Vec Ideal S1024x512 .bf16) :
    out0_A_3 c i a2 h2 a3 h3 a4 h4 a5 h5 a6 h6 hc x0 x1 x2 = stored x0 (k0_pay2 x1 x2) := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero (S := S1x512x256) hz3]
  simp only [View.readAt_eq_ld, h2.read_unread, h3.read_unread, h4.read_unread, View.ld_unit_zero (S := S1x512x256) hz3,
    View.ld_unit_zero (S := S1x256x1024) hz3, View.ld_unit_zero (S := S1024x512) hz2, load_stored]
  rfl

variable (m : (ℓ : Loc nD τ sig) → Buf (Elt Ideal) ℓ) (c : Dev nD)

theorem first_A (t : Fin cfg0.N) (h : t.val % 4 = 0) :
    (outsAt0 m c t.val t.isLt).1 = stored (iblk m c 0 t) (k0_pay2 (iblk m c 1 t) (iblk m c 2 t)) := by
  rw [outsAt0_A m c t h]
  dsimp only
  rw [out_A]

theorem second_A (t : Fin cfg0.N) (h : t.val % 4 = 0) :
    (outsAt0 m c t.val t.isLt).2 = k0_pay2 (iblk m c 1 t) (iblk m c 2 t) := by
  rw [outsAt0_A m c t h]
  dsimp only
  rw [scratch_A]

theorem first_B (t : Fin cfg0.N) (h : ¬t.val % 4 = 0) :
    (outsAt0 m c t.val t.isLt).1
      = stored (iblk m c 0 t) (outsAt0 m c (t.val - 1) (Nat.lt_of_le_of_lt (Nat.sub_le _ _) t.isLt)).2 := by
  rw [outsAt0_B m c t h]
  dsimp only
  rw [out_B]

theorem second_B (t : Fin cfg0.N) (h : ¬t.val % 4 = 0) :
    (outsAt0 m c t.val t.isLt).2 = (outsAt0 m c (t.val - 1) (Nat.lt_of_le_of_lt (Nat.sub_le _ _) t.isLt)).2 := by
  rw [outsAt0_B m c t h]
  dsimp only [sout0_B_0]

/-- The carried keys and values after a point are those made at the batch's first point. -/
theorem carried (t : Fin cfg0.N) :
    (outsAt0 m c t.val t.isLt).2
      = k0_pay2 (iblk m c 1 ⟨4 * (t.val / 4), Pipeline.run_start_lt t⟩) (iblk m c 2 ⟨4 * (t.val / 4), Pipeline.run_start_lt t⟩) :=
  Pipeline.eq_of_write_hold (fun n h => (outsAt0 m c n h).2) 4 (fun t => k0_pay2 (iblk m c 1 t) (iblk m c 2 t))
    (second_A m c) (second_B m c) t

theorem output (t : Fin cfg0.N) : (outsAt0 m c t.val t.isLt).1 = stored (iblk m c 0 t) (outsAt0 m c t.val t.isLt).2 := by
  by_cases h : t.val % 4 = 0
  · rw [first_A m c t h, second_A m c t h]
  · rw [first_B m c t h, second_B m c t h]

theorem index0 : ∀ t : Fin cfg0.N, (cfg0.win 0).index t = ![t.val / 4, t.val % 4, 0] :=
  (by decide +kernel : ∀ t : Fin grid0.N, win0_0.index t = ![t.val / 4, t.val % 4, 0])
theorem index1 : ∀ t : Fin cfg0.N, (cfg0.win 1).index t = ![t.val / 4, 0, 0] :=
  (by decide +kernel : ∀ t : Fin grid0.N, win0_1.index t = ![t.val / 4, 0, 0])
theorem index2 : ∀ t : Fin cfg0.N, (cfg0.win 2).index t = ![0, 0] :=
  (by decide +kernel : ∀ t : Fin grid0.N, win0_2.index t = ![0, 0])
theorem index3 : ∀ t : Fin cfg0.N, (cfg0.win 3).index t = ![t.val / 4, t.val % 4, 0] :=
  (by decide +kernel : ∀ t : Fin grid0.N, win0_3.index t = ![t.val / 4, t.val % 4, 0])

/-- The batch of a point. -/
abbrev batch (t : Fin 64) : Fin 16 := ⟨t.val / 4, by omega⟩

/-- Row `p` of point `t`'s block as a row of its batch. -/
abbrev row (t : Fin 64) (p : Fin 512) : Fin 2048 := ⟨t.val % 4 * 512 + p.val, by omega⟩

theorem blk0 (t : Fin cfg0.N) (p : Fin 512) (j : Fin 256) :
    iblk m c 0 t (ix3 0 p j) = V m c main_arg0 (ix3 (batch t) (row t p) j) := by
  show V m c main_arg0 (((cfg0.win 0).blk t).view.emb (ix3 0 p j)) = _
  refine congrArg _ (funext fun a => Fin.ext ?_)
  refine (Pipeline.Window.rect_emb_val (cfg0.win 0) t (ix3 0 p j) a).trans ?_
  rw [index0]
  match a with
  | ⟨0, _⟩ => show t.val / 4 * 1 + 0 = t.val / 4; omega
  | ⟨1, _⟩ => rfl
  | ⟨2, _⟩ => show 0 * 256 + j.val = j.val; omega

theorem blk1 (t : Fin cfg0.N) (x : Fin 256) (k : Fin 1024) :
    iblk m c 1 t (ix3 0 x k) = V m c main_arg1 (ix3 (batch t) x k) := by
  show V m c main_arg1 (((cfg0.win 1).blk t).view.emb (ix3 0 x k)) = _
  refine congrArg _ (funext fun a => Fin.ext ?_)
  refine (Pipeline.Window.rect_emb_val (cfg0.win 1) t (ix3 0 x k) a).trans ?_
  rw [index1]
  match a with
  | ⟨0, _⟩ => show t.val / 4 * 1 + 0 = t.val / 4; omega
  | ⟨1, _⟩ => show 0 * 256 + x.val = x.val; omega
  | ⟨2, _⟩ => show 0 * 1024 + k.val = k.val; omega

theorem blk2 (t : Fin cfg0.N) (k : Fin 1024) (o : Fin 512) : iblk m c 2 t (ix2 k o) = V m c main_v0 (ix2 k o) := by
  show V m c main_v0 (((cfg0.win 2).blk t).view.emb (ix2 k o)) = _
  refine congrArg _ (funext fun a => Fin.ext ?_)
  refine (Pipeline.Window.rect_emb_val (cfg0.win 2) t (ix2 k o) a).trans ?_
  rw [index2]
  match a with
  | ⟨0, _⟩ => show 0 * 1024 + k.val = k.val; omega
  | ⟨1, _⟩ => show 0 * 512 + o.val = o.val; omega

theorem V_v0 (k : Fin 1024) (o : Fin 512) : V m c main_v0 (ix2 k o) = m ((c.tc : Thread nD τ).loc main_arg2) (ix2 k o) := by
  have h : V m c main_v0 = (truncf .bf16 (m ((c.tc : Thread nD τ).loc main_arg2) : FVec Ideal S1024x512 .f32) bitsLt_bf16_f32 : FVec Ideal S1024x512 .bf16) := by
    dsimp only [V, hostOps0]
    after_results
  rw [h]
  rfl

/-- The three arguments' entries. -/
def queryAt (b : Fin 16) (s : Fin 2048) (j : Fin 256) : EReal := m ((c.tc : Thread nD τ).loc main_arg0) (ix3 b s j)
def memoryAt (b : Fin 16) (x : Fin 256) (k : Fin 1024) : EReal := m ((c.tc : Thread nD τ).loc main_arg1) (ix3 b x k)
def matrixAt (k : Fin 1024) (o : Fin 512) : EReal := m ((c.tc : Thread nD τ).loc main_arg2) (ix2 k o)

/-- Keys and values of batch `b`: a row of the memory times the matrix. -/
def keyval (b : Fin 16) (x : Fin 256) (o : Fin 512) : EReal := ∑ k : Fin 1024, memoryAt m c b x k * matrixAt m c k o

theorem carried_at (t : Fin cfg0.N) (x : Fin 256) (o : Fin 512) :
    (outsAt0 m c t.val t.isLt).2 (ix2 x o) = keyval m c (batch t) x o := by
  rw [carried, pay_kv]
  refine Finset.sum_congr rfl fun k _ => ?_
  refine congrArg₂ (· * ·) ?_ ((blk2 m c _ k o).trans (V_v0 m c k o))
  refine (blk1 m c _ x k).trans ((congrFun (V_main_arg1 m c) _).trans ?_)
  refine congrArg (fun b => memoryAt m c b x k) (Fin.ext ?_)
  show 4 * (t.val / 4) / 4 = t.val / 4
  omega

/-- The result at row `s` of batch `b`, lane `j`. -/
def value (b : Fin 16) (s : Fin 2048) (j : Fin 256) : EReal :=
  attend (headScore (j.val / 64) (fun j => queryAt m c b s j * lit 0x3E000000#32)
    (fun x j => keyval m c b x ⟨j.val, by omega⟩)) (fun x => keyval m c b x ⟨256 + j.val, by omega⟩)

/-- The whole result. -/
def whole (i : S16x2048x256.Idx) : EReal := value m c (i 0) (i 1) (i 2)

theorem at3 (t : Fin cfg0.N) (p : Fin 512) (j : Fin 256) :
    (outsAt0 m c t.val t.isLt).1 (ix3 0 p j) = whole m c (ix3 (batch t) (row t p) j) := by
  rw [output, stored_at]
  simp only [carried_at, blk0]
  rw [V_main_arg0]
  rfl

theorem emb3 (t : Fin cfg0.N) (p : Fin 512) (j : Fin 256) :
    ((cfg0.win 3).blk t).view.emb (ix3 0 p j) = ix3 (n0 := 16) (n1 := 2048) (n2 := 256) (batch t) (row t p) j := by
  refine (funext fun a => Fin.ext ?_)
  refine (Pipeline.Window.rect_emb_val (cfg0.win 3) t (ix3 0 p j) a).trans ?_
  rw [index3]
  match a with
  | ⟨0, _⟩ => show t.val / 4 * 1 + 0 = t.val / 4; omega
  | ⟨1, _⟩ => rfl
  | ⟨2, _⟩ => show 0 * 256 + j.val = j.val; omega

theorem point3 (t : Fin cfg0.N) (y : S1x512x256.Idx) :
    (outsAt0 m c t.val t.isLt).1 y = whole m c (((cfg0.win 3).blk t).view.emb y) := by
  have hy : y = ix3 (n0 := 1) (n1 := 512) (n2 := 256) 0 (y 1) (y 2) := by
    funext a
    match a with
    | ⟨0, _⟩ => exact Fin.ext (by have : (y 0).val < 1 := (y 0).isLt; show (y 0).val = 0; omega)
    | ⟨1, _⟩ => rfl
    | ⟨2, _⟩ => rfl
  rw [hy]
  exact (at3 m c t (y 1) (y 2)).trans (congrArg (whole m c) (emb3 t (y 1) (y 2)).symm)

theorem covered3 (i : S16x2048x256.Idx) : ∃ t : Fin cfg0.N, (cfg0.win 3).flush t = true ∧ i ∈ ((cfg0.win 3).blk t).view.set := by
  have h0 : (i 0).val < 16 := (i 0).isLt
  have h1 : (i 1).val < 2048 := (i 1).isLt
  have hlt : (i 0).val * 4 + (i 1).val / 512 < cfg0.N := by show _ < 64; omega
  refine ⟨⟨(i 0).val * 4 + (i 1).val / 512, hlt⟩, flush0_3 _, ?_⟩
  have h2 : ((cfg0.win 3).blk ⟨(i 0).val * 4 + (i 1).val / 512, hlt⟩).view.emb (ix3 0 ⟨(i 1).val % 512, by omega⟩ (i 2)) = i := by
    refine (emb3 ⟨(i 0).val * 4 + (i 1).val / 512, hlt⟩ ⟨(i 1).val % 512, by omega⟩ (i 2)).trans (funext fun a => ?_)
    match a with
    | ⟨0, _⟩ => exact Fin.ext (by show ((i 0).val * 4 + (i 1).val / 512) / 4 = (i 0).val; omega)
    | ⟨1, _⟩ => exact Fin.ext (by show ((i 0).val * 4 + (i 1).val / 512) % 4 * 512 + (i 1).val % 512 = (i 1).val; omega)
    | ⟨2, _⟩ => rfl
  have h3 := View.emb_mem_set ((cfg0.win 3).blk ⟨(i 0).val * 4 + (i 1).val / 512, hlt⟩).view (ix3 0 ⟨(i 1).val % 512, by omega⟩ (i 2))
  rw [h2] at h3
  exact h3

theorem array3_eq : (dats m 0 c).arrAt 3 cfg0.N = whole m c :=
  (dats m 0 c).arrAt_eq_of_emb 3 (whole m c) (fun t _ y => (congrFun (after0_3 m c t) y).trans (point3 m c t y)) covered3

end Cert.MemAttBlock

end
-- ==== Proof.MemAttRead.lean ====
/- The reference of the memory attention, read at an index. -/
module

public import proofs.«01_k».proof.Proof.Gen.MemAttRefIdeal.Run
public import proofs.«01_k».proof.Proof.Gen.MemAttRefIdeal.Read
public import proofs.«01_k».proof.Proof.Norm
public import Idealize.ShloMosaic.Lib.Pointwise
public import Idealize.ShloMosaic.Lib.Pointwise.IndexBridge

@[expose] public section

noncomputable section

namespace Cert.MemAttRead

open Idealize.ShloMosaic Cert.MemAttRefIdeal Cert.MemAttRefIdeal.Read Cert.Norm

/-- The score of a query row against memory row `x` in head `h`, scaled after the sum over the head's 64 lanes. -/
def refScore (h : Fin 4) (q : Fin 256 → EReal) (k : Fin 256 → Fin 256 → EReal) (x : Fin 256) : EReal :=
  (∑ d : Fin 64, q ⟨h.val * 64 + d.val, by omega⟩ * k x ⟨h.val * 64 + d.val, by omega⟩) * lit 0x3E000000#32

/-- The greatest of the scores. -/
def refTop (s : Fin 256 → EReal) : EReal :=
  max (lit 0xFF800000#32) (Finset.fold max (lit 0xFF800000#32) s Finset.univ)

/-- The softmax of the scores `s` applied to `v`: each weight divided by the weights' sum, then summed. -/
def refAttend (s v : Fin 256 → EReal) : EReal :=
  ∑ x : Fin 256, v x * Ideal.div (Ideal.exp (s x - refTop s)) (∑ y : Fin 256, Ideal.exp (s y - refTop s))

variable (x0 : (⟨S16x2048x256, .f32⟩ : BufTy).Contents (Elt Ideal)) (x1 : (⟨S16x256x1024, .f32⟩ : BufTy).Contents (Elt Ideal))
  (x2 : (⟨S1024x512, .f32⟩ : BufTy).Contents (Elt Ideal))

/-- Keys and values: a row of the memory times the matrix. -/
def kv (b : Fin 16) (r : Fin 256) (o : Fin 512) : EReal := ∑ x : Fin 1024, x1 (ix3 b r x) * x2 (ix2 x o)

theorem kv_at (b : Fin 16) (r : Fin 256) (o : Fin 512) : val_main_v1 (F := Ideal) x1 x2 (ix3 b r o) = kv x1 x2 b r o := by
  unfold val_main_v1 kv
  pointwise

theorem key_at (b : Fin 16) (r : Fin 256) (h : Fin 4) (d : Fin 64) :
    val_main_v4 (F := Ideal) x1 x2 (ix4 b r h d) = kv x1 x2 b r ⟨h.val * 64 + d.val, by omega⟩ := by
  rw [← kv_at]
  unfold val_main_v4 val_main_v3 val_main_v2
  generalize val_main_v1 (F := Ideal) x1 x2 = y
  pointwise

theorem score_at (b : Fin 16) (s : Fin 2048) (m : Fin 256) (h : Fin 4) :
    val_main_v7 (F := Ideal) x0 x1 x2 (ix4 b h s m)
      = refScore h (fun j => x0 (ix3 b s j)) (fun x j => kv x1 x2 b x ⟨j.val, by omega⟩) m := by
  unfold refScore
  simp only [← key_at x1 x2]
  unfold val_main_v7 val_main_v5 val_main_v6 val_main_v0 val_main_cst
  generalize val_main_v4 (F := Ideal) x1 x2 = y
  pointwise [Cert.Norm.lit]

theorem max_at (b : Fin 16) (s : Fin 2048) (h : Fin 4) :
    val_main_v8 (F := Ideal) x0 x1 x2 (ix3 b h s)
      = Finset.fold max (lit 0xFF800000#32) (fun x => val_main_v7 (F := Ideal) x0 x1 x2 (ix4 b h s x)) Finset.univ := by
  unfold val_main_v8 val_main_cst_0
  generalize val_main_v7 (F := Ideal) x0 x1 x2 = y
  pointwise [Cert.Norm.lit]

theorem idx12 (b : Fin 16) (s : Fin 2048) (m : Fin 256) (h : Fin 4) :
    idx_main_v11 (idx_main_v12 (ix4 b h s m)) = ix3 b h s := by
  funext a
  match a with
  | ⟨0, _⟩ => rfl
  | ⟨1, _⟩ => rfl
  | ⟨2, _⟩ => rfl

theorem top_at (b : Fin 16) (s : Fin 2048) (m : Fin 256) (h : Fin 4) :
    val_main_v12 (F := Ideal) x0 x1 x2 (ix4 b h s m) = refTop (fun x => val_main_v7 (F := Ideal) x0 x1 x2 (ix4 b h s x)) := by
  rw [val_main_v12_apply, val_main_v11_apply, idx12, val_main_v10_apply, val_main_v9_apply, max_at]
  rfl

theorem exp_at (b : Fin 16) (s : Fin 2048) (m : Fin 256) (h : Fin 4) :
    val_main_v14 (F := Ideal) x0 x1 x2 (ix4 b h s m)
      = Ideal.exp (val_main_v7 (F := Ideal) x0 x1 x2 (ix4 b h s m) - val_main_v12 (F := Ideal) x0 x1 x2 (ix4 b h s m)) := by
  unfold val_main_v14 val_main_v13
  generalize val_main_v7 (F := Ideal) x0 x1 x2 = y
  generalize val_main_v12 (F := Ideal) x0 x1 x2 = z
  pointwise

theorem sum_at (b : Fin 16) (s : Fin 2048) (h : Fin 4) :
    val_main_v15 (F := Ideal) x0 x1 x2 (ix3 b h s) = ∑ x : Fin 256, val_main_v14 (F := Ideal) x0 x1 x2 (ix4 b h s x) := by
  unfold val_main_v15 val_main_cst_2
  generalize val_main_v14 (F := Ideal) x0 x1 x2 = y
  pointwise

theorem idx17 (b : Fin 16) (s : Fin 2048) (m : Fin 256) (h : Fin 4) :
    idx_main_v16 (idx_main_v17 (ix4 b h s m)) = ix3 b h s := by
  funext a
  match a with
  | ⟨0, _⟩ => rfl
  | ⟨1, _⟩ => rfl
  | ⟨2, _⟩ => rfl

theorem weight_at (b : Fin 16) (s : Fin 2048) (m : Fin 256) (h : Fin 4) :
    val_main_v18 (F := Ideal) x0 x1 x2 (ix4 b h s m)
      = Ideal.div (val_main_v14 (F := Ideal) x0 x1 x2 (ix4 b h s m)) (∑ x : Fin 256, val_main_v14 (F := Ideal) x0 x1 x2 (ix4 b h s x)) := by
  rw [val_main_v18_apply, val_main_v17_apply, val_main_v16_apply, idx17, sum_at]
  rfl

theorem out_at (b : Fin 16) (s : Fin 2048) (h : Fin 4) (d : Fin 64) :
    val_main_v22 (F := Ideal) x0 x1 x2 (ix4 b s h d)
      = ∑ x : Fin 256, kv x1 x2 b x ⟨256 + h.val * 64 + d.val, by omega⟩ * val_main_v18 (F := Ideal) x0 x1 x2 (ix4 b h s x) := by
  simp only [← kv_at x1 x2]
  unfold val_main_v22 val_main_v21 val_main_v20 val_main_v19 val_main_v2
  generalize val_main_v18 (F := Ideal) x0 x1 x2 = y
  generalize val_main_v1 (F := Ideal) x1 x2 = z
  pointwise

theorem flat_at (b : Fin 16) (s : Fin 2048) (j : Fin 256) :
    val_main_v23 (F := Ideal) x0 x1 x2 (ix3 b s j)
      = val_main_v22 (F := Ideal) x0 x1 x2 (ix4 b s ⟨j.val / 64, by omega⟩ ⟨j.val % 64, by omega⟩) := by
  unfold val_main_v23
  generalize val_main_v22 (F := Ideal) x0 x1 x2 = y
  pointwise

/-- The reference's result at row `s` of batch `b`, lane `j`: the lane's head, attending over the memory. -/
def refAll (b : Fin 16) (s : Fin 2048) (j : Fin 256) : EReal :=
  refAttend (refScore ⟨j.val / 64, by omega⟩ (fun j => x0 (ix3 b s j)) (fun x j => kv x1 x2 b x ⟨j.val, by omega⟩))
    (fun x => kv x1 x2 b x ⟨256 + j.val, by omega⟩)

theorem ref_at (b : Fin 16) (s : Fin 2048) (j : Fin 256) :
    val_main_v23 (F := Ideal) x0 x1 x2 (ix3 b s j) = refAll x0 x1 x2 b s j := by
  rw [flat_at, out_at]
  unfold refAll refAttend
  refine Finset.sum_congr rfl fun x _ => ?_
  have hj : (⟨256 + j.val / 64 * 64 + j.val % 64, by omega⟩ : Fin 512) = ⟨256 + j.val, by omega⟩ := by
    ext; show 256 + j.val / 64 * 64 + j.val % 64 = 256 + j.val; omega
  rw [weight_at]
  simp only [exp_at, top_at, score_at]
  rw [hj]

end Cert.MemAttRead

end
-- ==== Proof.MemAttMath.lean ====
/- The two ways of writing the attention agree when every number is finite. -/
module

public import proofs.«01_k».proof.Proof.MemAttPay
public import proofs.«01_k».proof.Proof.MemAttRead

@[expose] public section

noncomputable section

namespace Cert.MemAttMath

open Idealize.ShloMosaic Cert.Norm Cert.MemAttPay Cert.MemAttRead

/-- A number that is neither infinity. -/
def IsReal (x : EReal) : Prop := ∃ r : ℝ, x = (r : EReal)

theorem neg_inf : lit 0xFF800000#32 = ⊥ := by
  simp [lit, Ideal.ofBits, Ideal.ieee]

theorem eighth : lit 0x3E000000#32 = ((1 / 8 : ℝ) : EReal) := by
  simp [Ideal.ofBits, Ideal.ieee, -EReal.coe_mul]; norm_num

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The greatest of finitely many real numbers, found from −∞ up, is real. -/
theorem fold_real (r : Fin 256 → ℝ) : ∃ t : ℝ, Finset.fold max (⊥ : EReal) (fun x => (r x : EReal)) Finset.univ = (t : EReal) := by
  have hlt : Finset.fold max (⊥ : EReal) (fun x => (r x : EReal)) Finset.univ < ⊤ :=
    (Finset.fold_max_lt _).mpr ⟨bot_lt_top, fun x _ => EReal.coe_lt_top _⟩
  have hgt : ⊥ < Finset.fold max (⊥ : EReal) (fun x => (r x : EReal)) Finset.univ :=
    lt_of_lt_of_le (EReal.bot_lt_coe (r 0)) ((Finset.le_fold_max _).mpr (Or.inr ⟨0, Finset.mem_univ _, le_refl _⟩))
  exact ⟨_, (EReal.coe_toReal hlt.ne hgt.ne').symm⟩

/-- Dividing the weighted sum, or each weight, by the sum of the weights is the same when scores and values are real. -/
theorem attend_eq (s v : Fin 256 → EReal) (hs : ∀ x, IsReal (s x)) (hv : ∀ x, IsReal (v x)) : attend s v = refAttend s v := by
  choose r hr using hs
  choose w hw using hv
  obtain rfl : s = fun x => (r x : EReal) := funext hr
  obtain rfl : v = fun x => (w x : EReal) := funext hw
  obtain ⟨t, ht⟩ := fold_real r
  have h1 : top (fun x => (r x : EReal)) = (t : EReal) := by unfold top; rw [neg_inf, ht]
  have h2 : refTop (fun x => (r x : EReal)) = (t : EReal) := by unfold refTop; rw [neg_inf, ht]; exact max_eq_right bot_le
  have he : ∀ x, Ideal.exp ((r x : EReal) - (t : EReal)) = ((Real.exp (r x - t) : ℝ) : EReal) := fun x => by
    rw [← EReal.coe_sub]; exact Ideal.exp_coe _
  have hpos : (0 : ℝ) < ∑ x : Fin 256, Real.exp (r x - t) := Finset.sum_pos (fun x _ => Real.exp_pos _) ⟨0, Finset.mem_univ _⟩
  unfold attend refAttend
  rw [h1, h2]
  simp only [he, coe_sum, Ideal.div_coe hpos.ne', ← EReal.coe_mul]
  rw [EReal.coe_eq_coe_iff, Finset.sum_mul]
  exact Finset.sum_congr rfl fun x _ => by ring

/-- A sum over 256 lanes that keeps only one head's is the sum over that head's 64. -/
theorem head_sum (h : Fin 4) (f : Fin 256 → EReal) :
    (∑ j : Fin 256, if j.val / 64 = h.val then f j else 0) = ∑ d : Fin 64, f ⟨h.val * 64 + d.val, by omega⟩ := by
  rw [← Finset.sum_filter]
  refine Finset.sum_bij' (fun j _ => (⟨j.val % 64, by omega⟩ : Fin 64)) (fun d _ => (⟨h.val * 64 + d.val, by omega⟩ : Fin 256)) ?_ ?_ ?_ ?_ ?_
  · intro j _; exact Finset.mem_univ _
  · intro d _
    rw [Finset.mem_filter]
    refine ⟨Finset.mem_univ _, ?_⟩
    show (h.val * 64 + d.val) / 64 = h.val
    omega
  · intro j hj
    rw [Finset.mem_filter] at hj
    ext
    show h.val * 64 + j.val % 64 = j.val
    have := hj.2
    omega
  · intro d _
    ext
    show (h.val * 64 + d.val) % 64 = d.val
    omega
  · intro j hj
    rw [Finset.mem_filter] at hj
    congr 1
    ext
    show j.val = h.val * 64 + j.val % 64
    have := hj.2
    omega

/-- Scaling the query or the finished score by 1/8 is the same when the numbers are real. -/
theorem score_eq (h : Fin 4) (q : Fin 256 → EReal) (k : Fin 256 → Fin 256 → EReal) (hq : ∀ j, IsReal (q j)) (hk : ∀ x j, IsReal (k x j)) :
    headScore h.val (fun j => q j * lit 0x3E000000#32) k = refScore h q k := by
  choose r hr using hq
  choose w hw using hk
  obtain rfl : q = fun j => (r j : EReal) := funext hr
  obtain rfl : k = fun x j => (w x j : EReal) := funext fun x => funext (hw x)
  funext x
  unfold headScore refScore
  rw [head_sum h]
  simp only [eighth, ← EReal.coe_mul, coe_sum]
  rw [EReal.coe_eq_coe_iff, Finset.sum_mul]
  exact Finset.sum_congr rfl fun x _ => by ring

theorem score_real (h : Fin 4) (q : Fin 256 → EReal) (k : Fin 256 → Fin 256 → EReal) (hq : ∀ j, IsReal (q j)) (hk : ∀ x j, IsReal (k x j))
    (x : Fin 256) : IsReal (refScore h q k x) := by
  choose r hr using hq
  choose w hw using hk
  obtain rfl : q = fun j => (r j : EReal) := funext hr
  obtain rfl : k = fun x j => (w x j : EReal) := funext fun x => funext (hw x)
  unfold refScore
  simp only [eighth, ← EReal.coe_mul, coe_sum]
  exact ⟨_, rfl⟩

theorem sum_real (a b : Fin 1024 → EReal) (ha : ∀ k, IsReal (a k)) (hb : ∀ k, IsReal (b k)) : IsReal (∑ k : Fin 1024, a k * b k) := by
  choose r hr using ha
  choose w hw using hb
  obtain rfl : a = fun j => (r j : EReal) := funext hr
  obtain rfl : b = fun j => (w j : EReal) := funext hw
  simp only [← EReal.coe_mul, coe_sum]
  exact ⟨_, rfl⟩

/-- The kernel's attention is the reference's on real numbers. -/
theorem all_eq (h : Fin 4) (q : Fin 256 → EReal) (k : Fin 256 → Fin 256 → EReal) (v : Fin 256 → EReal) (hq : ∀ j, IsReal (q j))
    (hk : ∀ x j, IsReal (k x j)) (hv : ∀ x, IsReal (v x)) :
    attend (headScore h.val (fun j => q j * lit 0x3E000000#32) k) v = refAttend (refScore h q k) v := by
  rw [score_eq h q k hq hk]
  exact attend_eq _ _ (score_real h q k hq hk) hv

end Cert.MemAttMath

end
-- ==== Proof.MemAttMain.lean ====
/- The claims about the memory attention: its frames, the reference's frame, and, where every argument is finite, the
   equality of the two results. -/
module

public import proofs.«01_k».proof.Proof.Gen.MemAtt.Frame
public import proofs.«01_k».proof.Proof.Gen.MemAttIdeal.Value
public import proofs.«01_k».proof.Proof.Gen.Pre_mem_finite
public import proofs.«01_k».proof.Proof.MemAttBlock
public import proofs.«01_k».proof.Proof.MemAttMath
public import proofs.«01_k».proof.Defs
public import Idealize.ShloMosaic.Lib.Claim
public import Idealize.ShloMosaic.Lib.ReduceAll

@[expose] public section

noncomputable section

namespace Cert.MemAttMain

open Idealize.ShloMosaic Idealize.ShloMosaic.TcCoe Idealize.SL.Sem
open Cert.MemAttMath (IsReal)

theorem frame_p : Cert.quiescent_MemAtt := fun m g _ => Cert.MemAtt.Gen.frame m g

theorem frame_pi : Cert.quiescent_MemAttIdeal := fun m g _ => Cert.MemAttIdeal.Gen.frame m g

theorem frame_ri : Cert.quiescent_MemAttRefIdeal := fun m g _ =>
  (θ_run Cert.MemAttRefIdeal.defs _ _).mono (fun r h => ⟨fun c => (h c).2, sem_eq_zero_of_no_sems (by decide) r.2⟩)
    (Cert.MemAttRefIdeal.Value.run (F := Ideal) m g)

theorem frame_pi_finite : Cert.quiescent_MemAttIdeal_pre_mem_finite := fun m g _ => Cert.MemAttIdeal.Gen.frame m g

theorem frame_ri_finite : Cert.quiescent_MemAttRefIdeal_pre_mem_finite := fun m g _ => frame_ri m g trivial

section Finite

/-- Two bits whose conjunction is one are both one. -/
theorem both_one : ∀ a b : BitVec 1, IntOp.andi a b = 1#1 → a = 1#1 ∧ b = 1#1 := by decide

theorem pos_inf : Ideal.ofBits .f32 0x7F800000#32 = ⊤ := by
  simp [Ideal.ofBits, Ideal.ieee]

/-- A number whose absolute value is below +∞ is real. -/
theorem real_of_abs_lt (x : EReal) (h : Ideal.cmp .olt (max x (-x)) (Ideal.ofBits .f32 0x7F800000#32) = 1#1) : IsReal x := by
  rw [pos_inf] at h
  have hlt : max x (-x) < ⊤ := by
    by_contra hn
    unfold Ideal.cmp at h
    rw [show decide (max x (-x) < ⊤) = false from decide_eq_false hn] at h
    dsimp only at h
    exact absurd h (by decide)
  have h1 : x ≠ ⊤ := fun e => by rw [e] at hlt; simp at hlt
  have h2 : x ≠ ⊥ := fun e => by rw [e] at hlt; simp at hlt
  exact ⟨x.toReal, (EReal.coe_toReal h1 h2).symm⟩

/-- The printed predicate, all ones, makes every entry of the three arguments real. -/
theorem all_real (q : FVec Ideal Pre_mem_finite.S16x2048x256 .f32) (a : FVec Ideal Pre_mem_finite.S16x256x1024 .f32)
    (w : FVec Ideal Pre_mem_finite.S1024x512 .f32) (h : Pre_mem_finite.fn (F := Ideal) q a w = fun _ => 1#1) :
    (∀ y, IsReal (q y)) ∧ (∀ y, IsReal (a y)) ∧ ∀ y, IsReal (w y) := by
  have e := congrFun h (fun a => a.elim0)
  unfold Pre_mem_finite.fn at e
  haveI : Subsingleton Pre_mem_finite.S_.Idx := ⟨fun a b => funext fun k => k.elim0⟩
  obtain ⟨e12, e3⟩ := both_one _ _ e
  obtain ⟨e1, e2⟩ := both_one _ _ e12
  exact ⟨fun y => real_of_abs_lt _ (Host.reduce_andi_all _ _ _ _ _ e1 y), fun y => real_of_abs_lt _ (Host.reduce_andi_all _ _ _ _ _ e2 y),
    fun y => real_of_abs_lt _ (Host.reduce_andi_all _ _ _ _ _ e3 y)⟩

end Finite

section Value

open Cert.MemAttIdeal Cert.MemAttIdeal.Gen

variable (m : (ℓ : Loc nD τ sig) → Buf (Elt Ideal) ℓ)

/-- Where the arguments are real, the reference's array at this memory's arguments is the kernel's. -/
theorem ref_whole (c : Dev nD) (hq : ∀ b s j, IsReal (MemAttBlock.queryAt m c b s j)) (ha : ∀ b x k, IsReal (MemAttBlock.memoryAt m c b x k))
    (hw : ∀ k o, IsReal (MemAttBlock.matrixAt m c k o)) :
    Cert.MemAttRefIdeal.Read.val_main_v23 (F := Ideal) (m ((c.tc : Thread nD τ).loc main_arg0)) (m ((c.tc : Thread nD τ).loc main_arg1))
      (m ((c.tc : Thread nD τ).loc main_arg2)) = MemAttBlock.whole m c := by
  funext i
  have hi : i = ix3 (n0 := 16) (n1 := 2048) (n2 := 256) (i 0) (i 1) (i 2) := eq_ix3 i
  refine (congrArg _ hi).trans ((MemAttRead.ref_at (m ((c.tc : Thread nD τ).loc main_arg0)) (m ((c.tc : Thread nD τ).loc main_arg1))
    (m ((c.tc : Thread nD τ).loc main_arg2)) (i 0) (i 1) (i 2)).trans ?_)
  have hj : (i 2).val / 64 < 4 := by have : (i 2).val < 256 := (i 2).isLt; omega
  have hkv : ∀ x o, IsReal (MemAttBlock.keyval m c (i 0) x o) := fun x o =>
    MemAttMath.sum_real _ _ (fun k => ha (i 0) x k) (fun k => hw k o)
  exact (MemAttMath.all_eq ⟨(i 2).val / 64, hj⟩ (fun j => MemAttBlock.queryAt m c (i 0) (i 1) j)
    (fun x j => MemAttBlock.keyval m c (i 0) x ⟨j.val, by omega⟩) (fun x => MemAttBlock.keyval m c (i 0) x ⟨256 + (i 2).val, by
      have : (i 2).val < 256 := (i 2).isLt; omega⟩)
    (fun j => hq _ _ j) (fun x j => hkv x _) (fun x => hkv x _)).symm

/-- Both programs end with the kernel's array and leave their arguments as they were. -/
theorem algebraic : Cert.algebraic_MemAttIdeal_MemAttRefIdeal_pre_mem_finite := by
  intro m g m' g' hpre hagree
  refine ⟨fun c => MemAttBlock.whole m c, (θ_run Cert.MemAttIdeal.defs _ _).mono
    (fun r h c => ⟨(h c).1.trans (MemAttBlock.array3_eq m c), (h c).2⟩) (Cert.MemAttIdeal.Value.run_blocks m g), ?_⟩
  refine (θ_run Cert.MemAttRefIdeal.defs _ _).mono (fun r h c => ⟨(h c).1.trans ?_, (h c).2⟩)
    (Cert.MemAttRefIdeal.Value.run (F := Ideal) m' g')
  obtain rfl : c = (0 : Fin 1) := Subsingleton.elim _ _
  refine (MemAttRefIdeal.Read.val_main_v23_eq _ _).trans ?_
  obtain ⟨h0, h1, h2⟩ := hagree (0 : Fin 1)
  rw [h0, h1, h2]
  obtain ⟨r0, r1, r2⟩ := all_real _ _ _ (hpre (0 : Fin 1))
  exact ref_whole m 0 (fun b s j => r0 _) (fun b x k => r1 _) (fun k o => r2 _)

end Value

end Cert.MemAttMain

end
-- ==== Proof.RouterTop.lean ====
/- Taking the largest entry four times, each time at its first place, is sorting in descending order, ties in order
   of place. -/
module

public import proofs.«01_k».proof.Proof.Norm
public import Idealize.ShloMosaic.Lib.SortFacts

@[expose] public section

noncomputable section

namespace Cert.RouterTop

open Idealize.ShloMosaic

variable {n : Nat} (L : Fin n → EReal)

/-- `a` comes before `b`: it is larger, or equal and at a smaller place. -/
def Ahead (a b : Fin n) : Prop := L b < L a ∨ (L b = L a ∧ a < b)

theorem Ahead.trans {L : Fin n → EReal} {a b c : Fin n} (h : Ahead L a b) (h' : Ahead L b c) : Ahead L a c := by
  rcases h with h | ⟨h, k⟩ <;> rcases h' with h' | ⟨h', k'⟩
  · exact Or.inl (h'.trans h)
  · exact Or.inl (h'.trans_lt h)
  · exact Or.inl (h'.trans_eq h)
  · exact Or.inr ⟨h'.trans h, k.trans k'⟩

theorem insert_ahead (before : Fin n → Fin n → Bool) (hb : ∀ a b, before a b = true ↔ L b < L a) (a : Fin n) (l : List (Fin n))
    (hl : l.Pairwise (Ahead L)) (ha : ∀ b ∈ l, a < b) : (insertBefore before a l).Pairwise (Ahead L) := by
  induction l with
  | nil => exact List.pairwise_singleton _ _
  | cons b l ih =>
    have hp := List.pairwise_cons.mp hl
    unfold insertBefore
    split
    · rename_i h
      refine List.pairwise_cons.mpr ⟨fun c hc => ?_, ih hp.2 fun c hc => ha c (List.mem_cons_of_mem _ hc)⟩
      rcases List.mem_cons.mp ((perm_insertBefore before a l).mem_iff.mp hc) with rfl | hc'
      · exact Or.inl ((hb _ _).mp h)
      · exact hp.1 c hc'
    · rename_i h
      have hab : Ahead L a b := by
        have h1 : ¬ L a < L b := fun k => h ((hb _ _).mpr k)
        rcases lt_or_eq_of_le (not_lt.mp h1) with h2 | h2
        · exact Or.inl h2
        · exact Or.inr ⟨h2, ha b List.mem_cons_self⟩
      refine List.pairwise_cons.mpr ⟨fun c hc => ?_, hl⟩
      rcases List.mem_cons.mp hc with rfl | hc'
      · exact hab
      · exact hab.trans (hp.1 c hc')

theorem sort_ahead (before : Fin n → Fin n → Bool) (hb : ∀ a b, before a b = true ↔ L b < L a) (l : List (Fin n))
    (hl : l.Pairwise (· < ·)) : (stableSort before l).Pairwise (Ahead L) := by
  induction l with
  | nil => exact List.Pairwise.nil
  | cons a l ih =>
    have hp := List.pairwise_cons.mp hl
    unfold stableSort
    exact insert_ahead L before hb a _ (ih hp.2) fun b h => hp.1 b ((perm_stableSort before l).mem_iff.mp h)

/-- The sorted order is descending, ties in order of place. -/
theorem sorted_ahead (before : Fin n → Fin n → Bool) (hb : ∀ a b, before a b = true ↔ L b < L a) {i j : Fin n} (h : i < j) :
    Ahead L (sortedFrom before i) (sortedFrom before j) := by
  have hp := List.pairwise_iff_get.mp (sort_ahead L before hb (List.finRange n) (List.pairwise_lt_finRange n))
  unfold sortedFrom
  exact hp _ _ h

/-- The largest entry of a row of 128. -/
def peak (f : Fin 128 → EReal) : EReal := Finset.fold max (⊥ : EReal) f Finset.univ

/-- A place as a number. -/
abbrev num (l : Fin 128) : EReal := ((l.val : ℝ) : EReal)

theorem num_inj {a b : Fin 128} (h : num a = num b) : a = b :=
  Fin.ext (by exact_mod_cast (EReal.coe_eq_coe_iff.mp h))

theorem num_le {a b : Fin 128} (h : a ≤ b) : num a ≤ num b :=
  EReal.coe_le_coe_iff.mpr (by exact_mod_cast h)

/-- The first place where the largest entry stands. -/
def place (f : Fin 128 → EReal) : EReal :=
  Finset.fold min (⊤ : EReal) (fun l => if f l = peak f then num l else ((128 : ℝ) : EReal)) Finset.univ

/-- The row with that place taken out. -/
def drop (f : Fin 128 → EReal) (l : Fin 128) : EReal := if num l = place f then ⊥ else f l

theorem peak_eq (f : Fin 128 → EReal) (a : Fin 128) (h : ∀ b, f b ≤ f a) : peak f = f a :=
  le_antisymm ((Finset.fold_max_le _).mpr ⟨bot_le, fun b _ => h b⟩)
    ((Finset.le_fold_max _).mpr (Or.inr ⟨a, Finset.mem_univ _, le_refl _⟩))

theorem place_eq (f : Fin 128 → EReal) (a : Fin 128) (h : ∀ b, f b ≤ f a) (h' : ∀ b, b < a → f b ≠ f a) : place f = num a := by
  unfold place
  rw [peak_eq f a h]
  refine le_antisymm ((Finset.fold_min_le _).mpr (Or.inr ⟨a, Finset.mem_univ _, by rw [if_pos rfl]⟩))
    ((Finset.le_fold_min _).mpr ⟨le_top, fun b _ => ?_⟩)
  split
  · rename_i e
    exact num_le (not_lt.mp fun k => h' b k e)
  · exact EReal.coe_le_coe_iff.mpr (by exact_mod_cast (show a.val ≤ 128 by omega))

/-- A place among 32, among 128. -/
abbrev wide (a : Fin 32) : Fin 128 := ⟨a.val, by omega⟩

/-- The row of 32 entries `L`, its first `r` in sorted order taken out, and 96 further entries below all of `L`. -/
structure Rest (L : Fin 32 → EReal) (s : Fin 32 → Fin 32) (r : Nat) (f : Fin 128 → EReal) : Prop where
  /-- An entry not taken out is as it was. -/
  kept : ∀ i : Fin 32, r ≤ i.val → f (wide (s i)) = L (s i)
  /-- An entry taken out is below everything. -/
  out : ∀ i : Fin 32, i.val < r → f (wide (s i)) = ⊥
  /-- The further entries are below all others. -/
  low : ∀ (l : Fin 128), 32 ≤ l.val → ∀ a, f l < L a

variable {L : Fin 32 → EReal} {s : Fin 32 → Fin 32}

section
variable (hs : Function.Surjective s) (ho : ∀ i j : Fin 32, i < j → Ahead L (s i) (s j)) {r : Fin 32} {f : Fin 128 → EReal}

include hs ho in
theorem Rest.le (H : Rest L s r.val f) (b : Fin 128) : f b ≤ f (wide (s r)) ∧ (b < wide (s r) → f b ≠ f (wide (s r))) := by
  have hr : f (wide (s r)) = L (s r) := H.kept r (le_refl _)
  rw [hr]
  by_cases hb : 32 ≤ b.val
  · exact ⟨le_of_lt (H.low b hb _), fun _ => ne_of_lt (H.low b hb _)⟩
  · obtain ⟨i, hi⟩ := hs ⟨b.val, by omega⟩
    have e : b = wide (s i) := Fin.ext (by rw [hi])
    rw [e]
    rcases lt_trichotomy i r with h | h | h
    · rw [H.out i h]
      have hpos : (⊥ : EReal) < L (s r) := lt_of_le_of_lt bot_le (H.low ⟨127, by omega⟩ (by show 32 ≤ 127; omega) _)
      exact ⟨bot_le, fun _ => ne_of_lt hpos⟩
    · subst h
      rw [hr]
      exact ⟨le_refl _, fun k => absurd k (lt_irrefl _)⟩
    · rw [H.kept i (le_of_lt h)]
      rcases ho r i h with k | ⟨k, k'⟩
      · exact ⟨le_of_lt k, fun _ => ne_of_lt k⟩
      · exact ⟨le_of_eq k, fun k2 => absurd (show s i < s r from k2) (not_lt.mpr (le_of_lt k'))⟩

include hs ho in
theorem Rest.peak (H : Rest L s r.val f) : peak f = L (s r) :=
  (peak_eq f (wide (s r)) fun b => (H.le hs ho b).1).trans (H.kept r (le_refl _))

include hs ho in
theorem Rest.place (H : Rest L s r.val f) : place f = num (wide (s r)) :=
  place_eq f (wide (s r)) (fun b => (H.le hs ho b).1) (fun b => (H.le hs ho b).2)

include hs ho in
theorem Rest.drop (hi : Function.Injective s) (H : Rest L s r.val f) : Rest L s (r.val + 1) (drop f) where
  kept i h := by
    unfold RouterTop.drop
    rw [H.place hs ho, if_neg, H.kept i (by omega)]
    intro e
    have e2 : s i = s r := Fin.ext (congrArg Fin.val (num_inj e) : (wide (s i)).val = (wide (s r)).val)
    have := congrArg Fin.val (hi e2)
    omega
  out i h := by
    unfold RouterTop.drop
    rw [H.place hs ho]
    by_cases e : i = r
    · rw [e, if_pos rfl]
    · have : i.val ≠ r.val := fun k => e (Fin.ext k)
      rw [H.out i (by omega), ite_self]
  low l h a := by
    unfold RouterTop.drop
    split
    · exact lt_of_le_of_lt bot_le (H.low l h a)
    · exact H.low l h a
end

end Cert.RouterTop

end
-- ==== Proof.RouterPay.lean ====
/- The values one grid point stores in the output projection's last two results, read at an index. -/
module

public import proofs.«01_k».proof.Proof.Gen.RouterIdeal.Frame
public import proofs.«01_k».proof.Proof.OutProjPay
public import proofs.«01_k».proof.Proof.RouterTop
public import proofs.«01_k».proof.Proof.MemAttMath
public import Idealize.ShloMosaic.Lib.Pointwise
public import Idealize.ShloMosaic.Lib.Pointwise.IndexBridge
public import Idealize.ShloMosaic.Lib.Pointwise.Contract
public import Idealize.ShloMosaic.Lib.Pipeline.ValueKit

@[expose] public section

noncomputable section

namespace Cert.RouterPay

open Idealize.ShloMosaic Idealize.ShloMosaic.TcCoe
open Cert.RouterIdeal Cert.RouterIdeal.Gen Cert.Norm Cert.RouterTop

theorem inf_lit : lit 0x7F800000#32 = ⊤ := by simp [lit, Ideal.ofBits, Ideal.ieee]

theorem wide_lit : lit 0x43000000#32 = ((128 : ℝ) : EReal) := by
  simp [lit, Ideal.ofBits, Ideal.ieee, -EReal.coe_mul]
  norm_num

theorem peak_lit (f : Fin 128 → EReal) : Finset.fold max (lit 0xFF800000#32) f Finset.univ = peak f := by
  unfold peak
  rw [Cert.MemAttMath.neg_inf]

theorem place_lit (f : Fin 128 → EReal) :
    Finset.fold min (lit 0x7F800000#32) (fun l => if f l = peak f then num l else lit 0x43000000#32) Finset.univ = place f := by
  unfold place
  rw [inf_lit, wide_lit]

theorem drop_lit (f : Fin 128 → EReal) (l : Fin 128) : (if num l = place f then lit 0xFF800000#32 else f l) = drop f l := by
  unfold drop
  rw [Cert.MemAttMath.neg_inf]

theorem lane_at (p : Fin 512) (l : Fin 128) : k0_pay9 (F := Ideal) (ix2 p l) = num l := by
  have e : k0_pay9 (F := Ideal) (ix2 p l) = ((((BitVec.ofNat 32 l.val).toInt : ℤ) : ℝ) : EReal) := by
    unfold k0_pay9
    pointwise
    rfl
  have h : (BitVec.ofNat 32 l.val).toInt = (l.val : ℤ) := by
    have := l.isLt
    rw [BitVec.toInt_eq_toNat_cond, BitVec.toNat_ofNat]
    have h1 : l.val % 2 ^ 32 = l.val := Nat.mod_eq_of_lt (by omega)
    rw [h1, if_pos (by omega)]
  rw [e, h]
  norm_num

section Rounds

variable (v70 v74 : FVec Ideal S512x1024 .bf16) (v75 v82 : Vec Ideal S1024x128 .bf16) (v86 : Vec Ideal S1x128 .f32)

theorem logits_at (p : Fin 512) (l : Fin 128) : k0_pay8 v70 v74 v75 v75 v82 v86 (ix2 p l)
    = (∑ k : Fin 1024, v70 (ix2 p k) * v75 (ix2 k l)) + (∑ k : Fin 1024, v74 (ix2 p k) * v75 (ix2 k l))
      + (∑ k : Fin 1024, v70 (ix2 p k) * v82 (ix2 k l)) + v86 (ix2 0 l) := by
  unfold k0_pay8
  pointwise

variable (p : Fin 512) {f : Fin 128 → EReal} (hf : ∀ l, k0_pay8 v70 v74 v75 v75 v82 v86 (ix2 p l) = f l)

include hf

theorem peak0 : k0_pay10 v70 v74 v75 v75 v82 v86 (ix2 p 0) = peak f := by
  have e : k0_pay10 v70 v74 v75 v75 v82 v86 (ix2 p 0)
      = Finset.fold max (lit 0xFF800000#32) (fun l => k0_pay8 v70 v74 v75 v75 v82 v86 (ix2 p l)) Finset.univ := by
    unfold k0_pay10
    generalize k0_pay8 v70 v74 v75 v75 v82 v86 = z
    pointwise [Cert.Norm.lit]
  rw [e, funext hf, peak_lit]

theorem place0 : k0_pay11 v70 v74 v75 v75 v82 v86 (ix2 p 0) = place f := by
  have e : k0_pay11 v70 v74 v75 v75 v82 v86 (ix2 p 0)
      = Finset.fold min (lit 0x7F800000#32) (fun l => if k0_pay8 v70 v74 v75 v75 v82 v86 (ix2 p l) = k0_pay10 v70 v74 v75 v75 v82 v86 (ix2 p 0)
          then k0_pay9 (F := Ideal) (ix2 p l) else lit 0x43000000#32) Finset.univ := by
    unfold k0_pay11
    generalize k0_pay10 v70 v74 v75 v75 v82 v86 = y
    generalize k0_pay8 v70 v74 v75 v75 v82 v86 = z
    generalize k0_pay9 (F := Ideal) = n
    pointwise [Cert.Norm.lit]
  rw [e, ← place_lit, peak0 v70 v74 v75 v82 v86 p hf]
  simp only [hf, lane_at]

theorem drop0 (l : Fin 128) : k0_pay12 v70 v74 v75 v75 v82 v86 (ix2 p l) = drop f l := by
  have e : k0_pay12 v70 v74 v75 v75 v82 v86 (ix2 p l)
      = if k0_pay9 (F := Ideal) (ix2 p l) = k0_pay11 v70 v74 v75 v75 v82 v86 (ix2 p 0) then lit 0xFF800000#32
        else k0_pay8 v70 v74 v75 v75 v82 v86 (ix2 p l) := by
    unfold k0_pay12
    generalize k0_pay11 v70 v74 v75 v75 v82 v86 = y
    generalize k0_pay8 v70 v74 v75 v75 v82 v86 = z
    generalize k0_pay9 (F := Ideal) = n
    pointwise [Cert.Norm.lit]
  rw [e, ← drop_lit, place0 v70 v74 v75 v82 v86 p hf, lane_at, hf]

theorem peak1 : k0_pay13 v70 v74 v75 v75 v82 v86 (ix2 p 0) = peak (drop f) := by
  have e : k0_pay13 v70 v74 v75 v75 v82 v86 (ix2 p 0)
      = Finset.fold max (lit 0xFF800000#32) (fun l => k0_pay12 v70 v74 v75 v75 v82 v86 (ix2 p l)) Finset.univ := by
    unfold k0_pay13
    generalize k0_pay12 v70 v74 v75 v75 v82 v86 = z
    pointwise [Cert.Norm.lit]
  rw [e, funext (drop0 v70 v74 v75 v82 v86 p hf), peak_lit]

theorem place1 : k0_pay14 v70 v74 v75 v75 v82 v86 (ix2 p 0) = place (drop f) := by
  have e : k0_pay14 v70 v74 v75 v75 v82 v86 (ix2 p 0)
      = Finset.fold min (lit 0x7F800000#32) (fun l => if k0_pay12 v70 v74 v75 v75 v82 v86 (ix2 p l) = k0_pay13 v70 v74 v75 v75 v82 v86 (ix2 p 0)
          then k0_pay9 (F := Ideal) (ix2 p l) else lit 0x43000000#32) Finset.univ := by
    unfold k0_pay14
    generalize k0_pay13 v70 v74 v75 v75 v82 v86 = y
    generalize k0_pay12 v70 v74 v75 v75 v82 v86 = z
    generalize k0_pay9 (F := Ideal) = n
    pointwise [Cert.Norm.lit]
  rw [e, ← place_lit, peak1 v70 v74 v75 v82 v86 p hf]
  simp only [drop0 v70 v74 v75 v82 v86 p hf, lane_at]

theorem drop1 (l : Fin 128) : k0_pay15 v70 v74 v75 v75 v82 v86 (ix2 p l) = drop (drop f) l := by
  have e : k0_pay15 v70 v74 v75 v75 v82 v86 (ix2 p l)
      = if k0_pay9 (F := Ideal) (ix2 p l) = k0_pay14 v70 v74 v75 v75 v82 v86 (ix2 p 0) then lit 0xFF800000#32
        else k0_pay12 v70 v74 v75 v75 v82 v86 (ix2 p l) := by
    unfold k0_pay15
    generalize k0_pay14 v70 v74 v75 v75 v82 v86 = y
    generalize k0_pay12 v70 v74 v75 v75 v82 v86 = z
    generalize k0_pay9 (F := Ideal) = n
    pointwise [Cert.Norm.lit]
  rw [e, ← drop_lit, place1 v70 v74 v75 v82 v86 p hf, lane_at, drop0 v70 v74 v75 v82 v86 p hf]

theorem peak2 : k0_pay16 v70 v74 v75 v75 v82 v86 (ix1 p) = peak (drop (drop f)) := by
  have e : k0_pay16 v70 v74 v75 v75 v82 v86 (ix1 p)
      = Finset.fold max (lit 0xFF800000#32) (fun l => k0_pay15 v70 v74 v75 v75 v82 v86 (ix2 p l)) Finset.univ := by
    unfold k0_pay16
    generalize k0_pay15 v70 v74 v75 v75 v82 v86 = z
    pointwise [Cert.Norm.lit]
  rw [e, funext (drop1 v70 v74 v75 v82 v86 p hf), peak_lit]

end Rounds

section Later

variable (n z : FVec Ideal S512x128 .f32) (y : FVec Ideal S512 .f32) (p : Fin 512) {f : Fin 128 → EReal}
  (hn : ∀ l, n (ix2 p l) = num l) (hz : ∀ l, z (ix2 p l) = f l) (hy : y (ix1 p) = peak f)

theorem column_at : k0_pay17 y (ix2 p 0) = y (ix1 p) := by
  unfold k0_pay17
  pointwise

include hn hz hy

theorem place2 : k0_pay18 n z y (ix2 p 0) = place f := by
  have e : k0_pay18 n z y (ix2 p 0)
      = Finset.fold min (lit 0x7F800000#32) (fun l => if z (ix2 p l) = k0_pay17 y (ix2 p 0) then n (ix2 p l) else lit 0x43000000#32) Finset.univ := by
    unfold k0_pay18
    generalize k0_pay17 y = w
    pointwise [Cert.Norm.lit]
  rw [e, ← place_lit, column_at, hy]
  simp only [hz, hn]

theorem drop2 (l : Fin 128) : k0_pay19 n z y (ix2 p l) = drop f l := by
  have e : k0_pay19 n z y (ix2 p l) = if n (ix2 p l) = k0_pay18 n z y (ix2 p 0) then lit 0xFF800000#32 else z (ix2 p l) := by
    unfold k0_pay19
    generalize k0_pay18 n z y = w
    pointwise [Cert.Norm.lit]
  rw [e, ← drop_lit, place2 n z y p hn hz hy, hn, hz]

theorem peak3 : k0_pay20 n z y (ix2 p 0) = peak (drop f) := by
  have e : k0_pay20 n z y (ix2 p 0) = Finset.fold max (lit 0xFF800000#32) (fun l => k0_pay19 n z y (ix2 p l)) Finset.univ := by
    unfold k0_pay20
    generalize k0_pay19 n z y = w
    pointwise [Cert.Norm.lit]
  rw [e, funext (drop2 n z y p hn hz hy), peak_lit]

theorem place3 : k0_pay21 n z y (ix2 p 0) = place (drop f) := by
  have e : k0_pay21 n z y (ix2 p 0)
      = Finset.fold min (lit 0x7F800000#32) (fun l => if k0_pay19 n z y (ix2 p l) = k0_pay20 n z y (ix2 p 0) then n (ix2 p l) else lit 0x43000000#32) Finset.univ := by
    unfold k0_pay21
    generalize k0_pay20 n z y = w
    generalize k0_pay19 n z y = v
    pointwise [Cert.Norm.lit]
  rw [e, ← place_lit, peak3 n z y p hn hz hy]
  simp only [drop2 n z y p hn hz hy, hn]

end Later

/-- The entry for lane `l`: the four entries in the first four lanes, zero in the others. -/
def pick (a b c d : EReal) (l : Fin 128) : EReal :=
  if num l = lit 0x40400000#32 then d else if num l = lit 0x40000000#32 then c else if num l = lit 0x3F800000#32 then b
  else if num l = lit 0x00000000#32 then a else lit 0x00000000#32

/-- The sum of the four weights, added in order. -/
def total (a b c d : EReal) : EReal :=
  Ideal.exp (a - a) + Ideal.exp (b - a) + Ideal.exp (c - a) + Ideal.exp (d - a)

/-- The four shares of the softmax of `a`, `b`, `c`, `d`, whose largest is `a`. -/
def shares (a b c d : EReal) (l : Fin 128) : EReal :=
  pick (Ideal.div (Ideal.exp (a - a)) (total a b c d)) (Ideal.div (Ideal.exp (b - a)) (total a b c d))
    (Ideal.div (Ideal.exp (c - a)) (total a b c d)) (Ideal.div (Ideal.exp (d - a)) (total a b c d)) l

theorem experts_at (n : FVec Ideal S512x128 .f32) (a b c y : FVec Ideal S512x1 .f32) (p : Fin 512) (l : Fin 128)
    (hn : n (ix2 p l) = num l) :
    k0_pay2 n a b c (k0_pay27 n y) (ix2 p l) = Ideal.fptosi 32 (pick (y (ix2 p 0)) (a (ix2 p 0)) (b (ix2 p 0)) (c (ix2 p 0)) l) := by
  have e : k0_pay27 n y (ix2 p l) = if num l = lit 0x00000000#32 then y (ix2 p 0) else lit 0x00000000#32 := by
    rw [← hn]
    unfold k0_pay27
    pointwise [Cert.Norm.lit]
  unfold pick
  rw [← e, ← hn]
  generalize k0_pay27 n y = w
  unfold k0_pay2
  pointwise [Cert.Norm.lit]
  rfl

theorem gates_at (n z : FVec Ideal S512x128 .f32) (y0 y1 : FVec Ideal S512x1 .f32) (y2 : FVec Ideal S512 .f32) (p : Fin 512) (l : Fin 128)
    (hn : n (ix2 p l) = num l) :
    k0_pay1 n (k0_pay24 y0 y2) (k0_pay25 n y0 z y2) (k0_pay26 n y0 y1 z y2) (k0_pay28 n y0 y1 z y2) (ix2 p l)
      = shares (y0 (ix2 p 0)) (y1 (ix2 p 0)) (k0_pay17 y2 (ix2 p 0)) (k0_pay20 n z y2 (ix2 p 0)) l := by
  have e0 : k0_pay22 y0 (ix2 p 0) = Ideal.exp (y0 (ix2 p 0) - y0 (ix2 p 0)) := by
    unfold k0_pay22
    pointwise
  have e1 : k0_pay23 y0 y1 (ix2 p 0) = Ideal.exp (y1 (ix2 p 0) - y0 (ix2 p 0)) := by
    unfold k0_pay23
    pointwise
  have e2 : k0_pay24 y0 y2 (ix2 p 0) = Ideal.exp (k0_pay17 y2 (ix2 p 0) - y0 (ix2 p 0)) := by
    unfold k0_pay24
    generalize k0_pay17 y2 = w
    pointwise
  have e3 : k0_pay25 n y0 z y2 (ix2 p 0) = Ideal.exp (k0_pay20 n z y2 (ix2 p 0) - y0 (ix2 p 0)) := by
    unfold k0_pay25
    generalize k0_pay20 n z y2 = w
    pointwise
  have es : k0_pay26 n y0 y1 z y2 (ix2 p 0)
      = total (y0 (ix2 p 0)) (y1 (ix2 p 0)) (k0_pay17 y2 (ix2 p 0)) (k0_pay20 n z y2 (ix2 p 0)) := by
    unfold total
    rw [← e0, ← e1, ← e2, ← e3]
    unfold k0_pay26
    generalize k0_pay22 y0 = a
    generalize k0_pay23 y0 y1 = b
    generalize k0_pay24 y0 y2 = c
    generalize k0_pay25 n y0 z y2 = d
    pointwise
  have e28 : k0_pay28 n y0 y1 z y2 (ix2 p l)
      = if num l = lit 0x3F800000#32 then Ideal.div (k0_pay23 y0 y1 (ix2 p 0)) (k0_pay26 n y0 y1 z y2 (ix2 p 0))
        else if num l = lit 0x00000000#32 then Ideal.div (k0_pay22 y0 (ix2 p 0)) (k0_pay26 n y0 y1 z y2 (ix2 p 0)) else lit 0x00000000#32 := by
    rw [← hn]
    unfold k0_pay28
    generalize k0_pay22 y0 = a
    generalize k0_pay23 y0 y1 = b
    generalize k0_pay26 n y0 y1 z y2 = s
    pointwise [Cert.Norm.lit]
  unfold shares pick
  rw [← es, ← e0, ← e1, ← e2, ← e3, ← e28, ← hn]
  generalize k0_pay28 n y0 y1 z y2 = w
  generalize k0_pay24 y0 y2 = c
  generalize k0_pay25 n y0 z y2 = d
  generalize k0_pay26 n y0 y1 z y2 = s
  unfold k0_pay1
  pointwise [Cert.Norm.lit]

end Cert.RouterPay

end
-- ==== Proof.RouterReal.lean ====
/- The rows the router reads are finite when the last scale and shift are. -/
module

public import proofs.«01_k».proof.Proof.OutProjPay
public import proofs.«01_k».proof.Proof.MemAttMath

@[expose] public section

noncomputable section

namespace Cert.RouterReal

open Idealize.ShloMosaic Cert.Norm Cert.MemAttMath Cert.OutProjBlock

theorem lit_len : lit 0x44800000#32 = ((1024 : ℝ) : EReal) := by
  simp [lit, Ideal.ofBits, Ideal.ieee, -EReal.coe_mul]
  norm_num

theorem lit_eps : ∃ e : ℝ, 0 < e ∧ lit 0x3727C5AC#32 = (e : EReal) := by
  refine ⟨(2 : ℝ) ^ (-17 : ℤ) * (1 + 2606508 / 8388608), by positivity, ?_⟩
  simp [lit, Ideal.ofBits, Ideal.ieee, -EReal.coe_mul]
  norm_num

theorem add_real {a b : EReal} (ha : IsReal a) (hb : IsReal b) : IsReal (a + b) := by
  obtain ⟨x, rfl⟩ := ha
  obtain ⟨y, rfl⟩ := hb
  exact ⟨x + y, by norm_cast⟩

theorem mul_real {a b : EReal} (ha : IsReal a) (hb : IsReal b) : IsReal (a * b) := by
  obtain ⟨x, rfl⟩ := ha
  obtain ⟨y, rfl⟩ := hb
  exact ⟨x * y, by norm_cast⟩

theorem normed_real (x g b : Fin 1024 → EReal) (hx : ∀ k, IsReal (x k)) (hg : ∀ k, IsReal (g k)) (hb : ∀ k, IsReal (b k))
    (j : Fin 1024) : IsReal (normed x g b j) := by
  choose r hr using hx
  have hm : mean x = (((∑ k : Fin 1024, r k) * (1 / 1024) : ℝ) : EReal) := by
    unfold mean
    rw [lit_len, Ideal.div_coe (by norm_num : (1024 : ℝ) ≠ 0), show (∑ k : Fin 1024, x k) = ((∑ k : Fin 1024, r k : ℝ) : EReal) from
      (Finset.sum_congr rfl fun k _ => hr k).trans (coe_sum _ _)]
    norm_cast
  generalize (∑ k : Fin 1024, r k) * (1 / 1024) = a at hm
  have hs : spread x = (((∑ k : Fin 1024, (r k - a) * (r k - a)) * (1 / 1024) : ℝ) : EReal) := by
    unfold spread
    rw [lit_len, Ideal.div_coe (by norm_num : (1024 : ℝ) ≠ 0), hm,
      show (∑ k : Fin 1024, (x k - (a : EReal)) * (x k - (a : EReal))) = ((∑ k : Fin 1024, (r k - a) * (r k - a) : ℝ) : EReal) from
      (Finset.sum_congr rfl fun k _ => by rw [hr k]; norm_cast).trans (coe_sum _ _)]
    norm_cast
  have h0 : 0 ≤ (∑ k : Fin 1024, (r k - a) * (r k - a)) * (1 / 1024) :=
    mul_nonneg (Finset.sum_nonneg fun k _ => mul_self_nonneg _) (by norm_num)
  generalize (∑ k : Fin 1024, (r k - a) * (r k - a)) * (1 / 1024) = v at hs h0
  obtain ⟨e, he, hl⟩ := lit_eps
  have hq : Ideal.rsqrt (spread x + lit 0x3727C5AC#32) = (((Real.sqrt (v + e))⁻¹ : ℝ) : EReal) := by
    rw [hs, hl, ← EReal.coe_add, Ideal.rsqrt_coe, if_neg (by linarith), if_neg (by linarith)]
  unfold normed
  rw [hq, hm, hr j]
  exact add_real (mul_real (mul_real ⟨r j - a, by norm_cast⟩ ⟨_, rfl⟩) (hg j)) (hb j)

theorem sum_top {n : Nat} (f : Fin n → EReal) (k : Fin n) (hk : f k = ⊤) (hf : ∀ i, f i ≠ ⊥) : ∑ i : Fin n, f i = ⊤ := by
  have hr : ∀ t : Finset (Fin n), ∑ i ∈ t, f i ≠ ⊥ := fun t => Finset.sum_induction f (· ≠ ⊥)
    (fun a b ha hb h => (EReal.add_eq_bot_iff.mp h).elim ha hb) (by simp) (fun i _ => hf i)
  rw [← Finset.add_sum_erase Finset.univ f (Finset.mem_univ k), hk]
  exact EReal.top_add_of_ne_bot (hr _)

theorem sum_bot {n : Nat} (f : Fin n → EReal) (k : Fin n) (hk : f k = ⊥) : ∑ i : Fin n, f i = ⊥ := by
  rw [← Finset.add_sum_erase Finset.univ f (Finset.mem_univ k), hk, EReal.bot_add]

/-- The mean of a row with an infinite entry is infinite. -/
theorem mean_end (x : Fin 1024 → EReal) (k : Fin 1024) (hk : ¬ IsReal (x k)) : mean x = ⊤ ∨ mean x = ⊥ := by
  have hp : (0 : ℝ) < 1 / 1024 := by norm_num
  unfold mean
  rw [lit_len, Ideal.div_coe (by norm_num : (1024 : ℝ) ≠ 0)]
  by_cases h : ∃ i, x i = ⊥
  · obtain ⟨i, hi⟩ := h
    right
    rw [sum_bot x i hi, EReal.bot_mul_coe_of_pos hp]
  · have hb : ∀ i, x i ≠ ⊥ := fun i e => h ⟨i, e⟩
    have ht : x k = ⊤ := by
      by_contra hn
      exact hk ⟨(x k).toReal, (EReal.coe_toReal hn (hb k)).symm⟩
    left
    rw [sum_top x k ht hb, EReal.top_mul_coe_of_pos hp]

theorem sub_end (a c : EReal) (h : c = ⊤ ∨ c = ⊥) : a - c = ⊤ ∨ a - c = ⊥ := by
  rcases h with rfl | rfl
  · right
    rw [sub_eq_add_neg, EReal.neg_top, EReal.add_bot]
  · by_cases ha : a = ⊥
    · right
      rw [ha, sub_eq_add_neg, EReal.bot_add]
    · left
      rw [sub_eq_add_neg, EReal.neg_bot, EReal.add_top_of_ne_bot ha]

theorem square_end (d : EReal) (h : d = ⊤ ∨ d = ⊥) : d * d = ⊤ := by
  rcases h with rfl | rfl
  · exact EReal.top_mul_top
  · exact EReal.bot_mul_bot

/-- A row normalised is finite whatever the row: one with an infinite entry is scaled by zero. -/
theorem normed_end (x g b : Fin 1024 → EReal) (hg : ∀ k, IsReal (g k)) (hb : ∀ k, IsReal (b k)) (j : Fin 1024) :
    IsReal (normed x g b j) := by
  by_cases hx : ∀ k, IsReal (x k)
  · exact normed_real x g b hx hg hb j
  · obtain ⟨k, hk⟩ := not_forall.mp hx
    have hm := mean_end x k hk
    have hq : ∀ i, (x i - mean x) * (x i - mean x) = ⊤ := fun i => square_end _ (sub_end _ _ hm)
    have hs : spread x = ⊤ := by
      unfold spread
      rw [lit_len, Ideal.div_coe (by norm_num : (1024 : ℝ) ≠ 0),
        sum_top (fun i => (x i - mean x) * (x i - mean x)) k (hq k) (fun i => by rw [hq i]; exact top_ne_bot),
        EReal.top_mul_coe_of_pos (by norm_num)]
    obtain ⟨e, _, hl⟩ := lit_eps
    unfold normed
    rw [hs, hl, EReal.top_add_coe, Ideal.rsqrt_top, mul_zero, zero_mul, zero_add]
    exact hb j

theorem hidden_real (x g b : Fin 1024 → EReal) (yr ya : Fin 384 → EReal) (ym : Fin 256 → EReal) (w : Fin 1024 → Fin 1024 → EReal)
    (g1 b1 : Fin 1024 → EReal) (hg1 : ∀ k, IsReal (g1 k)) (hb1 : ∀ k, IsReal (b1 k)) (j : Fin 1024) :
    IsReal (hidden x g b yr ya ym w g1 b1 j) := normed_end _ _ _ hg1 hb1 j

/-- The router's score for a lane: the row split in two parts, each times the matrix's parts, plus the shift. -/
def split (h w : Fin 1024 → EReal) (b : EReal) : EReal :=
  (∑ k : Fin 1024, h k * w k) + (∑ k : Fin 1024, (h k - h k) * w k) + (∑ k : Fin 1024, h k * (w k - w k)) + b

theorem self_sub {a : EReal} (h : IsReal a) : a - a = 0 := by
  obtain ⟨x, rfl⟩ := h
  rw [← EReal.coe_sub, sub_self, EReal.coe_zero]

/-- With finite entries the second parts vanish. -/
theorem split_eq (h w : Fin 1024 → EReal) (b : EReal) (hh : ∀ k, IsReal (h k)) (hw : ∀ k, IsReal (w k)) :
    split h w b = (∑ k : Fin 1024, h k * w k) + b := by
  unfold split
  rw [Finset.sum_eq_zero (f := fun k => (h k - h k) * w k) fun k _ => by rw [self_sub (hh k), zero_mul],
    Finset.sum_eq_zero (f := fun k => h k * (w k - w k)) fun k _ => by rw [self_sub (hw k), mul_zero], add_zero, add_zero]

/-- A column of zeros leaves the shift. -/
theorem split_zero (h w : Fin 1024 → EReal) (b : EReal) (hw : ∀ k, w k = 0) : split h w b = b := by
  unfold split
  rw [Finset.sum_eq_zero (f := fun k => h k * w k) fun k _ => by rw [hw k, mul_zero],
    Finset.sum_eq_zero (f := fun k => (h k - h k) * w k) fun k _ => by rw [hw k, mul_zero],
    Finset.sum_eq_zero (f := fun k => h k * (w k - w k)) fun k _ => by rw [hw k, sub_zero, mul_zero], add_zero, add_zero, zero_add]

end Cert.RouterReal

end
-- ==== Proof.RouterBlock.lean ====
/- The rows the router reads at every grid point, and its matrix and shift there. -/
module

public import proofs.«01_k».proof.Proof.RouterPay
public import proofs.«01_k».proof.Proof.RouterReal

@[expose] public section

noncomputable section

namespace Cert.RouterBlock

open Idealize.ShloMosaic Idealize.ShloMosaic.TcCoe Idealize.SL.Sem
open Cert.RouterIdeal Cert.RouterIdeal.Gen Cert.Norm Cert.OutProjBlock

variable (m : (ℓ : Loc nD τ sig) → Buf (Elt Ideal) ℓ) (c : Dev nD)

theorem index0 : ∀ t : Fin cfg0.N, (cfg0.win 0).index t = ![t.val, 0] :=
  (by decide +kernel : ∀ t : Fin grid0.N, win0_0.index t = ![t.val, 0])
theorem index1 : ∀ t : Fin cfg0.N, (cfg0.win 1).index t = ![t.val, 0] :=
  (by decide +kernel : ∀ t : Fin grid0.N, win0_1.index t = ![t.val, 0])
theorem index2 : ∀ t : Fin cfg0.N, (cfg0.win 2).index t = ![t.val, 0] :=
  (by decide +kernel : ∀ t : Fin grid0.N, win0_2.index t = ![t.val, 0])
theorem index3 : ∀ t : Fin cfg0.N, (cfg0.win 3).index t = ![t.val, 0] :=
  (by decide +kernel : ∀ t : Fin grid0.N, win0_3.index t = ![t.val, 0])
theorem index4 : ∀ t : Fin cfg0.N, (cfg0.win 4).index t = ![0, 0] :=
  (by decide +kernel : ∀ t : Fin grid0.N, win0_4.index t = ![0, 0])
theorem index5 : ∀ t : Fin cfg0.N, (cfg0.win 5).index t = ![0, 0] :=
  (by decide +kernel : ∀ t : Fin grid0.N, win0_5.index t = ![0, 0])
theorem index6 : ∀ t : Fin cfg0.N, (cfg0.win 6).index t = ![0, 0] :=
  (by decide +kernel : ∀ t : Fin grid0.N, win0_6.index t = ![0, 0])
theorem index7 : ∀ t : Fin cfg0.N, (cfg0.win 7).index t = ![0, 0] :=
  (by decide +kernel : ∀ t : Fin grid0.N, win0_7.index t = ![0, 0])
theorem index8 : ∀ t : Fin cfg0.N, (cfg0.win 8).index t = ![0, 0] :=
  (by decide +kernel : ∀ t : Fin grid0.N, win0_8.index t = ![0, 0])

theorem index9 : ∀ t : Fin cfg0.N, (cfg0.win 9).index t = ![0, 0] :=
  (by decide +kernel : ∀ t : Fin grid0.N, win0_9.index t = ![0, 0])
theorem index10 : ∀ t : Fin cfg0.N, (cfg0.win 10).index t = ![0, 0] :=
  (by decide +kernel : ∀ t : Fin grid0.N, win0_10.index t = ![0, 0])
theorem index11 : ∀ t : Fin cfg0.N, (cfg0.win 11).index t = ![0, 0] :=
  (by decide +kernel : ∀ t : Fin grid0.N, win0_11.index t = ![0, 0])
theorem index14 : ∀ t : Fin cfg0.N, (cfg0.win 14).index t = ![t.val, 0] :=
  (by decide +kernel : ∀ t : Fin grid0.N, win0_14.index t = ![t.val, 0])
theorem index15 : ∀ t : Fin cfg0.N, (cfg0.win 15).index t = ![t.val, 0] :=
  (by decide +kernel : ∀ t : Fin grid0.N, win0_15.index t = ![t.val, 0])

/-- Row `p` of block `t` as a row of the whole array. -/
abbrev row (t : Fin 64) (p : Fin 512) : Fin 32768 := ⟨t.val * 512 + p.val, by omega⟩

theorem blk0 (t : Fin cfg0.N) (p : Fin 512) (k : Fin 1024) :
    iblk m c 0 t (ix2 p k) = V m c main_arg0 (ValueIdx.ix2 (row t p) k) := by
  show V m c main_arg0 (((cfg0.win 0).blk t).view.emb (ix2 p k)) = _
  refine congrArg _ (funext fun a => Fin.ext ?_)
  refine (Pipeline.Window.rect_emb_val (cfg0.win 0) t (ix2 p k) a).trans ?_
  rw [index0]
  match a with
  | ⟨0, _⟩ => rfl
  | ⟨1, _⟩ => show 0 * 1024 + k.val = k.val; omega

theorem blk1 (t : Fin cfg0.N) (p : Fin 512) (k : Fin 384) :
    iblk m c 1 t (ix2 p k) = V m c main_arg1 (ValueIdx.ix2 (row t p) k) := by
  show V m c main_arg1 (((cfg0.win 1).blk t).view.emb (ix2 p k)) = _
  refine congrArg _ (funext fun a => Fin.ext ?_)
  refine (Pipeline.Window.rect_emb_val (cfg0.win 1) t (ix2 p k) a).trans ?_
  rw [index1]
  match a with
  | ⟨0, _⟩ => rfl
  | ⟨1, _⟩ => show 0 * 384 + k.val = k.val; omega

theorem blk2 (t : Fin cfg0.N) (p : Fin 512) (k : Fin 384) :
    iblk m c 2 t (ix2 p k) = V m c main_arg2 (ValueIdx.ix2 (row t p) k) := by
  show V m c main_arg2 (((cfg0.win 2).blk t).view.emb (ix2 p k)) = _
  refine congrArg _ (funext fun a => Fin.ext ?_)
  refine (Pipeline.Window.rect_emb_val (cfg0.win 2) t (ix2 p k) a).trans ?_
  rw [index2]
  match a with
  | ⟨0, _⟩ => rfl
  | ⟨1, _⟩ => show 0 * 384 + k.val = k.val; omega

theorem blk3 (t : Fin cfg0.N) (p : Fin 512) (k : Fin 256) :
    iblk m c 3 t (ix2 p k) = V m c main_arg3 (ValueIdx.ix2 (row t p) k) := by
  show V m c main_arg3 (((cfg0.win 3).blk t).view.emb (ix2 p k)) = _
  refine congrArg _ (funext fun a => Fin.ext ?_)
  refine (Pipeline.Window.rect_emb_val (cfg0.win 3) t (ix2 p k) a).trans ?_
  rw [index3]
  match a with
  | ⟨0, _⟩ => rfl
  | ⟨1, _⟩ => show 0 * 256 + k.val = k.val; omega

theorem blk4 (t : Fin cfg0.N) (k : Fin 1024) : iblk m c 4 t (ix2 0 k) = V m c main_v7 (ValueIdx.ix2 0 k) := by
  show V m c main_v7 (((cfg0.win 4).blk t).view.emb (ix2 0 k)) = _
  refine congrArg _ (funext fun a => Fin.ext ?_)
  refine (Pipeline.Window.rect_emb_val (cfg0.win 4) t (ix2 0 k) a).trans ?_
  rw [index4]
  match a with
  | ⟨0, _⟩ => rfl
  | ⟨1, _⟩ => show 0 * 1024 + k.val = k.val; omega

theorem blk5 (t : Fin cfg0.N) (k : Fin 1024) : iblk m c 5 t (ix2 0 k) = V m c main_v8 (ValueIdx.ix2 0 k) := by
  show V m c main_v8 (((cfg0.win 5).blk t).view.emb (ix2 0 k)) = _
  refine congrArg _ (funext fun a => Fin.ext ?_)
  refine (Pipeline.Window.rect_emb_val (cfg0.win 5) t (ix2 0 k) a).trans ?_
  rw [index5]
  match a with
  | ⟨0, _⟩ => rfl
  | ⟨1, _⟩ => show 0 * 1024 + k.val = k.val; omega

theorem blk7 (t : Fin cfg0.N) (k : Fin 1024) : iblk m c 7 t (ix2 0 k) = V m c main_v10 (ValueIdx.ix2 0 k) := by
  show V m c main_v10 (((cfg0.win 7).blk t).view.emb (ix2 0 k)) = _
  refine congrArg _ (funext fun a => Fin.ext ?_)
  refine (Pipeline.Window.rect_emb_val (cfg0.win 7) t (ix2 0 k) a).trans ?_
  rw [index7]
  match a with
  | ⟨0, _⟩ => rfl
  | ⟨1, _⟩ => show 0 * 1024 + k.val = k.val; omega

theorem blk8 (t : Fin cfg0.N) (k : Fin 1024) : iblk m c 8 t (ix2 0 k) = V m c main_v11 (ValueIdx.ix2 0 k) := by
  show V m c main_v11 (((cfg0.win 8).blk t).view.emb (ix2 0 k)) = _
  refine congrArg _ (funext fun a => Fin.ext ?_)
  refine (Pipeline.Window.rect_emb_val (cfg0.win 8) t (ix2 0 k) a).trans ?_
  rw [index8]
  match a with
  | ⟨0, _⟩ => rfl
  | ⟨1, _⟩ => show 0 * 1024 + k.val = k.val; omega

theorem blk6 (t : Fin cfg0.N) (k j : Fin 1024) : iblk m c 6 t (ix2 k j) = V m c main_v9 (ValueIdx.ix2 k j) := by
  show V m c main_v9 (((cfg0.win 6).blk t).view.emb (ix2 k j)) = _
  refine congrArg _ (funext fun a => Fin.ext ?_)
  refine (Pipeline.Window.rect_emb_val (cfg0.win 6) t (ix2 k j) a).trans ?_
  rw [index6]
  match a with
  | ⟨0, _⟩ => show 0 * 1024 + k.val = k.val; omega
  | ⟨1, _⟩ => show 0 * 1024 + j.val = j.val; omega

theorem blk9 (t : Fin cfg0.N) (k : Fin 1024) (l : Fin 128) : iblk m c 9 t (ix2 k l) = V m c main_v1 (ValueIdx.ix2 k l) := by
  show V m c main_v1 (((cfg0.win 9).blk t).view.emb (ix2 k l)) = _
  refine congrArg _ (funext fun a => Fin.ext ?_)
  refine (Pipeline.Window.rect_emb_val (cfg0.win 9) t (ix2 k l) a).trans ?_
  rw [index9]
  match a with
  | ⟨0, _⟩ => show 0 * 1024 + k.val = k.val; omega
  | ⟨1, _⟩ => show 0 * 128 + l.val = l.val; omega

theorem blk10 (t : Fin cfg0.N) (k : Fin 1024) (l : Fin 128) : iblk m c 10 t (ix2 k l) = V m c main_v4 (ValueIdx.ix2 k l) := by
  show V m c main_v4 (((cfg0.win 10).blk t).view.emb (ix2 k l)) = _
  refine congrArg _ (funext fun a => Fin.ext ?_)
  refine (Pipeline.Window.rect_emb_val (cfg0.win 10) t (ix2 k l) a).trans ?_
  rw [index10]
  match a with
  | ⟨0, _⟩ => show 0 * 1024 + k.val = k.val; omega
  | ⟨1, _⟩ => show 0 * 128 + l.val = l.val; omega

theorem blk11 (t : Fin cfg0.N) (l : Fin 128) : iblk m c 11 t (ix2 0 l) = V m c main_v6 (ValueIdx.ix2 0 l) := by
  show V m c main_v6 (((cfg0.win 11).blk t).view.emb (ix2 0 l)) = _
  refine congrArg _ (funext fun a => Fin.ext ?_)
  refine (Pipeline.Window.rect_emb_val (cfg0.win 11) t (ix2 0 l) a).trans ?_
  rw [index11]
  match a with
  | ⟨0, _⟩ => rfl
  | ⟨1, _⟩ => show 0 * 128 + l.val = l.val; omega

/-- A vector as one row. -/
theorem as_row (y : FVec Ideal S1024 .f32) (k : Fin 1024) :
    shapeCast S1x1024 y shapeCasts_S1024_S1x1024 (ValueIdx.ix2 0 k) = y (ValueIdx.ix1 k) := by
  refine shapeCast_apply _ _ _ _ ?_
  rw [Shape.rowMajor_val_two, Shape.rowMajor_val_one]
  show k.val = 0 * 1024 + k.val
  omega

theorem V_v7 (k : Fin 1024) : V m c main_v7 (ValueIdx.ix2 0 k) = m ((c.tc : Thread nD τ).loc main_arg4) (ValueIdx.ix1 k) := by
  have h : V m c main_v7 = shapeCast S1x1024 (m ((c.tc : Thread nD τ).loc main_arg4) : FVec Ideal S1024 .f32) shapeCasts_S1024_S1x1024 := by
    simp only [V, hostOps0, hostOps0_1, hostOps0_2, hostOps0_3, hostOps0_4, List.flatten_cons, List.flatten_nil, List.append_nil,
      List.cons_append, List.nil_append, StableHlo.TRef.unary, StableHlo.TRef.binary]
    after_results
    rfl
  rw [h]
  exact as_row _ k

theorem V_v8 (k : Fin 1024) : V m c main_v8 (ValueIdx.ix2 0 k) = m ((c.tc : Thread nD τ).loc main_arg5) (ValueIdx.ix1 k) := by
  have h : V m c main_v8 = shapeCast S1x1024 (m ((c.tc : Thread nD τ).loc main_arg5) : FVec Ideal S1024 .f32) shapeCasts_S1024_S1x1024 := by
    simp only [V, hostOps0, hostOps0_1, hostOps0_2, hostOps0_3, hostOps0_4, List.flatten_cons, List.flatten_nil, List.append_nil,
      List.cons_append, List.nil_append, StableHlo.TRef.unary, StableHlo.TRef.binary]
    after_results
    rfl
  rw [h]
  exact as_row _ k

theorem V_v10 (k : Fin 1024) : V m c main_v10 (ValueIdx.ix2 0 k) = m ((c.tc : Thread nD τ).loc main_arg7) (ValueIdx.ix1 k) := by
  have h : V m c main_v10 = shapeCast S1x1024 (m ((c.tc : Thread nD τ).loc main_arg7) : FVec Ideal S1024 .f32) shapeCasts_S1024_S1x1024 := by
    simp only [V, hostOps0, hostOps0_1, hostOps0_2, hostOps0_3, hostOps0_4, List.flatten_cons, List.flatten_nil, List.append_nil,
      List.cons_append, List.nil_append, StableHlo.TRef.unary, StableHlo.TRef.binary]
    after_results
    rfl
  rw [h]
  exact as_row _ k

theorem V_v11 (k : Fin 1024) : V m c main_v11 (ValueIdx.ix2 0 k) = m ((c.tc : Thread nD τ).loc main_arg8) (ValueIdx.ix1 k) := by
  have h : V m c main_v11 = shapeCast S1x1024 (m ((c.tc : Thread nD τ).loc main_arg8) : FVec Ideal S1024 .f32) shapeCasts_S1024_S1x1024 := by
    simp only [V, hostOps0, hostOps0_1, hostOps0_2, hostOps0_3, hostOps0_4, List.flatten_cons, List.flatten_nil, List.append_nil,
      List.cons_append, List.nil_append, StableHlo.TRef.unary, StableHlo.TRef.binary]
    after_results
    rfl
  rw [h]
  exact as_row _ k

theorem V_v9 (k j : Fin 1024) : V m c main_v9 (ValueIdx.ix2 k j) = m ((c.tc : Thread nD τ).loc main_arg6) (ValueIdx.ix2 k j) := by
  have h : V m c main_v9 = (truncf .bf16 (m ((c.tc : Thread nD τ).loc main_arg6) : FVec Ideal S1024x1024 .f32) bitsLt_bf16_f32 : FVec Ideal S1024x1024 .bf16) := by
    simp only [V, hostOps0, hostOps0_1, hostOps0_2, hostOps0_3, hostOps0_4, List.flatten_cons, List.flatten_nil, List.append_nil,
      List.cons_append, List.nil_append, StableHlo.TRef.unary, StableHlo.TRef.binary]
    after_results
  rw [h]
  rfl

/-- Row `r` after its two normalisations. -/
def value (r : Fin 32768) (j : Fin 1024) : EReal :=
  hidden (fun k => m ((c.tc : Thread nD τ).loc main_arg0) (ValueIdx.ix2 r k))
    (fun k => m ((c.tc : Thread nD τ).loc main_arg4) (ValueIdx.ix1 k)) (fun k => m ((c.tc : Thread nD τ).loc main_arg5) (ValueIdx.ix1 k))
    (fun k => m ((c.tc : Thread nD τ).loc main_arg1) (ValueIdx.ix2 r k)) (fun k => m ((c.tc : Thread nD τ).loc main_arg2) (ValueIdx.ix2 r k))
    (fun k => m ((c.tc : Thread nD τ).loc main_arg3) (ValueIdx.ix2 r k)) (fun k j => m ((c.tc : Thread nD τ).loc main_arg6) (ValueIdx.ix2 k j))
    (fun k => m ((c.tc : Thread nD τ).loc main_arg7) (ValueIdx.ix1 k)) (fun k => m ((c.tc : Thread nD τ).loc main_arg8) (ValueIdx.ix1 k)) j

theorem hidden_value (t : Fin cfg0.N) (p : Fin 512) (j : Fin 1024) :
    hidden (fun k => iblk m c 0 t (ix2 p k)) (fun k => iblk m c 4 t (ix2 0 k)) (fun k => iblk m c 5 t (ix2 0 k))
      (fun k => iblk m c 1 t (ix2 p k)) (fun k => iblk m c 2 t (ix2 p k)) (fun k => iblk m c 3 t (ix2 p k))
      (fun k j => iblk m c 6 t (ix2 k j)) (fun k => iblk m c 7 t (ix2 0 k)) (fun k => iblk m c 8 t (ix2 0 k)) j
      = value m c (row t p) j :=
  hidden_congr (fun k => (blk0 m c t p k).trans (congrFun (V_main_arg0 m c) _)) (fun k => (blk4 m c t k).trans (V_v7 m c k))
    (fun k => (blk5 m c t k).trans (V_v8 m c k)) (fun k => (blk1 m c t p k).trans (congrFun (V_main_arg1 m c) _))
    (fun k => (blk2 m c t p k).trans (congrFun (V_main_arg2 m c) _)) (fun k => (blk3 m c t p k).trans (congrFun (V_main_arg3 m c) _))
    (fun k j => (blk6 m c t k j).trans (V_v9 m c k j)) (fun k => (blk7 m c t k).trans (V_v10 m c k))
    (fun k => (blk8 m c t k).trans (V_v11 m c k)) j

/-- The router's matrix, with columns of zeros up to 128. -/
def padW (k : Fin 1024) (l : Fin 128) : EReal :=
  if h : l.val < 32 then m ((c.tc : Thread nD τ).loc main_arg9) (ValueIdx.ix2 k ⟨l.val, h⟩) else 0

/-- The router's shift, with the padding value up to 128. -/
def padB (l : Fin 128) : EReal :=
  if h : l.val < 32 then m ((c.tc : Thread nD τ).loc main_arg10) (ValueIdx.ix1 ⟨l.val, h⟩) else lit 0xF149F2CA#32

theorem V_v0 (k : Fin 1024) (l : Fin 128) : V m c main_v0 (ValueIdx.ix2 k l) = padW m c k l := by
  have h : V m c main_v0 = pad S1024x128 ![0, 0] ![0, 96] ![0, 0] (m ((c.tc : Thread nD τ).loc main_arg9) : FVec Ideal S1024x32 .f32)
      (sitofp .f32 (constantI S_ 32 0#32) : FVec Ideal S_ .f32) pads_S1024x32_S1024x128_000_0960 h_S_ := by
    simp only [V, hostOps0, hostOps0_1, hostOps0_2, hostOps0_3, hostOps0_4, List.flatten_cons, List.flatten_nil, List.append_nil,
      List.cons_append, List.nil_append, StableHlo.TRef.unary, StableHlo.TRef.binary]
    after_results
    rfl
  rw [h]
  unfold padW
  generalize (m ((c.tc : Thread nD τ).loc main_arg9) : FVec Ideal S1024x32 .f32) = y
  pointwise
  by_cases hl : l.val < 32
  · rw [dif_pos hl, dif_pos]
    · rfl
    · intro a
      match a with
      | ⟨0, _⟩ => exact ⟨Nat.zero_le _, by show (k.val - 0) % (0 + 1) = 0; omega, by show (k.val - 0) / (0 + 1) < 1024; have := k.isLt; omega⟩
      | ⟨1, _⟩ => exact ⟨Nat.zero_le _, by show (l.val - 0) % (0 + 1) = 0; omega, by show (l.val - 0) / (0 + 1) < 32; omega⟩
  · rw [dif_neg hl, dif_neg]
    · show ((((0#32 : BitVec 32).toInt : ℤ) : ℝ) : EReal) = 0
      simp
    · intro hc
      have h1 : (l.val - 0) / (0 + 1) < 32 := (hc (1 : Fin 2)).2.2
      omega

theorem V_v5 (l : Fin 128) : V m c main_v5 (ValueIdx.ix1 l) = padB m c l := by
  have h : V m c main_v5 = pad S128 ![0] ![96] ![0] (m ((c.tc : Thread nD τ).loc main_arg10) : FVec Ideal S32 .f32)
      (constant S_ .f32 0xF149F2CA#32 : FVec Ideal S_ .f32) pads_S32_S128_0960 h_S_ := by
    simp only [V, hostOps0, hostOps0_1, hostOps0_2, hostOps0_3, hostOps0_4, List.flatten_cons, List.flatten_nil, List.append_nil,
      List.cons_append, List.nil_append, StableHlo.TRef.unary, StableHlo.TRef.binary]
    after_results
    rfl
  rw [h]
  unfold padB
  generalize (m ((c.tc : Thread nD τ).loc main_arg10) : FVec Ideal S32 .f32) = y
  pointwise
  by_cases hl : l.val < 32
  · rw [dif_pos hl, dif_pos]
    · rfl
    · intro a
      match a with
      | ⟨0, _⟩ => exact hl
  · rw [dif_neg hl, dif_neg]
    · intro hc
      exact hl (hc (0 : Fin 1))

theorem V_v1 (k : Fin 1024) (l : Fin 128) : V m c main_v1 (ValueIdx.ix2 k l) = padW m c k l := by
  have h : V m c main_v1 = (truncf .bf16 (V m c main_v0 : FVec Ideal S1024x128 .f32) bitsLt_bf16_f32 : FVec Ideal S1024x128 .bf16) := by
    simp only [V, hostOps0, hostOps0_1, hostOps0_2, hostOps0_3, hostOps0_4, List.flatten_cons, List.flatten_nil, List.append_nil,
      List.cons_append, List.nil_append, StableHlo.TRef.unary, StableHlo.TRef.binary]
    after_results
  rw [h]
  exact V_v0 m c k l

theorem V_v4 (k : Fin 1024) (l : Fin 128) : V m c main_v4 (ValueIdx.ix2 k l) = padW m c k l - padW m c k l := by
  have h : V m c main_v4 = (truncf .bf16 (subf (V m c main_v0 : FVec Ideal S1024x128 .f32) (extf .f32 (truncf .bf16 (V m c main_v0 : FVec Ideal S1024x128 .f32) bitsLt_bf16_f32 : FVec Ideal S1024x128 .bf16) bitsLt_bf16_f32)) bitsLt_bf16_f32 : FVec Ideal S1024x128 .bf16) := by
    simp only [V, hostOps0, hostOps0_1, hostOps0_2, hostOps0_3, hostOps0_4, List.flatten_cons, List.flatten_nil, List.append_nil,
      List.cons_append, List.nil_append, StableHlo.TRef.unary, StableHlo.TRef.binary]
    after_results
  rw [h, ← V_v0 m c k l]
  rfl

theorem V_v6 (l : Fin 128) : V m c main_v6 (ValueIdx.ix2 0 l) = padB m c l := by
  have h : V m c main_v6 = shapeCast S1x128 (V m c main_v5 : FVec Ideal S128 .f32) shapeCasts_S128_S1x128 := by
    simp only [V, hostOps0, hostOps0_1, hostOps0_2, hostOps0_3, hostOps0_4, List.flatten_cons, List.flatten_nil, List.append_nil,
      List.cons_append, List.nil_append, StableHlo.TRef.unary, StableHlo.TRef.binary]
    after_results
    rfl
  rw [h, ← V_v5 m c l]
  refine shapeCast_apply _ _ _ _ ?_
  have h1 : (S128.rowMajor (ValueIdx.ix1 l)).val = l.val := Shape.rowMajor_val_one _
  rw [Shape.rowMajor_val_two]
  refine h1.trans ?_
  show l.val = 0 * 128 + l.val
  omega

end Cert.RouterBlock

end
-- ==== Proof.RouterOut.lean ====
/- What one grid point stores in the last two results, from the blocks it reads. -/
module

public import proofs.«01_k».proof.Proof.RouterPay
public import proofs.«01_k».proof.Proof.RouterReal

@[expose] public section

noncomputable section

namespace Cert.RouterOut

open Idealize.ShloMosaic Idealize.ShloMosaic.TcCoe
open Cert.RouterIdeal Cert.RouterIdeal.Gen Cert.Norm Cert.RouterTop Cert.RouterPay Cert.RouterReal Cert.OutProjBlock

variable (x0 : Vec Ideal S512x1024 .f32) (x1 x2 : Vec Ideal S512x384 .f32) (x3 : Vec Ideal S512x256 .f32)
  (x4 x5 : Vec Ideal S1x1024 .f32) (x6 : Vec Ideal S1024x1024 .bf16) (x7 x8 : Vec Ideal S1x1024 .f32)
  (x9 x10 : Vec Ideal S1024x128 .bf16) (x11 : Vec Ideal S1x128 .f32)

/-- The row the router reads. -/
theorem rows_at (p : Fin 512) (j : Fin 1024) :
    k0_pay5 (k0_pay3 x0 x4 x5) (k0_pay4 x1 (View.ld x6 r0_3) x2 (View.ld x6 r0_4)) x3 (View.ld x6 r0_6) x7 x8 (ix2 p j)
      = hidden (fun k => x0 (ix2 p k)) (fun k => x4 (ix2 0 k)) (fun k => x5 (ix2 0 k)) (fun k => x1 (ix2 p k)) (fun k => x2 (ix2 p k))
          (fun k => x3 (ix2 p k)) (fun k j => x6 (ix2 k j)) (fun k => x7 (ix2 0 k)) (fun k => x8 (ix2 0 k)) j :=
  Cert.OutProjBlock.rows_at x0 x1 x2 x3 x4 x5 x6 x7 x8 p j

theorem first_eq : k0_pay29 x0 x1 x2 x3 x4 x5 x6 x7 x8 x9 x10 x11 = k0_pay3 x0 x4 x5 := by
  unfold k0_pay29
  frame_out

theorem two_eq : k0_pay30 x0 x1 x2 x3 x4 x5 x6 x7 x8 x9 x10 x11 = k0_pay4 x1 (View.ld x6 r0_3) x2 (View.ld x6 r0_4) := by
  unfold k0_pay30
  frame_out

/-- The row's first part. -/
abbrev high : FVec Ideal S512x1024 .bf16 :=
  k0_pay6 (k0_pay3 x0 x4 x5) (k0_pay4 x1 (View.ld x6 r0_3) x2 (View.ld x6 r0_4)) x3 (View.ld x6 r0_6) x7 x8

/-- The row's second part. -/
abbrev rest : FVec Ideal S512x1024 .bf16 :=
  k0_pay7 (k0_pay3 x0 x4 x5) (k0_pay4 x1 (View.ld x6 r0_3) x2 (View.ld x6 r0_4)) x3 (View.ld x6 r0_6) x7 x8

theorem high_eq : k0_pay31 x0 x1 x2 x3 x4 x5 x6 x7 x8 x9 x10 x11 = high x0 x1 x2 x3 x4 x5 x6 x7 x8 := by
  unfold high
  rw [← first_eq x0 x1 x2 x3 x4 x5 x6 x7 x8 x9 x10 x11, ← two_eq x0 x1 x2 x3 x4 x5 x6 x7 x8 x9 x10 x11]
  unfold k0_pay31
  frame_out

theorem rest_eq : k0_pay32 x0 x1 x2 x3 x4 x5 x6 x7 x8 x9 x10 x11 = rest x0 x1 x2 x3 x4 x5 x6 x7 x8 := by
  unfold rest
  rw [← first_eq x0 x1 x2 x3 x4 x5 x6 x7 x8 x9 x10 x11, ← two_eq x0 x1 x2 x3 x4 x5 x6 x7 x8 x9 x10 x11]
  unfold k0_pay32
  frame_out

theorem lanes_eq : k0_pay33 x0 x1 x2 x3 x4 x5 x6 x7 x8 x9 x10 x11 = k0_pay9 (F := Ideal) := by
  unfold k0_pay33
  rfl

theorem peak0_eq : k0_pay34 x0 x1 x2 x3 x4 x5 x6 x7 x8 x9 x10 x11
    = k0_pay10 (high x0 x1 x2 x3 x4 x5 x6 x7 x8) (rest x0 x1 x2 x3 x4 x5 x6 x7 x8) x9 x9 x10 x11 := by
  rw [← high_eq x0 x1 x2 x3 x4 x5 x6 x7 x8 x9 x10 x11, ← rest_eq x0 x1 x2 x3 x4 x5 x6 x7 x8 x9 x10 x11]
  unfold k0_pay34
  frame_out

theorem peak1_eq : k0_pay35 x0 x1 x2 x3 x4 x5 x6 x7 x8 x9 x10 x11
    = k0_pay13 (high x0 x1 x2 x3 x4 x5 x6 x7 x8) (rest x0 x1 x2 x3 x4 x5 x6 x7 x8) x9 x9 x10 x11 := by
  rw [← high_eq x0 x1 x2 x3 x4 x5 x6 x7 x8 x9 x10 x11, ← rest_eq x0 x1 x2 x3 x4 x5 x6 x7 x8 x9 x10 x11]
  unfold k0_pay35
  frame_out

theorem drop1_eq : k0_pay36 x0 x1 x2 x3 x4 x5 x6 x7 x8 x9 x10 x11
    = k0_pay15 (high x0 x1 x2 x3 x4 x5 x6 x7 x8) (rest x0 x1 x2 x3 x4 x5 x6 x7 x8) x9 x9 x10 x11 := by
  rw [← high_eq x0 x1 x2 x3 x4 x5 x6 x7 x8 x9 x10 x11, ← rest_eq x0 x1 x2 x3 x4 x5 x6 x7 x8 x9 x10 x11]
  unfold k0_pay36
  frame_out

theorem peak2_eq : k0_pay37 x0 x1 x2 x3 x4 x5 x6 x7 x8 x9 x10 x11
    = k0_pay16 (high x0 x1 x2 x3 x4 x5 x6 x7 x8) (rest x0 x1 x2 x3 x4 x5 x6 x7 x8) x9 x9 x10 x11 := by
  rw [← high_eq x0 x1 x2 x3 x4 x5 x6 x7 x8 x9 x10 x11, ← rest_eq x0 x1 x2 x3 x4 x5 x6 x7 x8 x9 x10 x11]
  unfold k0_pay37
  frame_out

/-- The stored gates, over the values stated apart. -/
def gatesOf (n z : FVec Ideal S512x128 .f32) (y0 y1 : FVec Ideal S512x1 .f32) (y2 : FVec Ideal S512 .f32) : FVec Ideal S512x128 .f32 :=
  k0_pay1 n (k0_pay24 y0 y2) (k0_pay25 n y0 z y2) (k0_pay26 n y0 y1 z y2) (k0_pay28 n y0 y1 z y2)

theorem out14_eq : out0_14 x0 x1 x2 x3 x4 x5 x6 x7 x8 x9 x10 x11
    = gatesOf (k0_pay33 x0 x1 x2 x3 x4 x5 x6 x7 x8 x9 x10 x11) (k0_pay36 x0 x1 x2 x3 x4 x5 x6 x7 x8 x9 x10 x11)
        (k0_pay34 x0 x1 x2 x3 x4 x5 x6 x7 x8 x9 x10 x11) (k0_pay35 x0 x1 x2 x3 x4 x5 x6 x7 x8 x9 x10 x11)
        (k0_pay37 x0 x1 x2 x3 x4 x5 x6 x7 x8 x9 x10 x11) := by
  unfold gatesOf
  frame_out

/-- The stored experts, over the values stated apart. -/
def expertsOf (n z : FVec Ideal S512x128 .f32) (y : FVec Ideal S512 .f32) (a b : FVec Ideal S512x1 .f32) : IVec S512x128 32 :=
  k0_pay2 n b (k0_pay18 n z y) (k0_pay21 n z y) (k0_pay27 n a)

theorem out15_eq : out0_15 x0 x1 x2 x3 x4 x5 x6 x7 x8 x9 x10 x11
    = expertsOf (k0_pay33 x0 x1 x2 x3 x4 x5 x6 x7 x8 x9 x10 x11) (k0_pay36 x0 x1 x2 x3 x4 x5 x6 x7 x8 x9 x10 x11)
        (k0_pay37 x0 x1 x2 x3 x4 x5 x6 x7 x8 x9 x10 x11)
        (k0_pay11 (k0_pay31 x0 x1 x2 x3 x4 x5 x6 x7 x8 x9 x10 x11) (k0_pay32 x0 x1 x2 x3 x4 x5 x6 x7 x8 x9 x10 x11) x9 x9 x10 x11)
        (k0_pay14 (k0_pay31 x0 x1 x2 x3 x4 x5 x6 x7 x8 x9 x10 x11) (k0_pay32 x0 x1 x2 x3 x4 x5 x6 x7 x8 x9 x10 x11) x9 x9 x10 x11) := by
  unfold expertsOf
  frame_out

theorem high_at (p : Fin 512) (j : Fin 1024) : high x0 x1 x2 x3 x4 x5 x6 x7 x8 (ix2 p j)
    = hidden (fun k => x0 (ix2 p k)) (fun k => x4 (ix2 0 k)) (fun k => x5 (ix2 0 k)) (fun k => x1 (ix2 p k)) (fun k => x2 (ix2 p k))
          (fun k => x3 (ix2 p k)) (fun k j => x6 (ix2 k j)) (fun k => x7 (ix2 0 k)) (fun k => x8 (ix2 0 k)) j :=
  rows_at x0 x1 x2 x3 x4 x5 x6 x7 x8 p j

theorem rest_at (p : Fin 512) (j : Fin 1024) : rest x0 x1 x2 x3 x4 x5 x6 x7 x8 (ix2 p j)
    = high x0 x1 x2 x3 x4 x5 x6 x7 x8 (ix2 p j) - high x0 x1 x2 x3 x4 x5 x6 x7 x8 (ix2 p j) := rfl

variable (p : Fin 512) (h : Fin 1024 → EReal)
  (hh : ∀ j, hidden (fun k => x0 (ix2 p k)) (fun k => x4 (ix2 0 k)) (fun k => x5 (ix2 0 k)) (fun k => x1 (ix2 p k)) (fun k => x2 (ix2 p k))
          (fun k => x3 (ix2 p k)) (fun k j => x6 (ix2 k j)) (fun k => x7 (ix2 0 k)) (fun k => x8 (ix2 0 k)) j = h j)
  (w : Fin 1024 → Fin 128 → EReal) (hw : ∀ k l, x9 (ix2 k l) = w k l) (hw' : ∀ k l, x10 (ix2 k l) = w k l - w k l)
  (b : Fin 128 → EReal) (hb : ∀ l, x11 (ix2 0 l) = b l)

include hh hw hw' hb

theorem scores (l : Fin 128) :
    k0_pay8 (high x0 x1 x2 x3 x4 x5 x6 x7 x8) (rest x0 x1 x2 x3 x4 x5 x6 x7 x8) x9 x9 x10 x11 (ix2 p l) = split h (fun k => w k l) (b l) := by
  rw [logits_at]
  unfold split
  simp only [rest_at, high_at, hh, hw, hw', hb]

/-- The gates of a row. -/
theorem gates_row (l : Fin 128) : out0_14 x0 x1 x2 x3 x4 x5 x6 x7 x8 x9 x10 x11 (ix2 p l)
    = (fun f : Fin 128 → EReal => shares (peak f) (peak (drop f)) (peak (drop (drop f))) (peak (drop (drop (drop f)))) l)
        (fun l => split h (fun k => w k l) (b l)) := by
  have hs := scores x0 x1 x2 x3 x4 x5 x6 x7 x8 x9 x10 x11 p h hh w hw hw' b hb
  rw [out14_eq, lanes_eq, drop1_eq, peak0_eq, peak1_eq, peak2_eq]
  generalize high x0 x1 x2 x3 x4 x5 x6 x7 x8 = u at hs
  generalize rest x0 x1 x2 x3 x4 x5 x6 x7 x8 = v at hs
  unfold gatesOf
  rw [gates_at _ _ _ _ _ p l (lane_at p l), column_at, peak0 u v x9 x10 x11 p hs, peak1 u v x9 x10 x11 p hs, peak2 u v x9 x10 x11 p hs,
    peak3 _ _ _ p (lane_at p) (drop1 u v x9 x10 x11 p hs) (peak2 u v x9 x10 x11 p hs)]

/-- The experts of a row. -/
theorem experts_row (l : Fin 128) : out0_15 x0 x1 x2 x3 x4 x5 x6 x7 x8 x9 x10 x11 (ix2 p l)
    = (fun f : Fin 128 → EReal => Ideal.fptosi 32 (pick (place f) (place (drop f)) (place (drop (drop f))) (place (drop (drop (drop f)))) l))
        (fun l => split h (fun k => w k l) (b l)) := by
  have hs := scores x0 x1 x2 x3 x4 x5 x6 x7 x8 x9 x10 x11 p h hh w hw hw' b hb
  rw [out15_eq, lanes_eq, drop1_eq, peak2_eq, high_eq, rest_eq]
  generalize high x0 x1 x2 x3 x4 x5 x6 x7 x8 = u at hs
  generalize rest x0 x1 x2 x3 x4 x5 x6 x7 x8 = v at hs
  unfold expertsOf
  rw [experts_at _ _ _ _ _ p l (lane_at p l), place0 u v x9 x10 x11 p hs, place1 u v x9 x10 x11 p hs,
    place2 _ _ _ p (lane_at p) (drop1 u v x9 x10 x11 p hs) (peak2 u v x9 x10 x11 p hs),
    place3 _ _ _ p (lane_at p) (drop1 u v x9 x10 x11 p hs) (peak2 u v x9 x10 x11 p hs)]

end Cert.RouterOut

end
-- ==== Proof.RouterArray.lean ====
/- What the call leaves in its last two results: for every row the four largest scores' shares, and their places. -/
module

public import proofs.«01_k».proof.Proof.RouterBlock
public import proofs.«01_k».proof.Proof.RouterOut

@[expose] public section

noncomputable section

namespace Cert.RouterArray

open Idealize.ShloMosaic Idealize.ShloMosaic.TcCoe Idealize.SL.Sem
open Cert.RouterIdeal Cert.RouterIdeal.Gen Cert.Norm Cert.RouterTop Cert.RouterPay Cert.RouterReal Cert.RouterBlock

variable (m : (ℓ : Loc nD τ sig) → Buf (Elt Ideal) ℓ) (c : Dev nD)

/-- The scores of row `r`, from the row and the matrix each split in two. -/
def scores (r : Fin 32768) (l : Fin 128) : EReal := split (value m c r) (fun k => padW m c k l) (padB m c l)

/-- The shares of the four largest entries. -/
def gates (f : Fin 128 → EReal) (l : Fin 128) : EReal :=
  shares (peak f) (peak (drop f)) (peak (drop (drop f))) (peak (drop (drop (drop f)))) l

/-- The places of the four largest entries. -/
def experts (f : Fin 128 → EReal) (l : Fin 128) : BitVec 32 :=
  Ideal.fptosi 32 (pick (place f) (place (drop f)) (place (drop (drop f))) (place (drop (drop (drop f)))) l)

/-- The third result. -/
def whole14 (i : S32768x128.Idx) : EReal := gates (scores m c (i 0)) (i 1)

/-- The fourth result. -/
def whole15 (i : S32768x128.Idx) : BitVec 32 := experts (scores m c (i 0)) (i 1)

theorem emb14 (t : Fin cfg0.N) (p : Fin 512) (j : Fin 128) :
    ((cfg0.win 14).blk t).view.emb (ix2 p j) = ValueIdx.ix2 (n0 := 32768) (n1 := 128) (row t p) j := by
  refine (funext fun a => Fin.ext ?_)
  refine (Pipeline.Window.rect_emb_val (cfg0.win 14) t (ix2 p j) a).trans ?_
  rw [index14]
  match a with
  | ⟨0, _⟩ => rfl
  | ⟨1, _⟩ => show 0 * 128 + j.val = j.val; omega

theorem at14 (t : Fin cfg0.N) (p : Fin 512) (j : Fin 128) :
    out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 p j)
      = whole14 m c (ValueIdx.ix2 (row t p) j) :=
  RouterOut.gates_row _ _ _ _ _ _ _ _ _ _ _ _ p (value m c (row t p)) (fun j => hidden_value m c t p j)
    (fun k l => padW m c k l) (fun k l => (blk9 m c t k l).trans (V_v1 m c k l)) (fun k l => (blk10 m c t k l).trans (V_v4 m c k l))
    (fun l => padB m c l) (fun l => (blk11 m c t l).trans (V_v6 m c l)) j

theorem point14 (t : Fin cfg0.N) (y : S512x128.Idx) :
    out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y
      = whole14 m c (((cfg0.win 14).blk t).view.emb y) := by
  rw [eq_ix2 (n0 := 512) (n1 := 128) y]
  exact (at14 m c t (y 0) (y 1)).trans (congrArg (whole14 m c) (emb14 t (y 0) (y 1)).symm)

theorem covered14 (i : S32768x128.Idx) :
    ∃ t : Fin cfg0.N, (cfg0.win 14).flush t = true ∧ i ∈ ((cfg0.win 14).blk t).view.set := by
  have hr : (i 0).val < 32768 := (i 0).isLt
  have hlt : (i 0).val / 512 < cfg0.N := by show _ < 64; omega
  refine ⟨⟨(i 0).val / 512, hlt⟩, flush0_14 _, ?_⟩
  have h2 : ((cfg0.win 14).blk ⟨(i 0).val / 512, hlt⟩).view.emb (ix2 ⟨(i 0).val % 512, by omega⟩ (i 1)) = i := by
    refine (emb14 ⟨(i 0).val / 512, hlt⟩ ⟨(i 0).val % 512, by omega⟩ (i 1)).trans (funext fun a => ?_)
    match a with
    | ⟨0, _⟩ => exact Fin.ext (by show (i 0).val / 512 * 512 + (i 0).val % 512 = (i 0).val; omega)
    | ⟨1, _⟩ => rfl
  have h3 := View.emb_mem_set ((cfg0.win 14).blk ⟨(i 0).val / 512, hlt⟩).view (ix2 ⟨(i 0).val % 512, by omega⟩ (i 1))
  rw [h2] at h3
  exact h3

theorem array14_eq : (dats m 0 c).arrAt 14 cfg0.N = whole14 m c :=
  (dats m 0 c).arrAt_eq_of_emb 14 (whole14 m c) (fun t _ y => (congrFun (after0_14 m c t) y).trans (point14 m c t y)) covered14

theorem emb15 (t : Fin cfg0.N) (p : Fin 512) (j : Fin 128) :
    ((cfg0.win 15).blk t).view.emb (ix2 p j) = ValueIdx.ix2 (n0 := 32768) (n1 := 128) (row t p) j := by
  refine (funext fun a => Fin.ext ?_)
  refine (Pipeline.Window.rect_emb_val (cfg0.win 15) t (ix2 p j) a).trans ?_
  rw [index15]
  match a with
  | ⟨0, _⟩ => rfl
  | ⟨1, _⟩ => show 0 * 128 + j.val = j.val; omega

theorem at15 (t : Fin cfg0.N) (p : Fin 512) (j : Fin 128) :
    out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 p j)
      = whole15 m c (ValueIdx.ix2 (row t p) j) :=
  RouterOut.experts_row _ _ _ _ _ _ _ _ _ _ _ _ p (value m c (row t p)) (fun j => hidden_value m c t p j)
    (fun k l => padW m c k l) (fun k l => (blk9 m c t k l).trans (V_v1 m c k l)) (fun k l => (blk10 m c t k l).trans (V_v4 m c k l))
    (fun l => padB m c l) (fun l => (blk11 m c t l).trans (V_v6 m c l)) j

theorem point15 (t : Fin cfg0.N) (y : S512x128.Idx) :
    out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y
      = whole15 m c (((cfg0.win 15).blk t).view.emb y) := by
  rw [eq_ix2 (n0 := 512) (n1 := 128) y]
  exact (at15 m c t (y 0) (y 1)).trans (congrArg (whole15 m c) (emb15 t (y 0) (y 1)).symm)

theorem covered15 (i : S32768x128.Idx) :
    ∃ t : Fin cfg0.N, (cfg0.win 15).flush t = true ∧ i ∈ ((cfg0.win 15).blk t).view.set := by
  have hr : (i 0).val < 32768 := (i 0).isLt
  have hlt : (i 0).val / 512 < cfg0.N := by show _ < 64; omega
  refine ⟨⟨(i 0).val / 512, hlt⟩, flush0_15 _, ?_⟩
  have h2 : ((cfg0.win 15).blk ⟨(i 0).val / 512, hlt⟩).view.emb (ix2 ⟨(i 0).val % 512, by omega⟩ (i 1)) = i := by
    refine (emb15 ⟨(i 0).val / 512, hlt⟩ ⟨(i 0).val % 512, by omega⟩ (i 1)).trans (funext fun a => ?_)
    match a with
    | ⟨0, _⟩ => exact Fin.ext (by show (i 0).val / 512 * 512 + (i 0).val % 512 = (i 0).val; omega)
    | ⟨1, _⟩ => rfl
  have h3 := View.emb_mem_set ((cfg0.win 15).blk ⟨(i 0).val / 512, hlt⟩).view (ix2 ⟨(i 0).val % 512, by omega⟩ (i 1))
  rw [h2] at h3
  exact h3

theorem array15_eq : (dats m 0 c).arrAt 15 cfg0.N = whole15 m c :=
  (dats m 0 c).arrAt_eq_of_emb 15 (whole15 m c) (fun t _ y => (congrFun (after0_15 m c t) y).trans (point15 m c t y)) covered15

end Cert.RouterArray

end
-- ==== Proof.RouterPick.lean ====
/- The four places and shares of a row of scores, lane by lane. -/
module

public import proofs.«01_k».proof.Proof.RouterArray

@[expose] public section

noncomputable section

namespace Cert.RouterPick

open Idealize.ShloMosaic Cert.Norm Cert.RouterTop Cert.RouterPay Cert.RouterArray

theorem lit_zero : lit 0x00000000#32 = ((((0 : ℕ) : ℝ)) : EReal) := by
  simp [lit, Ideal.ofBits, Ideal.ieee]

theorem lit_one : lit 0x3F800000#32 = ((((1 : ℕ) : ℝ)) : EReal) := by
  simp [lit, Ideal.ofBits, Ideal.ieee, -EReal.coe_mul]
  norm_num

theorem lit_two : lit 0x40000000#32 = ((((2 : ℕ) : ℝ)) : EReal) := by
  simp [lit, Ideal.ofBits, Ideal.ieee, -EReal.coe_mul]
  norm_num

theorem lit_three : lit 0x40400000#32 = ((((3 : ℕ) : ℝ)) : EReal) := by
  simp [lit, Ideal.ofBits, Ideal.ieee, -EReal.coe_mul]
  norm_num

theorem num_iff (l : Fin 128) (k : ℕ) : num l = (((k : ℝ)) : EReal) ↔ l.val = k :=
  ⟨fun h => by exact_mod_cast EReal.coe_eq_coe_iff.mp h, fun h => by rw [← h]⟩

/-- The first four lanes hold the four entries, the others zero. -/
theorem pick_eq (v : Fin 4 → EReal) (l : Fin 128) :
    pick (v 0) (v 1) (v 2) (v 3) l = if h : l.val < 4 then v ⟨l.val, h⟩ else 0 := by
  have hz : (((0 : ℕ) : ℝ) : EReal) = 0 := by simp
  unfold pick
  rw [lit_three, lit_two, lit_one, lit_zero]
  simp only [num_iff]
  by_cases h3 : l.val = 3
  · rw [if_pos h3, dif_pos (by omega)]
    exact congrArg v (Fin.ext h3.symm)
  rw [if_neg h3]
  by_cases h2 : l.val = 2
  · rw [if_pos h2, dif_pos (by omega)]
    exact congrArg v (Fin.ext h2.symm)
  rw [if_neg h2]
  by_cases h1 : l.val = 1
  · rw [if_pos h1, dif_pos (by omega)]
    exact congrArg v (Fin.ext h1.symm)
  rw [if_neg h1]
  by_cases h0 : l.val = 0
  · rw [if_pos h0, dif_pos (by omega)]
    exact congrArg v (Fin.ext h0.symm)
  rw [if_neg h0, dif_neg (by omega), hz]

/-- A place as a number, as a word. -/
theorem word_num (a : Fin 128) : Ideal.fptosi 32 (num a) = BitVec.ofNat 32 a.val := by
  have hf : ⌊((a.val : ℕ) : ℝ)⌋ = (a.val : ℤ) := Int.floor_natCast a.val
  rw [Ideal.fptosi, Ideal.toIntClamped_coe, if_pos (by positivity), hf]
  have hm : max (-((2 ^ (32 - 1) : ℕ) : ℤ)) (min (((2 ^ (32 - 1) : ℕ) : ℤ) - 1) (a.val : ℤ)) = (a.val : ℤ) := by
    have := a.isLt
    norm_num
    omega
  rw [hm, BitVec.ofInt_natCast]

theorem word_zero : Ideal.fptosi 32 0 = 0#32 := by
  have h := word_num 0
  rw [show num (0 : Fin 128) = 0 by simp [num]] at h
  exact h

variable (L : Fin 32 → EReal) (s : Fin 32 → Fin 32) (hs : Function.Surjective s) (hi : Function.Injective s)
  (ho : ∀ i j : Fin 32, i < j → Ahead L (s i) (s j)) (f : Fin 128 → EReal) (hf : ∀ a, f (wide a) = L a)
  (hl : ∀ l : Fin 128, 32 ≤ l.val → ∀ a, f l < L a)

include hf hl in
theorem rest0 : Rest L s (0 : Fin 32).val f where
  kept i _ := hf _
  out i h := absurd h (Nat.not_lt_zero _)
  low := hl

include hs hi ho hf hl

theorem rest1 : Rest L s (1 : Fin 32).val (drop f) := Rest.drop hs ho hi (rest0 L s f hf hl)

theorem rest2 : Rest L s (2 : Fin 32).val (drop (drop f)) := Rest.drop hs ho hi (rest1 L s hs hi ho f hf hl)

theorem rest3 : Rest L s (3 : Fin 32).val (drop (drop (drop f))) := Rest.drop hs ho hi (rest2 L s hs hi ho f hf hl)

/-- The shares are those of the first four entries in sorted order. -/
theorem gates_eq (l : Fin 128) : gates f l
    = if h : l.val < 4 then Ideal.div (Ideal.exp (L (s ⟨l.val, by omega⟩) - L (s 0)))
        (total (L (s 0)) (L (s 1)) (L (s 2)) (L (s 3))) else 0 := by
  unfold gates
  rw [Rest.peak hs ho (rest0 L s f hf hl), Rest.peak hs ho (rest1 L s hs hi ho f hf hl), Rest.peak hs ho (rest2 L s hs hi ho f hf hl),
    Rest.peak hs ho (rest3 L s hs hi ho f hf hl)]
  unfold shares
  exact pick_eq (fun j : Fin 4 => Ideal.div (Ideal.exp (L (s ⟨j.val, by omega⟩) - L (s 0)))
    (total (L (s 0)) (L (s 1)) (L (s 2)) (L (s 3)))) l

/-- The places are those of the first four entries in sorted order. -/
theorem experts_eq (l : Fin 128) : experts f l
    = if h : l.val < 4 then BitVec.ofNat 32 (s ⟨l.val, by omega⟩).val else 0#32 := by
  unfold experts
  rw [Rest.place hs ho (rest0 L s f hf hl), Rest.place hs ho (rest1 L s hs hi ho f hf hl), Rest.place hs ho (rest2 L s hs hi ho f hf hl),
    Rest.place hs ho (rest3 L s hs hi ho f hf hl)]
  refine (congrArg (Ideal.fptosi 32) (pick_eq (fun j : Fin 4 => num (wide (s ⟨j.val, by omega⟩))) l)).trans ?_
  by_cases h : l.val < 4
  · rw [dif_pos h, dif_pos h]
    exact word_num _
  · rw [dif_neg h, dif_neg h]
    exact word_zero

end Cert.RouterPick

end
-- ==== Proof.RouterRead.lean ====
/- The reference of the router, read at an entry. -/
module

public import proofs.«01_k».proof.Proof.Gen.RouterRefIdeal.Run
public import proofs.«01_k».proof.Proof.Gen.RouterRefIdeal.Read
public import proofs.«01_k».proof.Proof.OutProjRead
public import proofs.«01_k».proof.Proof.RouterTop

@[expose] public section

noncomputable section

namespace Cert.RouterRead

open Idealize.ShloMosaic Cert.RouterRefIdeal Cert.RouterRefIdeal.Read Cert.Norm Cert.OutProjBlock Cert.RouterTop

/-- `a` before `b` in descending order. -/
abbrev above (L : Fin 32 → EReal) (a b : Fin 32) : Bool := Ideal.cmp .ogt (L a) (L b) == 1#1

/-- The places of 32 entries in descending order. -/
def order (L : Fin 32 → EReal) : Fin 32 → Fin 32 := sortedFrom (above L)

theorem above_iff (L : Fin 32 → EReal) (a b : Fin 32) : above L a b = true ↔ L b < L a := by
  unfold above Ideal.cmp
  by_cases h : L b < L a <;> simp [h]

theorem order_ahead (L : Fin 32 → EReal) (i j : Fin 32) (h : i < j) : Ahead L (order L i) (order L j) :=
  sorted_ahead L (above L) (above_iff L) h

/-- One of the first four of 32. -/
abbrev early (j : Fin 4) : Fin 32 := ⟨j.val, by omega⟩

theorem sliced (r : Fin 32768) (j : Fin 4) (a : Fin 2) :
    (fun _ : Fin 2 => 0) a + ((ix2 r j : S32768x4.Idx) a).val < S32768x32.size a := by
  match a with
  | ⟨0, _⟩ => show 0 + r.val < 32768; have := r.isLt; omega
  | ⟨1, _⟩ => show 0 + j.val < 32; have := j.isLt; omega

theorem along_at (r : Fin 32768) (l k : Fin 32) : (ix2 r l : S32768x32.Idx).along (1 : Fin 2) k = ix2 r k := by
  funext a
  match a with
  | ⟨0, _⟩ => rfl
  | ⟨1, _⟩ => rfl

/-- The place, before sorting, of the entry at `j` of every sorted row. -/
def sortedPlace (y : FVec Ideal S32768x32 .f32) (j : S32768x32.Idx) : Fin 32 :=
  sortedFrom (fun k k' => Ideal.cmp .ogt (y (j.along (1 : Fin 2) k)) (y (j.along (1 : Fin 2) k')) == 1#1) (j 1)

theorem sortedPlace_at (y : FVec Ideal S32768x32 .f32) (r : Fin 32768) (l : Fin 32) :
    sortedPlace y (ix2 r l) = order (fun l => y (ix2 r l)) l := by
  unfold sortedPlace order above
  simp only [along_at]
  rfl

/-- The entry at `j` of every sorted row. -/
def sortedRow (y : FVec Ideal S32768x32 .f32) (j : S32768x32.Idx) : EReal := y (j.along (1 : Fin 2) (sortedPlace y j))

theorem sortedRow_at (y : FVec Ideal S32768x32 .f32) (r : Fin 32768) (l : Fin 32) :
    sortedRow y (ix2 r l) = y (ix2 r (order (fun l => y (ix2 r l)) l)) := by
  unfold sortedRow
  rw [along_at, sortedPlace_at]

/-- An entry's place along its row, as a word. -/
def word (i : S32768x32.Idx) : BitVec 32 := if hd : 1 < S32768x32.rank then iotaInDim S32768x32 32 ⟨1, hd⟩ i else 0#32

theorem word_at (r : Fin 32768) (l : Fin 32) : word (ix2 r l) = BitVec.ofNat 32 l.val := by
  unfold word
  rw [dif_pos (by decide)]
  rfl

/-- The place, before sorting, of the entry at `j` of every sorted row, as a word. -/
def sortedWord (y : FVec Ideal S32768x32 .f32) (j : S32768x32.Idx) : BitVec 32 := word (j.along (1 : Fin 2) (sortedPlace y j))

theorem top_values (y : FVec Ideal S32768x32 .f32) (r : Fin 32768) (j : Fin 4) :
    (Host.topK S32768x4 1 (FloatOps.cmpfTotal (F := Ideal) .gt) y Cert.RouterRefIdeal.Gen.sliceFits_S32768x32_S32768x4).1 (ix2 r j)
      = y (ix2 r (order (fun l => y (ix2 r l)) (early j))) := by
  have hj : (fun a : Fin 2 => (⟨(fun _ => 0) a + ((ix2 r j : S32768x4.Idx) a).val, sliced r j a⟩ : Fin (S32768x32.size a)))
      = (ix2 r (early j) : S32768x32.Idx) := by
    funext a
    match a with
    | ⟨0, _⟩ => exact Fin.ext (by show 0 + r.val = r.val; omega)
    | ⟨1, _⟩ => exact Fin.ext (by show 0 + j.val = j.val; omega)
  have h : (Host.topK S32768x4 1 (FloatOps.cmpfTotal (F := Ideal) .gt) y Cert.RouterRefIdeal.Gen.sliceFits_S32768x32_S32768x4).1 (ix2 r j)
      = sortedRow y (fun a : Fin 2 => (⟨(fun _ => 0) a + ((ix2 r j : S32768x4.Idx) a).val, sliced r j a⟩ : Fin (S32768x32.size a))) := rfl
  rw [h, hj]
  exact sortedRow_at y r (early j)

theorem top_places (y : FVec Ideal S32768x32 .f32) (r : Fin 32768) (j : Fin 4) :
    (Host.topK S32768x4 1 (FloatOps.cmpfTotal (F := Ideal) .gt) y Cert.RouterRefIdeal.Gen.sliceFits_S32768x32_S32768x4).2 (ix2 r j)
      = BitVec.ofNat 32 (order (fun l => y (ix2 r l)) (early j)).val := by
  have hj : (fun a : Fin 2 => (⟨(fun _ => 0) a + ((ix2 r j : S32768x4.Idx) a).val, sliced r j a⟩ : Fin (S32768x32.size a)))
      = (ix2 r (early j) : S32768x32.Idx) := by
    funext a
    match a with
    | ⟨0, _⟩ => exact Fin.ext (by show 0 + r.val = r.val; omega)
    | ⟨1, _⟩ => exact Fin.ext (by show 0 + j.val = j.val; omega)
  have h : (Host.topK S32768x4 1 (FloatOps.cmpfTotal (F := Ideal) .gt) y Cert.RouterRefIdeal.Gen.sliceFits_S32768x32_S32768x4).2 (ix2 r j)
      = sortedWord y (fun a : Fin 2 => (⟨(fun _ => 0) a + ((ix2 r j : S32768x4.Idx) a).val, sliced r j a⟩ : Fin (S32768x32.size a))) := rfl
  rw [h, hj]
  unfold sortedWord
  rw [along_at, sortedPlace_at, word_at]

variable (x0 : (⟨S32768x1024, .f32⟩ : BufTy).Contents (Elt Ideal)) (x1 x2 : (⟨S32768x384, .f32⟩ : BufTy).Contents (Elt Ideal))
  (x3 : (⟨S32768x256, .f32⟩ : BufTy).Contents (Elt Ideal)) (x4 x5 : (⟨S1024, .f32⟩ : BufTy).Contents (Elt Ideal))
  (x6 : (⟨S1024x1024, .f32⟩ : BufTy).Contents (Elt Ideal)) (x7 x8 : (⟨S1024, .f32⟩ : BufTy).Contents (Elt Ideal))
  (x9 : (⟨S1024x32, .f32⟩ : BufTy).Contents (Elt Ideal)) (x10 : (⟨S32, .f32⟩ : BufTy).Contents (Elt Ideal))

theorem first_at (r : Fin 32768) (j : Fin 1024) : val_main_v23 (F := Ideal) x0 x4 x5 (ix2 r j)
    = normed (fun k => x0 (ix2 r k)) (fun k => x4 (ix1 k)) (fun k => x5 (ix1 k)) j := by
  unfold val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1 val_main_cst_2 val_main_cst_3
  pointwise [normed, mean, spread, Cert.Norm.lit]

theorem beside_at (r : Fin 32768) (k : Fin 1024) : val_main_v24 (F := Ideal) x1 x2 x3 (ix2 r k)
    = Cert.OutProjRead.beside (fun k => x1 (ix2 r k)) (fun k => x2 (ix2 r k)) (fun k => x3 (ix2 r k)) k := by
  unfold val_main_v24
  pointwise [Cert.OutProjRead.beside]

theorem product_at (r : Fin 32768) (j : Fin 1024) : val_main_v27 (F := Ideal) x1 x2 x3 x6 (ix2 r j)
    = three (fun k => x1 (ix2 r k)) (fun k => x2 (ix2 r k)) (fun k => x3 (ix2 r k)) (fun k => x6 (ix2 k j)) := by
  have e : val_main_v27 (F := Ideal) x1 x2 x3 x6 (ix2 r j) = ∑ k : Fin 1024, val_main_v24 (F := Ideal) x1 x2 x3 (ix2 r k) * x6 (ix2 k j) := by
    unfold val_main_v27
    generalize val_main_v24 (F := Ideal) x1 x2 x3 = y
    pointwise
  refine e.trans (Eq.trans (Finset.sum_congr rfl fun k _ => congrArg (· * _) (beside_at x1 x2 x3 r k)) ?_)
  exact Cert.OutProjRead.beside_sum _ _ _ (fun k => x6 (ix2 k j))

theorem mix_at (r : Fin 32768) (j : Fin 1024) : val_main_v28 (F := Ideal) x0 x1 x2 x3 x4 x5 x6 (ix2 r j)
    = mixRow (fun k => x0 (ix2 r k)) (fun k => x4 (ix1 k)) (fun k => x5 (ix1 k)) (fun k => x1 (ix2 r k)) (fun k => x2 (ix2 r k))
        (fun k => x3 (ix2 r k)) (fun k j => x6 (ix2 k j)) j := by
  have e : val_main_v28 (F := Ideal) x0 x1 x2 x3 x4 x5 x6 (ix2 r j)
      = lit 0x3F9837F0#32 * val_main_v23 (F := Ideal) x0 x4 x5 (ix2 r j) + val_main_v27 (F := Ideal) x1 x2 x3 x6 (ix2 r j) := by
    unfold val_main_v28 val_main_v26 val_main_v25 val_main_cst_4
    generalize val_main_v23 (F := Ideal) x0 x4 x5 = y
    generalize val_main_v27 (F := Ideal) x1 x2 x3 x6 = z
    pointwise [Cert.Norm.lit]
  exact e.trans (congrArg₂ _ (congrArg _ (first_at x0 x4 x5 r j)) (product_at x1 x2 x3 x6 r j))

/-- The row the router reads. -/
theorem row_at (r : Fin 32768) (j : Fin 1024) : val_main_v52 (F := Ideal) x0 x1 x2 x3 x4 x5 x6 x7 x8 (ix2 r j)
    = hidden (fun k => x0 (ix2 r k)) (fun k => x4 (ix1 k)) (fun k => x5 (ix1 k)) (fun k => x1 (ix2 r k)) (fun k => x2 (ix2 r k))
        (fun k => x3 (ix2 r k)) (fun k j => x6 (ix2 k j)) (fun k => x7 (ix1 k)) (fun k => x8 (ix1 k)) j := by
  have e : val_main_v52 (F := Ideal) x0 x1 x2 x3 x4 x5 x6 x7 x8 (ix2 r j)
      = normed (fun k => val_main_v28 (F := Ideal) x0 x1 x2 x3 x4 x5 x6 (ix2 r k)) (fun k => x7 (ix1 k)) (fun k => x8 (ix1 k)) j := by
    unfold val_main_v52 val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30 val_main_v29 val_main_cst_5 val_main_cst_6 val_main_cst_7 val_main_cst_8 val_main_cst_9
    generalize val_main_v28 (F := Ideal) x0 x1 x2 x3 x4 x5 x6 = y
    pointwise [normed, mean, spread, Cert.Norm.lit]
  exact e.trans (normed_congr (fun k => mix_at x0 x1 x2 x3 x4 x5 x6 r k) (fun _ => rfl) (fun _ => rfl) j)

/-- The score of row `r` for expert `l`. -/
theorem score_at (r : Fin 32768) (l : Fin 32) : val_main_v56 (F := Ideal) x0 x1 x2 x3 x4 x5 x6 x7 x8 x9 x10 (ix2 r l)
    = (∑ k : Fin 1024, hidden (fun k => x0 (ix2 r k)) (fun k => x4 (ix1 k)) (fun k => x5 (ix1 k)) (fun k => x1 (ix2 r k)) (fun k => x2 (ix2 r k))
        (fun k => x3 (ix2 r k)) (fun k j => x6 (ix2 k j)) (fun k => x7 (ix1 k)) (fun k => x8 (ix1 k)) k * x9 (ix2 k l)) + x10 (ix1 l) := by
  have e : val_main_v56 (F := Ideal) x0 x1 x2 x3 x4 x5 x6 x7 x8 x9 x10 (ix2 r l)
      = (∑ k : Fin 1024, val_main_v52 (F := Ideal) x0 x1 x2 x3 x4 x5 x6 x7 x8 (ix2 r k) * x9 (ix2 k l)) + x10 (ix1 l) := by
    unfold val_main_v56 val_main_v55 val_main_v54 val_main_v53
    generalize val_main_v52 (F := Ideal) x0 x1 x2 x3 x4 x5 x6 x7 x8 = y
    pointwise
  rw [e]
  exact congrArg (· + _) (Finset.sum_congr rfl fun k _ => congrArg (· * _) (row_at x0 x1 x2 x3 x4 x5 x6 x7 x8 r k))

/-- The four weights: the largest score is the first. -/
theorem weight_at (r : Fin 32768) (j : Fin 4) (v : Fin 4 → EReal)
    (hv : ∀ j, val_main_values (F := Ideal) x0 x1 x2 x3 x4 x5 x6 x7 x8 x9 x10 (ix2 r j) = v j) (h0 : ∀ j, v j ≤ v 0) :
    val_main_v63 (F := Ideal) x0 x1 x2 x3 x4 x5 x6 x7 x8 x9 x10 (ix2 r j) = Ideal.exp (v j - v 0) := by
  have e : val_main_v63 (F := Ideal) x0 x1 x2 x3 x4 x5 x6 x7 x8 x9 x10 (ix2 r j)
      = Ideal.exp (val_main_values (F := Ideal) x0 x1 x2 x3 x4 x5 x6 x7 x8 x9 x10 (ix2 r j) - max (lit 0xFF800000#32)
        (Finset.fold max (lit 0xFF800000#32) (fun j => val_main_values (F := Ideal) x0 x1 x2 x3 x4 x5 x6 x7 x8 x9 x10 (ix2 r j)) Finset.univ)) := by
    unfold val_main_v63 val_main_v62 val_main_v61 val_main_v60 val_main_v59 val_main_v58 val_main_v57 val_main_cst_10 val_main_cst_11
    generalize val_main_values (F := Ideal) x0 x1 x2 x3 x4 x5 x6 x7 x8 x9 x10 = y
    pointwise [Cert.Norm.lit]
  have hb : lit 0xFF800000#32 = ⊥ := by simp [Cert.Norm.lit, Ideal.ofBits, Ideal.ieee]
  have ht : Finset.fold max (⊥ : EReal) v Finset.univ = v 0 :=
    le_antisymm ((Finset.fold_max_le _).mpr ⟨bot_le, fun b _ => h0 b⟩) ((Finset.le_fold_max _).mpr (Or.inr ⟨0, Finset.mem_univ _, le_refl _⟩))
  rw [e, funext hv, hv, hb, ht, max_eq_right bot_le]

/-- The four shares. -/
theorem share_at (r : Fin 32768) (j : Fin 4) (v : Fin 4 → EReal)
    (hv : ∀ j, val_main_values (F := Ideal) x0 x1 x2 x3 x4 x5 x6 x7 x8 x9 x10 (ix2 r j) = v j) (h0 : ∀ j, v j ≤ v 0) :
    val_main_v67 (F := Ideal) x0 x1 x2 x3 x4 x5 x6 x7 x8 x9 x10 (ix2 r j)
      = Ideal.div (Ideal.exp (v j - v 0)) (Ideal.exp (v 0 - v 0) + Ideal.exp (v 1 - v 0) + Ideal.exp (v 2 - v 0) + Ideal.exp (v 3 - v 0)) := by
  have e : val_main_v67 (F := Ideal) x0 x1 x2 x3 x4 x5 x6 x7 x8 x9 x10 (ix2 r j)
      = Ideal.div (val_main_v63 (F := Ideal) x0 x1 x2 x3 x4 x5 x6 x7 x8 x9 x10 (ix2 r j))
          (∑ j : Fin 4, val_main_v63 (F := Ideal) x0 x1 x2 x3 x4 x5 x6 x7 x8 x9 x10 (ix2 r j)) := by
    unfold val_main_v67 val_main_v66 val_main_v65 val_main_v64 val_main_cst_12
    generalize val_main_v63 (F := Ideal) x0 x1 x2 x3 x4 x5 x6 x7 x8 x9 x10 = y
    pointwise [Cert.Norm.lit]
  have hw := fun j => weight_at x0 x1 x2 x3 x4 x5 x6 x7 x8 x9 x10 r j v hv h0
  rw [e, Fin.sum_univ_four, hw, hw, hw, hw, hw]

theorem gates_at (r : Fin 32768) (l : Fin 128) : val_main_v68 (F := Ideal) x0 x1 x2 x3 x4 x5 x6 x7 x8 x9 x10 (ix2 r l)
    = if h : l.val < 4 then val_main_v67 (F := Ideal) x0 x1 x2 x3 x4 x5 x6 x7 x8 x9 x10 (ix2 r ⟨l.val, h⟩) else 0 := by
  unfold val_main_v68 val_main_call0_v0 val_main_c
  generalize val_main_v67 (F := Ideal) x0 x1 x2 x3 x4 x5 x6 x7 x8 x9 x10 = y
  pointwise
  by_cases hl : l.val < 4
  · rw [dif_pos hl, dif_pos hl]
  · rw [dif_neg hl, dif_neg hl]
    show ((((0#32 : BitVec 32).toInt : ℤ) : ℝ) : EReal) = 0
    simp

theorem experts_at (r : Fin 32768) (l : Fin 128) : val_main_v69 (F := Ideal) x0 x1 x2 x3 x4 x5 x6 x7 x8 x9 x10 (ix2 r l)
    = if h : l.val < 4 then val_main_indices (F := Ideal) x0 x1 x2 x3 x4 x5 x6 x7 x8 x9 x10 (ix2 r ⟨l.val, h⟩) else 0#32 := by
  unfold val_main_v69 val_main_call1_v0 val_main_c_13
  generalize val_main_indices (F := Ideal) x0 x1 x2 x3 x4 x5 x6 x7 x8 x9 x10 = y
  pointwise
  by_cases hl : l.val < 4
  · rw [dif_pos hl, dif_pos hl]
  · rw [dif_neg hl, dif_neg hl]
    rfl

end Cert.RouterRead

end
-- ==== Proof.RouterMain.lean ====
/- The claims about the router: its frames, the reference's frame, and, where the last scale and shift and the
   router's matrix are finite and every score is above the padding value, the equality of the two pairs of results. -/
module

public import proofs.«01_k».proof.Proof.Gen.Router.Frame
public import proofs.«01_k».proof.Proof.Gen.Pre_router_in_range
public import proofs.«01_k».proof.Proof.RouterPick
public import proofs.«01_k».proof.Proof.RouterRead
public import proofs.«01_k».proof.Proof.MemAttMain
public import proofs.«01_k».proof.Defs
public import Idealize.ShloMosaic.Lib.Claim
public import Idealize.ShloMosaic.Lib.ReduceAll

@[expose] public section

noncomputable section

namespace Cert.RouterMain

open Idealize.ShloMosaic Idealize.ShloMosaic.TcCoe Idealize.SL.Sem
open Cert.MemAttMath (IsReal)
open Cert.MemAttMain (both_one real_of_abs_lt)

theorem frame_p : Cert.quiescent_Router := fun m g _ => Cert.Router.Gen.frame m g

theorem frame_pi : Cert.quiescent_RouterIdeal := fun m g _ => Cert.RouterIdeal.Gen.frame m g

theorem frame_pi_pre : Cert.quiescent_RouterIdeal_pre_router_in_range := fun m g _ => Cert.RouterIdeal.Gen.frame m g

theorem frame_ri : Cert.quiescent_RouterRefIdeal := fun m g _ =>
  (θ_run Cert.RouterRefIdeal.defs _ _).mono (fun r h => ⟨fun c => (h c).2.2, sem_eq_zero_of_no_sems (by decide) r.2⟩)
    (Cert.RouterRefIdeal.Value.run (F := Ideal) m g)

theorem frame_ri_pre : Cert.quiescent_RouterRefIdeal_pre_router_in_range := fun m g _ => frame_ri m g trivial

section Range

open Cert.RouterRefIdeal Cert.RouterRefIdeal.Read

variable (x0 : (⟨S32768x1024, .f32⟩ : BufTy).Contents (Elt Ideal)) (x1 x2 : (⟨S32768x384, .f32⟩ : BufTy).Contents (Elt Ideal))
  (x3 : (⟨S32768x256, .f32⟩ : BufTy).Contents (Elt Ideal)) (x4 x5 : (⟨S1024, .f32⟩ : BufTy).Contents (Elt Ideal))
  (x6 : (⟨S1024x1024, .f32⟩ : BufTy).Contents (Elt Ideal)) (x7 x8 : (⟨S1024, .f32⟩ : BufTy).Contents (Elt Ideal))
  (x9 : (⟨S1024x32, .f32⟩ : BufTy).Contents (Elt Ideal)) (x10 : (⟨S32, .f32⟩ : BufTy).Contents (Elt Ideal))

/-- What the printed predicate says: the entries of the last scale and shift and of the router's matrix are real, and the scores exceed the padding value. -/
structure InRange : Prop where
  scale : ∀ y, IsReal (x7 y)
  shift : ∀ y, IsReal (x8 y)
  matrix : ∀ y, IsReal (x9 y)
  above : ∀ y, Cert.Norm.lit 0xF149F2CA#32 < val_main_v56 (F := Ideal) x0 x1 x2 x3 x4 x5 x6 x7 x8 x9 x10 y

theorem lt_of_cmp {a b : EReal} (h : Ideal.cmp .ogt a b = 1#1) : b < a := by
  by_contra hn
  unfold Ideal.cmp at h
  rw [show decide (b < a) = false from decide_eq_false hn] at h
  dsimp only at h
  exact absurd h (by decide)

theorem in_range (h : Pre_router_in_range.fn (F := Ideal) x0 x1 x2 x3 x4 x5 x6 x7 x8 x9 x10 = fun _ => 1#1) :
    InRange x0 x1 x2 x3 x4 x5 x6 x7 x8 x9 x10 := by
  have e := congrFun h (fun a => a.elim0)
  unfold Pre_router_in_range.fn Pre_router_in_range.fn_part1 Pre_router_in_range.fn_part2 Pre_router_in_range.fn_part3 at e
  haveI : Subsingleton Pre_router_in_range.S_.Idx := ⟨fun a b => funext fun k => k.elim0⟩
  obtain ⟨e, e3⟩ := both_one _ _ e
  obtain ⟨e, e2⟩ := both_one _ _ e
  obtain ⟨e0, e1⟩ := both_one _ _ e
  exact ⟨fun y => real_of_abs_lt _ (Host.reduce_andi_all _ _ _ _ _ e0 y), fun y => real_of_abs_lt _ (Host.reduce_andi_all _ _ _ _ _ e1 y),
    fun y => real_of_abs_lt _ (Host.reduce_andi_all _ _ _ _ _ e2 y), fun y => lt_of_cmp (Host.reduce_andi_all _ _ _ _ _ e3 y)⟩

end Range

section Value

open Cert.RouterIdeal Cert.RouterIdeal.Gen Cert.RouterTop Cert.RouterBlock Cert.RouterArray Cert.RouterReal
open Cert.RouterRefIdeal.Read (val_main_v56 val_main_values val_main_indices val_main_v67 val_main_v68 val_main_v69)

variable (m : (ℓ : Loc nD τ sig) → Buf (Elt Ideal) ℓ)

/-- What the call ends with in its last two results, and its arguments. -/
theorem run_value (g : Dev nD → PrngReg) :
    θ_run defs (onTc (τ := τ) (main (F := Ideal))) ⟨m, fun _ => 0, g⟩ (fun r => ∀ c : Dev nD,
      r.2.mem ((c.tc : Thread nD τ).loc main_v12_2) = whole14 m c
      ∧ r.2.mem ((c.tc : Thread nD τ).loc main_v12_3) = whole15 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono
    (fun r h c => ⟨((h.1 c).1 14).trans (array14_eq m c), ((h.1 c).1 15).trans (array15_eq m c), h.2 c⟩)
    (θ_run_and (run_main m g) (unchanged m g))

variable (c : Dev nD)

/-- The arguments of this memory are in range. -/
abbrev Ranged : Prop := InRange (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4))
  (m ((c.tc : Thread nD τ).loc main_arg5)) (m ((c.tc : Thread nD τ).loc main_arg6)) (m ((c.tc : Thread nD τ).loc main_arg7))
  (m ((c.tc : Thread nD τ).loc main_arg8)) (m ((c.tc : Thread nD τ).loc main_arg9)) (m ((c.tc : Thread nD τ).loc main_arg10))

/-- The reference's score of row `r` for expert `l`. -/
def score (r : Fin 32768) (l : Fin 32) : EReal :=
  val_main_v56 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10))
    (ValueIdx.ix2 r l)

theorem value_real (h : Ranged m c) (r : Fin 32768) (j : Fin 1024) : IsReal (value m c r j) :=
  hidden_real _ _ _ _ _ _ _ _ _ (fun k => h.scale _) (fun k => h.shift _) j

theorem scores_early (h : Ranged m c) (r : Fin 32768) (a : Fin 32) : scores m c r (wide a) = score m c r a := by
  have hw : ∀ k, padW m c k (wide a) = m ((c.tc : Thread nD τ).loc main_arg9) (ValueIdx.ix2 k a) := fun k => dif_pos a.isLt
  have hb : padB m c (wide a) = m ((c.tc : Thread nD τ).loc main_arg10) (ValueIdx.ix1 a) := dif_pos a.isLt
  unfold scores
  rw [split_eq _ _ _ (value_real m c h r) (fun k => by rw [hw]; exact h.matrix _), hb]
  refine Eq.trans (congrArg (· + _) (Finset.sum_congr rfl fun k _ => congrArg (_ * ·) (hw k))) ?_
  exact (RouterRead.score_at _ _ _ _ _ _ _ _ _ _ _ r a).symm

theorem scores_late (r : Fin 32768) (l : Fin 128) (hl : 32 ≤ l.val) : scores m c r l = Cert.Norm.lit 0xF149F2CA#32 := by
  unfold scores
  rw [split_zero _ _ _ (fun k => dif_neg (by omega))]
  exact dif_neg (by omega)

theorem gates_ref (h : Ranged m c) (r : Fin 32768) (l : Fin 128) :
    val_main_v68 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      (ValueIdx.ix2 r l) = gates (scores m c r) l := by
  have ho := RouterRead.order_ahead (score m c r)
  rw [RouterPick.gates_eq (score m c r) (RouterRead.order (score m c r)) (sortedFrom_surjective _) (sortedFrom_injective _) ho
    (scores m c r) (scores_early m c h r) (fun l hl a => by rw [scores_late m c r l hl]; exact h.above _) l]
  refine (RouterRead.gates_at _ _ _ _ _ _ _ _ _ _ _ r l).trans ?_
  by_cases hl : l.val < 4
  · rw [dif_pos hl, dif_pos hl]
    refine RouterRead.share_at _ _ _ _ _ _ _ _ _ _ _ r ⟨l.val, hl⟩
      (fun j => score m c r (RouterRead.order (score m c r) (RouterRead.early j))) (fun j => ?_) (fun j => ?_)
    · exact RouterRead.top_values _ r j
    · by_cases hj : j = 0
      · rw [hj]
      · have hlt : RouterRead.early 0 < RouterRead.early j := by
          show 0 < j.val
          have : j.val ≠ 0 := fun k => hj (Fin.ext k)
          omega
        rcases ho _ _ hlt with k | ⟨k, _⟩
        · exact le_of_lt k
        · exact le_of_eq k
  · rw [dif_neg hl, dif_neg hl]

theorem experts_ref (h : Ranged m c) (r : Fin 32768) (l : Fin 128) :
    val_main_v69 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      (ValueIdx.ix2 r l) = experts (scores m c r) l := by
  rw [RouterPick.experts_eq (score m c r) (RouterRead.order (score m c r)) (sortedFrom_surjective _) (sortedFrom_injective _)
    (RouterRead.order_ahead (score m c r)) (scores m c r) (scores_early m c h r)
    (fun l hl a => by rw [scores_late m c r l hl]; exact h.above _) l]
  refine (RouterRead.experts_at _ _ _ _ _ _ _ _ _ _ _ r l).trans ?_
  by_cases hl : l.val < 4
  · rw [dif_pos hl, dif_pos hl]
    exact RouterRead.top_places _ r ⟨l.val, hl⟩
  · rw [dif_neg hl, dif_neg hl]

theorem two_axes (i : S32768x128.Idx) : i = ValueIdx.ix2 (n0 := 32768) (n1 := 128) (i 0) (i 1) := by
  funext a
  match a with
  | ⟨0, _⟩ => rfl
  | ⟨1, _⟩ => rfl

end Value

/-- Both programs end with the kernel's arrays and leave their arguments as they were. -/
theorem algebraic : Cert.algebraic_RouterIdeal_RouterRefIdeal_pre_router_in_range := by
  intro m g m' g' hpre hagree
  refine ⟨fun c => RouterArray.whole14 m c, fun c => RouterArray.whole15 m c, run_value m g, ?_⟩
  have hr : Ranged m (0 : Fin 1) := in_range _ _ _ _ _ _ _ _ _ _ _ (hpre (0 : Fin 1))
  refine (θ_run Cert.RouterRefIdeal.defs _ _).mono (fun r h c => ⟨(h c).1.trans ?_, (h c).2.1.trans ?_, (h c).2.2⟩)
    (Cert.RouterRefIdeal.Value.run (F := Ideal) m' g')
  · obtain rfl : c = (0 : Fin 1) := Subsingleton.elim _ _
    refine (RouterRefIdeal.Read.val_main_v68_eq m' _).trans ?_
    obtain ⟨h0, h1, h2, h3, h4, h5, h6, h7, h8, h9, h10⟩ := hagree (0 : Fin 1)
    rw [h0, h1, h2, h3, h4, h5, h6, h7, h8, h9, h10]
    funext i
    exact (congrArg _ (two_axes i)).trans (gates_ref m 0 hr (i 0) (i 1))
  · obtain rfl : c = (0 : Fin 1) := Subsingleton.elim _ _
    refine (RouterRefIdeal.Read.val_main_v69_eq m' _).trans ?_
    obtain ⟨h0, h1, h2, h3, h4, h5, h6, h7, h8, h9, h10⟩ := hagree (0 : Fin 1)
    rw [h0, h1, h2, h3, h4, h5, h6, h7, h8, h9, h10]
    funext i
    exact (congrArg _ (two_axes i)).trans (experts_ref m 0 hr (i 0) (i 1))

end Cert.RouterMain

end
-- ==== Proof.lean ====
/- The claims, assembled: each is proved in a module of its own under Proof/. -/
module

public import proofs.«01_k».proof.Defs
public import proofs.«01_k».proof.Proof.Gen.Experts
public import proofs.«01_k».proof.Proof.Gen.Experts.Skeleton
public import proofs.«01_k».proof.Proof.Gen.Experts.Launch
public import proofs.«01_k».proof.Proof.Gen.Experts.Points
public import proofs.«01_k».proof.Proof.Gen.Experts.Frame
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsIdeal.Points
public import proofs.«01_k».proof.Proof.Gen.ExpertsIdeal.Frame
public import proofs.«01_k».proof.Proof.Gen.ExpertsRefIdeal
public import proofs.«01_k».proof.Proof.Gen.Pre_experts_in_range
public import proofs.«01_k».proof.Proof.Gen.ExpertsRefIdeal.Run
public import proofs.«01_k».proof.Proof.Gen.ExpertsRefIdeal.Read
public import proofs.«01_k».proof.Proof.Gen.InProj.Frame
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.Combine.Frame
public import proofs.«01_k».proof.Proof.Gen.CombineIdeal.Frame
public import proofs.«01_k».proof.Proof.Gen.CombineIdeal.Value
public import proofs.«01_k».proof.Proof.Gen.CombineRefIdeal
public import proofs.«01_k».proof.Proof.Gen.CombineRefIdeal.Run
public import proofs.«01_k».proof.Proof.Gen.CombineRefIdeal.Read
public import proofs.«01_k».proof.Proof.Gen.OutProj.Frame
public import proofs.«01_k».proof.Proof.Gen.OutProjIdeal.Frame
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Gen.MemAtt.Frame
public import proofs.«01_k».proof.Proof.Gen.MemAttIdeal.Frame
public import proofs.«01_k».proof.Proof.Gen.MemAttIdeal.Value
public import proofs.«01_k».proof.Proof.Gen.MemAttRefIdeal
public import proofs.«01_k».proof.Proof.Gen.Pre_mem_finite
public import proofs.«01_k».proof.Proof.Gen.MemAttRefIdeal.Run
public import proofs.«01_k».proof.Proof.Gen.MemAttRefIdeal.Read
public import proofs.«01_k».proof.Proof.Gen.Router.Frame
public import proofs.«01_k».proof.Proof.Gen.RouterIdeal.Frame
public import proofs.«01_k».proof.Proof.Gen.RouterRefIdeal
public import proofs.«01_k».proof.Proof.Gen.RouterRefIdeal.Run
public import proofs.«01_k».proof.Proof.Gen.RouterRefIdeal.Read
public import proofs.«01_k».proof.Proof.Gen.Pre_router_in_range
public import proofs.«01_k».proof.Proof.ExpertsMain
public import proofs.«01_k».proof.Proof.InProjMain
public import proofs.«01_k».proof.Proof.CombineMain
public import proofs.«01_k».proof.Proof.OutProjMain
public import proofs.«01_k».proof.Proof.MemAttMain
public import proofs.«01_k».proof.Proof.RouterMain
public import Idealize.ShloMosaic.Adequacy
public import Idealize.ShloMosaic.Init

@[expose] public section

noncomputable section

namespace Cert.Proof

open Idealize.ShloMosaic Idealize.SL.Sem Cert.Experts

theorem claim : Cert.Claim := ⟨Cert.Experts.Gen.facts, Cert.ExpertsIdeal.Gen.facts, Cert.ExpertsRefIdeal.Gen.facts, Cert.InProj.Gen.facts, Cert.InProjIdeal.Gen.facts, Cert.InProjRefIdeal.Gen.facts, Cert.Combine.Gen.facts, Cert.CombineIdeal.Gen.facts, Cert.CombineRefIdeal.Gen.facts, Cert.OutProj.Gen.facts, Cert.OutProjIdeal.Gen.facts, Cert.OutProjRefIdeal.Gen.facts, Cert.MemAtt.Gen.facts, Cert.MemAttIdeal.Gen.facts, Cert.MemAttRefIdeal.Gen.facts, Cert.Router.Gen.facts, Cert.RouterIdeal.Gen.facts, Cert.RouterRefIdeal.Gen.facts, Cert.Pre_experts_in_range.Gen.facts, Cert.Pre_mem_finite.Gen.facts, Cert.Pre_router_in_range.Gen.facts,
  ExpertsMain.frame_p, ExpertsMain.frame_pi, ExpertsMain.frame_ri,
  InProjMain.frame_p, InProjMain.frame_pi, InProjMain.frame_ri,
  CombineMain.frame_p, CombineMain.frame_pi, CombineMain.frame_ri,
  OutProjMain.frame_p, OutProjMain.frame_pi, OutProjMain.frame_ri,
  MemAttMain.frame_p, MemAttMain.frame_pi, MemAttMain.frame_pi_finite, MemAttMain.frame_ri, MemAttMain.frame_ri_finite,
  RouterMain.frame_p, RouterMain.frame_pi, RouterMain.frame_pi_pre, RouterMain.frame_ri, RouterMain.frame_ri_pre,
  trivial, ExpertsMain.algebraic, trivial, InProjMain.algebraic, trivial, CombineMain.algebraic, trivial, OutProjMain.algebraic,
  trivial, MemAttMain.algebraic, trivial, RouterMain.algebraic⟩

end Cert.Proof

end
